-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "score_log2e" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_4)) (v5 : (c : Dev Cert.KernelIdeal.nD) → Buf (Elt Ideal) ((c.tc : Thread Cert.KernelIdeal.nD Cert.KernelIdeal.τ).loc Cert.KernelIdeal.main_v25_5)) (v6 : (c : Dev Cert.KernelIdeal.nD) → Buf (Elt Ideal) ((c.tc : Thread Cert.KernelIdeal.nD Cert.KernelIdeal.τ).loc Cert.KernelIdeal.main_v25_6)) (v7 : (c : Dev Cert.KernelIdeal.nD) → Buf (Elt Ideal) ((c.tc : Thread Cert.KernelIdeal.nD Cert.KernelIdeal.τ).loc Cert.KernelIdeal.main_v25_7)) (v8 : (c : Dev Cert.KernelIdeal.nD) → Buf (Elt Ideal) ((c.tc : Thread Cert.KernelIdeal.nD Cert.KernelIdeal.τ).loc Cert.KernelIdeal.main_v25_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_4) = v4 c
          ∧ r.2.mem ((c.tc : Thread Cert.KernelIdeal.nD Cert.KernelIdeal.τ).loc Cert.KernelIdeal.main_v25_5) = v5 c
          ∧ r.2.mem ((c.tc : Thread Cert.KernelIdeal.nD Cert.KernelIdeal.τ).loc Cert.KernelIdeal.main_v25_6) = v6 c
          ∧ r.2.mem ((c.tc : Thread Cert.KernelIdeal.nD Cert.KernelIdeal.τ).loc Cert.KernelIdeal.main_v25_7) = v7 c
          ∧ r.2.mem ((c.tc : Thread Cert.KernelIdeal.nD Cert.KernelIdeal.τ).loc Cert.KernelIdeal.main_v25_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_v185) = v3 c
          ∧ r.2.mem ((c.tc : Thread Cert.ReferenceIdeal.nD Cert.ReferenceIdeal.τ).loc Cert.ReferenceIdeal.main_v186) = v4 c
          ∧ r.2.mem ((c.tc : Thread Cert.ReferenceIdeal.nD Cert.ReferenceIdeal.τ).loc Cert.ReferenceIdeal.main_v188) = v5 c
          ∧ r.2.mem ((c.tc : Thread Cert.ReferenceIdeal.nD Cert.ReferenceIdeal.τ).loc Cert.ReferenceIdeal.main_v190) = v6 c
          ∧ r.2.mem ((c.tc : Thread Cert.ReferenceIdeal.nD Cert.ReferenceIdeal.τ).loc Cert.ReferenceIdeal.main_v192) = v7 c
          ∧ r.2.mem ((c.tc : Thread Cert.ReferenceIdeal.nD Cert.ReferenceIdeal.τ).loc Cert.ReferenceIdeal.main_v194) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x768x45x64 : Shape := ⟨4, ![2, 768, 45, 64]⟩
abbrev S2x768x5x64 : Shape := ⟨4, ![2, 768, 5, 64]⟩
abbrev S2 : Shape := ⟨1, ![2]⟩
abbrev S_ : Shape := ⟨0, ![]⟩

class Facts : Prop where
  bitsLt_bf16_f32 : FTy.bits .bf16 < FTy.bits .f32
  bcast_S_S2x768x45x64 : S_.BroadcastsInDim S2x768x45x64 (![] : Fin 0 → Fin S2x768x45x64.rank)
  reducesTo_S2x768x45x64_S_d0_1_2_3 : S2x768x45x64.ReducesTo [0, 1, 2, 3] S_
  h_S_ : 0 < S_.numel
  bcast_S_S2x768x5x64 : S_.BroadcastsInDim S2x768x5x64 (![] : Fin 0 → Fin S2x768x5x64.rank)
  reducesTo_S2x768x5x64_S_d0_1_2_3 : S2x768x5x64.ReducesTo [0, 1, 2, 3] S_

variable [Facts]

def fn {F : FTy → Type} [FloatOps F] (main_arg0 : FVec F S2x768x45x64 .bf16) (main_arg1 : FVec F S2x768x5x64 .bf16) (main_arg2 : FVec F S2x768x5x64 .bf16) (main_arg3 : IVec S2 32) : IVec S_ 1 :=
  let main_v0 : FVec F S2x768x45x64 .f32 := (extf .f32 · bitsLt_bf16_f32) main_arg0
  let main_v1 : FVec F S2x768x45x64 .f32 := Host.absf main_v0
  let main_cst : FVec F S_ .f32 := constant S_ .f32 0x7F800000#32
  let main_v2 : FVec F S2x768x45x64 .f32 := broadcastInDim S2x768x45x64 ![] bcast_S_S2x768x45x64 main_cst
  let main_v3 : IVec S2x768x45x64 1 := cmpf .olt main_v1 main_v2
  let main_c : IVec S_ 1 := constantI S_ 1 1#1
  let main_v4 : IVec S_ 1 := (fun x v => Host.reduce IntOp.andi x v reducesTo_S2x768x45x64_S_d0_1_2_3 h_S_) main_v3 main_c
  let main_v5 : FVec F S2x768x5x64 .f32 := (extf .f32 · bitsLt_bf16_f32) main_arg1
  let main_v6 : FVec F S2x768x5x64 .f32 := Host.absf main_v5
  let main_cst_0 : FVec F S_ .f32 := constant S_ .f32 0x7F800000#32
  let main_v7 : FVec F S2x768x5x64 .f32 := broadcastInDim S2x768x5x64 ![] bcast_S_S2x768x5x64 main_cst_0
  let main_v8 : IVec S2x768x5x64 1 := cmpf .olt main_v6 main_v7
  let main_c_1 : IVec S_ 1 := constantI S_ 1 1#1
  let main_v9 : IVec S_ 1 := (fun x v => Host.reduce IntOp.andi x v reducesTo_S2x768x5x64_S_d0_1_2_3 h_S_) main_v8 main_c_1
  let main_v10 : IVec S_ 1 := andi main_v4 main_v9
  main_v10
-- ==== Kernel.lean ====
abbrev S2x768x45x64 : Shape := ⟨4, ![2, 768, 45, 64]⟩
abbrev S2x768x5x64 : Shape := ⟨4, ![2, 768, 5, 64]⟩
abbrev S2 : Shape := ⟨1, ![2]⟩
abbrev S2x1 : Shape := ⟨2, ![2, 1]⟩
abbrev S768 : Shape := ⟨1, ![768]⟩
abbrev S1x768 : Shape := ⟨2, ![1, 768]⟩
abbrev S2x768 : Shape := ⟨2, ![2, 768]⟩
abbrev S32 : Shape := ⟨1, ![32]⟩
abbrev S_ : Shape := ⟨0, ![]⟩
abbrev S2x1x768 : Shape := ⟨3, ![2, 1, 768]⟩
abbrev S1x32x1 : Shape := ⟨3, ![1, 32, 1]⟩
abbrev S2x32x768 : Shape := ⟨3, ![2, 32, 768]⟩
abbrev S2x45x64x768 : Shape := ⟨4, ![2, 45, 64, 768]⟩
abbrev S2x5x64x768 : Shape := ⟨4, ![2, 5, 64, 768]⟩
abbrev S45x2x768 : Shape := ⟨3, ![45, 2, 768]⟩
abbrev S5x2x768 : Shape := ⟨3, ![5, 2, 768]⟩
abbrev S2x1x64x768 : Shape := ⟨4, ![2, 1, 64, 768]⟩
abbrev S1x2x768 : Shape := ⟨3, ![1, 2, 768]⟩
abbrev S2x768x192 : Shape := ⟨3, ![2, 768, 192]⟩
abbrev S2x768x64 : Shape := ⟨3, ![2, 768, 64]⟩
abbrev S2x64x768 : Shape := ⟨3, ![2, 64, 768]⟩
abbrev S8x128 : Shape := ⟨2, ![8, 128]⟩
abbrev S1x1x64x768 : Shape := ⟨4, ![1, 1, 64, 768]⟩
abbrev S64x768 : Shape := ⟨2, ![64, 768]⟩
abbrev S1x32x768 : Shape := ⟨3, ![1, 32, 768]⟩
abbrev S32x768 : Shape := ⟨2, ![32, 768]⟩
abbrev S1 : Shape := ⟨1, ![1]⟩
abbrev S1x1 : Shape := ⟨2, ![1, 1]⟩
abbrev S1x64x768 : Shape := ⟨3, ![1, 64, 768]⟩
abbrev S768x64 : Shape := ⟨2, ![768, 64]⟩
abbrev S1x768x64 : Shape := ⟨3, ![1, 768, 64]⟩
abbrev S768x192 : Shape := ⟨2, ![768, 192]⟩
abbrev S1x768x192 : Shape := ⟨3, ![1, 768, 192]⟩
abbrev S128x128 : Shape := ⟨2, ![128, 128]⟩
abbrev S192x768 : Shape := ⟨2, ![192, 768]⟩
abbrev S1x256x192 : Shape := ⟨3, ![1, 256, 192]⟩
abbrev S256x192 : Shape := ⟨2, ![256, 192]⟩
abbrev S192x256 : Shape := ⟨2, ![192, 256]⟩
abbrev S256x256 : Shape := ⟨2, ![256, 256]⟩
abbrev S1x256x64 : Shape := ⟨3, ![1, 256, 64]⟩
abbrev S256x64 : Shape := ⟨2, ![256, 64]⟩
abbrev S64x256 : Shape := ⟨2, ![64, 256]⟩
abbrev S128 : Shape := ⟨1, ![128]⟩
abbrev S1x128 : Shape := ⟨2, ![1, 128]⟩
abbrev S256x128 : Shape := ⟨2, ![256, 128]⟩
abbrev S1x1x64x256 : Shape := ⟨4, ![1, 1, 64, 256]⟩
abbrev S1x256 : Shape := ⟨2, ![1, 256]⟩
abbrev S256 : Shape := ⟨1, ![256]⟩
abbrev S1x64x256 : Shape := ⟨3, ![1, 64, 256]⟩
abbrev S1x512x192 : Shape := ⟨3, ![1, 512, 192]⟩
abbrev S512x192 : Shape := ⟨2, ![512, 192]⟩
abbrev S512x256 : Shape := ⟨2, ![512, 256]⟩
abbrev S1x512x64 : Shape := ⟨3, ![1, 512, 64]⟩
abbrev S512x64 : Shape := ⟨2, ![512, 64]⟩
abbrev S384x128 : Shape := ⟨2, ![384, 128]⟩
abbrev S512x128 : Shape := ⟨2, ![512, 128]⟩
abbrev S1x1x64x512 : Shape := ⟨4, ![1, 1, 64, 512]⟩
abbrev S64x512 : Shape := ⟨2, ![64, 512]⟩
abbrev S1x64x512 : Shape := ⟨3, ![1, 64, 512]⟩
abbrev S768x256 : Shape := ⟨2, ![768, 256]⟩
abbrev S640x128 : Shape := ⟨2, ![640, 128]⟩
abbrev S768x128 : Shape := ⟨2, ![768, 128]⟩

abbrev nBuf : Space → Nat
  | .hbm => 41
  | .vmem => 31
  | .smem => 0
  | _ => 0

abbrev bufTy : (tb : Table) → Fin (tcTables nBuf tb) → BufTy
  | .hbm, ⟨0, _⟩ => ⟨S2x768x45x64, .bf16⟩
  | .hbm, ⟨1, _⟩ => ⟨S2x768x5x64, .bf16⟩
  | .hbm, ⟨2, _⟩ => ⟨S2x768x5x64, .bf16⟩
  | .hbm, ⟨3, _⟩ => ⟨S2, .i32⟩
  | .hbm, ⟨4, _⟩ => ⟨S2x1, .i32⟩
  | .hbm, ⟨5, _⟩ => ⟨S768, .i32⟩
  | .hbm, ⟨6, _⟩ => ⟨S1x768, .i32⟩
  | .hbm, ⟨7, _⟩ => ⟨S2x768, .i32⟩
  | .hbm, ⟨8, _⟩ => ⟨S2x768, .i32⟩
  | .hbm, ⟨9, _⟩ => ⟨S2x768, .i32⟩
  | .hbm, ⟨10, _⟩ => ⟨S2x768, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2x1x768, .f32⟩
  | .hbm, ⟨23, _⟩ => ⟨S1x32x1, .f32⟩
  | .hbm, ⟨24, _⟩ => ⟨S2x32x768, .f32⟩
  | .hbm, ⟨25, _⟩ => ⟨S2x32x768, .f32⟩
  | .hbm, ⟨26, _⟩ => ⟨S2x32x768, .f32⟩
  | .hbm, ⟨27, _⟩ => ⟨S2x32x768, .f32⟩
  | .hbm, ⟨28, _⟩ => ⟨S2x32x768, .f32⟩
  | .hbm, ⟨29, _⟩ => ⟨S2x45x64x768, .bf16⟩
  | .hbm, ⟨30, _⟩ => ⟨S2x5x64x768, .bf16⟩
  | .hbm, ⟨31, _⟩ => ⟨S2x5x64x768, .bf16⟩
  | .hbm, ⟨32, _⟩ => ⟨S45x2x768, .f32⟩
  | .hbm, ⟨33, _⟩ => ⟨S5x2x768, .f32⟩
  | .hbm, ⟨34, _⟩ => ⟨S5x2x768, .f32⟩
  | .hbm, ⟨35, _⟩ => ⟨S45x2x768, .f32⟩
  | .hbm, ⟨36, _⟩ => ⟨S45x2x768, .f32⟩
  | .hbm, ⟨37, _⟩ => ⟨S2x45x64x768, .fp8e4m3⟩
  | .hbm, ⟨38, _⟩ => ⟨S2x5x64x768, .fp8e4m3⟩
  | .hbm, ⟨39, _⟩ => ⟨S2x5x64x768, .fp8e4m3⟩
  | .hbm, ⟨40, _⟩ => ⟨S2x45x64x768, .fp8e4m3⟩
  | .local _ .vmem, ⟨0, _⟩ => ⟨S2x1x64x768, .bf16⟩
  | .local _ .vmem, ⟨1, _⟩ => ⟨S2x1x64x768, .bf16⟩
  | .local _ .vmem, ⟨2, _⟩ => ⟨S2x1x64x768, .bf16⟩
  | .local _ .vmem, ⟨3, _⟩ => ⟨S2x1x64x768, .bf16⟩
  | .local _ .vmem, ⟨4, _⟩ => ⟨S2x1x64x768, .bf16⟩
  | .local _ .vmem, ⟨5, _⟩ => ⟨S2x1x64x768, .bf16⟩
  | .local _ .vmem, ⟨6, _⟩ => ⟨S2x32x768, .f32⟩
  | .local _ .vmem, ⟨7, _⟩ => ⟨S2x32x768, .f32⟩
  | .local _ .vmem, ⟨8, _⟩ => ⟨S1x2x768, .f32⟩
  | .local _ .vmem, ⟨9, _⟩ => ⟨S1x2x768, .f32⟩
  | .local _ .vmem, ⟨10, _⟩ => ⟨S1x2x768, .f32⟩
  | .local _ .vmem, ⟨11, _⟩ => ⟨S1x2x768, .f32⟩
  | .local _ .vmem, ⟨12, _⟩ => ⟨S1x2x768, .f32⟩
  | .local _ .vmem, ⟨13, _⟩ => ⟨S1x2x768, .f32⟩
  | .local _ .vmem, ⟨14, _⟩ => ⟨S1x2x768, .f32⟩
  | .local _ .vmem, ⟨15, _⟩ => ⟨S1x2x768, .f32⟩
  | .local _ .vmem, ⟨16, _⟩ => ⟨S1x2x768, .f32⟩
  | .local _ .vmem, ⟨17, _⟩ => ⟨S1x2x768, .f32⟩
  | .local _ .vmem, ⟨18, _⟩ => ⟨S2x1x64x768, .fp8e4m3⟩
  | .local _ .vmem, ⟨19, _⟩ => ⟨S2x1x64x768, .fp8e4m3⟩
  | .local _ .vmem, ⟨20, _⟩ => ⟨S2x1x64x768, .fp8e4m3⟩
  | .local _ .vmem, ⟨21, _⟩ => ⟨S2x1x64x768, .fp8e4m3⟩
  | .local _ .vmem, ⟨22, _⟩ => ⟨S2x1x64x768, .fp8e4m3⟩
  | .local _ .vmem, ⟨23, _⟩ => ⟨S2x1x64x768, .fp8e4m3⟩
  | .local _ .vmem, ⟨24, _⟩ => ⟨S2x1x64x768, .fp8e4m3⟩
  | .local _ .vmem, ⟨25, _⟩ => ⟨S2x1x64x768, .fp8e4m3⟩
  | .local _ .vmem, ⟨26, _⟩ => ⟨S2x768x192, .bf16⟩
  | .local _ .vmem, ⟨27, _⟩ => ⟨S2x768x64, .fp8e4m3⟩
  | .local _ .vmem, ⟨28, _⟩ => ⟨S2x64x768, .fp8e4m3⟩
  | .local _ .vmem, ⟨29, _⟩ => ⟨S8x128, .f32⟩
  | .local _ .vmem, ⟨30, _⟩ => ⟨S8x128, .f32⟩
  | _, _ => ⟨S2x768x45x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev main_v25_3 : Ref sig .tc := ⟨.hbm, 35, rfl⟩
abbrev main_v25_4 : Ref sig .tc := ⟨.hbm, 36, rfl⟩
abbrev main_v25_5 : Ref sig .tc := ⟨.hbm, 37, rfl⟩
abbrev main_v25_6 : Ref sig .tc := ⟨.hbm, 38, rfl⟩
abbrev main_v25_7 : Ref sig .tc := ⟨.hbm, 39, rfl⟩
abbrev main_v25_8 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![45], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_12 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x64x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x64x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x32x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x32x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x64x768 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1x64x768 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x64x768 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x1x64x768 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "score_log2e" => some (((1 / 8) * (Real.log 2)⁻¹ : ℝ) : EReal)
  | _ => none
-- ==== ReferenceIdeal.lean ====
abbrev S2x768x45x64 : Shape := ⟨4, ![2, 768, 45, 64]⟩
abbrev S2x768x5x64 : Shape := ⟨4, ![2, 768, 5, 64]⟩
abbrev S2 : Shape := ⟨1, ![2]⟩
abbrev S2x1 : Shape := ⟨2, ![2, 1]⟩
abbrev S768 : Shape := ⟨1, ![768]⟩
abbrev S1x768 : Shape := ⟨2, ![1, 768]⟩
abbrev S2x768 : Shape := ⟨2, ![2, 768]⟩
abbrev S32 : Shape := ⟨1, ![32]⟩
abbrev S_ : Shape := ⟨0, ![]⟩
abbrev S2x768x1 : Shape := ⟨3, ![2, 768, 1]⟩
abbrev S1x1x32 : Shape := ⟨3, ![1, 1, 32]⟩
abbrev S2x768x32 : Shape := ⟨3, ![2, 768, 32]⟩
abbrev S2x768x1x32 : Shape := ⟨4, ![2, 768, 1, 32]⟩
abbrev S2x768x45x32 : Shape := ⟨4, ![2, 768, 45, 32]⟩
abbrev S2x768x5x32 : Shape := ⟨4, ![2, 768, 5, 32]⟩
abbrev S2x768x45 : Shape := ⟨3, ![2, 768, 45]⟩
abbrev S2x768x5 : Shape := ⟨3, ![2, 768, 5]⟩
abbrev S45 : Shape := ⟨1, ![45]⟩
abbrev S5 : Shape := ⟨1, ![5]⟩
abbrev S2x768x5x9x64 : Shape := ⟨5, ![2, 768, 5, 9, 64]⟩
abbrev S2x5x9x768x64 : Shape := ⟨5, ![2, 5, 9, 768, 64]⟩
abbrev S2x5x768x64 : Shape := ⟨4, ![2, 5, 768, 64]⟩
abbrev S768x1 : Shape := ⟨2, ![768, 1]⟩
abbrev S768x768 : Shape := ⟨2, ![768, 768]⟩
abbrev S2x5x9x768x768 : Shape := ⟨5, ![2, 5, 9, 768, 768]⟩
abbrev S2x5x9x768 : Shape := ⟨4, ![2, 5, 9, 768]⟩
abbrev S2x5x9x768x1 : Shape := ⟨5, ![2, 5, 9, 768, 1]⟩
abbrev S2x45x768 : Shape := ⟨3, ![2, 45, 768]⟩
abbrev S45x1 : Shape := ⟨2, ![45, 1]⟩
abbrev S1x1x45x1 : Shape := ⟨4, ![1, 1, 45, 1]⟩
abbrev S5x1 : Shape := ⟨2, ![5, 1]⟩
abbrev S1x1x5x1 : Shape := ⟨4, ![1, 1, 5, 1]⟩
abbrev S5x9 : Shape := ⟨2, ![5, 9]⟩
abbrev S1x5x9x1x1 : Shape := ⟨5, ![1, 5, 9, 1, 1]⟩
abbrev S1x5x1x1x1 : Shape := ⟨5, ![1, 5, 1, 1, 1]⟩
abbrev S45x2x768 : Shape := ⟨3, ![45, 2, 768]⟩
abbrev S5x2x768 : Shape := ⟨3, ![5, 2, 768]⟩
abbrev S2x45x64x768 : Shape := ⟨4, ![2, 45, 64, 768]⟩
abbrev S2x5x64x768 : Shape := ⟨4, ![2, 5, 64, 768]⟩

abbrev nBuf : Space → Nat
  | .hbm => 281
  | .vmem => 0
  | .smem => 0
  | _ => 0

abbrev hbmTy0_0 (i : Nat) : BufTy := match i % 128 with
  | 0 => ⟨S2x768x45x64, .bf16⟩
  | 1 => ⟨S2x768x5x64, .bf16⟩
  | 2 => ⟨S2x768x5x64, .bf16⟩
  | 3 => ⟨S2, .i32⟩
  | 4 => ⟨S2x1, .i32⟩
  | 5 => ⟨S768, .i32⟩
  | 6 => ⟨S1x768, .i32⟩
  | 7 => ⟨S2x768, .i32⟩
  | 8 => ⟨S2x768, .i32⟩
  | 9 => ⟨S2x768, .i32⟩
  | 10 => ⟨S2x768, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2x768x1, .f32⟩
  | 23 => ⟨S1x1x32, .f32⟩
  | 24 => ⟨S2x768x32, .f32⟩
  | 25 => ⟨S2x768x32, .f32⟩
  | 26 => ⟨S2x768x32, .f32⟩
  | 27 => ⟨S2x768x32, .f32⟩
  | 28 => ⟨S2x768x1x32, .f32⟩
  | 29 => ⟨S2x768x32, .f32⟩
  | 30 => ⟨S2x768x1x32, .f32⟩
  | 31 => ⟨S2x768x45x64, .f32⟩
  | 32 => ⟨S2x768x45x32, .f32⟩
  | 33 => ⟨S2x768x45x32, .f32⟩
  | 34 => ⟨S2x768x45x32, .f32⟩
  | 35 => ⟨S2x768x45x32, .f32⟩
  | 36 => ⟨S2x768x45x32, .f32⟩
  | 37 => ⟨S2x768x45x32, .f32⟩
  | 38 => ⟨S2x768x45x32, .f32⟩
  | 39 => ⟨S2x768x45x32, .f32⟩
  | 40 => ⟨S2x768x45x32, .f32⟩
  | 41 => ⟨S2x768x45x32, .f32⟩
  | 42 => ⟨S2x768x45x32, .f32⟩
  | 43 => ⟨S2x768x45x32, .f32⟩
  | 44 => ⟨S2x768x45x64, .f32⟩
  | 45 => ⟨S2x768x45x64, .bf16⟩
  | 46 => ⟨S2x768x5x64, .f32⟩
  | 47 => ⟨S2x768x5x32, .f32⟩
  | 48 => ⟨S2x768x5x32, .f32⟩
  | 49 => ⟨S2x768x5x32, .f32⟩
  | 50 => ⟨S2x768x5x32, .f32⟩
  | 51 => ⟨S2x768x5x32, .f32⟩
  | 52 => ⟨S2x768x5x32, .f32⟩
  | 53 => ⟨S2x768x5x32, .f32⟩
  | 54 => ⟨S2x768x5x32, .f32⟩
  | 55 => ⟨S2x768x5x32, .f32⟩
  | 56 => ⟨S2x768x5x32, .f32⟩
  | 57 => ⟨S2x768x5x32, .f32⟩
  | 58 => ⟨S2x768x5x32, .f32⟩
  | 59 => ⟨S2x768x5x64, .f32⟩
  | 60 => ⟨S2x768x5x64, .bf16⟩
  | 61 => ⟨S2x768x45x64, .bf16⟩
  | 62 => ⟨S_, .bf16⟩
  | 63 => ⟨S2x768x45, .bf16⟩
  | 64 => ⟨S2x768x45, .f32⟩
  | 65 => ⟨S2x768x5x64, .bf16⟩
  | 66 => ⟨S_, .bf16⟩
  | 67 => ⟨S2x768x5, .bf16⟩
  | 68 => ⟨S2x768x5, .f32⟩
  | 69 => ⟨S2x768x5x64, .bf16⟩
  | 70 => ⟨S_, .bf16⟩
  | 71 => ⟨S2x768x5, .bf16⟩
  | 72 => ⟨S2x768x5, .f32⟩
  | 73 => ⟨S_, .f32⟩
  | 74 => ⟨S45, .f32⟩
  | 75 => ⟨S_, .f32⟩
  | 76 => ⟨S5, .f32⟩
  | 77 => ⟨S_, .f32⟩
  | 78 => ⟨S5, .f32⟩
  | 79 => ⟨S2x768x5x9x64, .bf16⟩
  | 80 => ⟨S2x5x9x768x64, .bf16⟩
  | 81 => ⟨S2x5x768x64, .bf16⟩
  | 82 => ⟨S2x5x768x64, .bf16⟩
  | 83 => ⟨S768, .i32⟩
  | 84 => ⟨S1x768, .i32⟩
  | 85 => ⟨S768x1, .i32⟩
  | 86 => ⟨S768x768, .i32⟩
  | 87 => ⟨S768x768, .i32⟩
  | 88 => ⟨S768x768, .i1⟩
  | 89 => ⟨S2x5x9x768x768, .f32⟩
  | 90 => ⟨S_, .f32⟩
  | 91 => ⟨S2x5x9x768x768, .f32⟩
  | 92 => ⟨S2x5x9x768x768, .f32⟩
  | 93 => ⟨S2x5x9x768x768, .f32⟩
  | 94 => ⟨S_, .f32⟩
  | 95 => ⟨S_, .f32⟩
  | 96 => ⟨S2x5x9x768x768, .i1⟩
  | 97 => ⟨S2x5x9x768x768, .f32⟩
  | 98 => ⟨S2x5x9x768x768, .f32⟩
  | 99 => ⟨S_, .f32⟩
  | 100 => ⟨S2x5x9x768, .f32⟩
  | 101 => ⟨S_, .f32⟩
  | 102 => ⟨S_, .f32⟩
  | 103 => ⟨S2x5x9x768x768, .i1⟩
  | 104 => ⟨S2x5x9x768x768, .f32⟩
  | 105 => ⟨S2x5x9x768x768, .f32⟩
  | 106 => ⟨S_, .f32⟩
  | 107 => ⟨S2x5x9x768, .f32⟩
  | 108 => ⟨S_, .f32⟩
  | 109 => ⟨S2x5x9x768, .f32⟩
  | 110 => ⟨S2x5x9x768, .f32⟩
  | 111 => ⟨S2x5x9x768x1, .f32⟩
  | 112 => ⟨S2x5x9x768x768, .f32⟩
  | 113 => ⟨S2x5x9x768x768, .f32⟩
  | 114 => ⟨S2x5x9x768x768, .f32⟩
  | 115 => ⟨S_, .f32⟩
  | 116 => ⟨S2x5x9x768, .f32⟩
  | 117 => ⟨S2x5x9x768x1, .f32⟩
  | 118 => ⟨S2x5x9x768x768, .f32⟩
  | 119 => ⟨S2x5x9x768x768, .f32⟩
  | 120 => ⟨S2x5x9x768x768, .bf16⟩
  | 121 => ⟨S2x5x9x768x64, .f32⟩
  | 122 => ⟨S2x5x9x768x64, .f32⟩
  | 123 => ⟨S_, .f32⟩
  | 124 => ⟨S2x5x9x768, .f32⟩
  | 125 => ⟨S2x45x768, .f32⟩
  | 126 => ⟨S2x768x45, .f32⟩
  | 127 => ⟨S2x45x768, .f32⟩
  | _ => ⟨S2x768x45x64, .bf16⟩

abbrev hbmTy0_1 (i : Nat) : BufTy := match i % 128 with
  | 0 => ⟨S2x768x45, .f32⟩
  | 1 => ⟨S_, .f32⟩
  | 2 => ⟨S45, .f32⟩
  | 3 => ⟨S_, .f32⟩
  | 4 => ⟨S45, .f32⟩
  | 5 => ⟨S45, .i1⟩
  | 6 => ⟨S_, .f32⟩
  | 7 => ⟨S45, .f32⟩
  | 8 => ⟨S45, .f32⟩
  | 9 => ⟨S_, .f32⟩
  | 10 => ⟨S_, .f32⟩
  | 11 => ⟨S45, .f32⟩
  | 12 => ⟨S45, .f32⟩
  | 13 => ⟨S_, .f32⟩
  | 14 => ⟨S5, .f32⟩
  | 15 => ⟨S5, .i1⟩
  | 16 => ⟨S_, .f32⟩
  | 17 => ⟨S5, .f32⟩
  | 18 => ⟨S5, .f32⟩
  | 19 => ⟨S_, .f32⟩
  | 20 => ⟨S_, .f32⟩
  | 21 => ⟨S5, .f32⟩
  | 22 => ⟨S5, .f32⟩
  | 23 => ⟨S_, .f32⟩
  | 24 => ⟨S5, .f32⟩
  | 25 => ⟨S5, .i1⟩
  | 26 => ⟨S_, .f32⟩
  | 27 => ⟨S5, .f32⟩
  | 28 => ⟨S5, .f32⟩
  | 29 => ⟨S_, .f32⟩
  | 30 => ⟨S_, .f32⟩
  | 31 => ⟨S5, .f32⟩
  | 32 => ⟨S5, .f32⟩
  | 33 => ⟨S_, .f32⟩
  | 34 => ⟨S45, .f32⟩
  | 35 => ⟨S45, .i1⟩
  | 36 => ⟨S_, .f32⟩
  | 37 => ⟨S45, .f32⟩
  | 38 => ⟨S45, .f32⟩
  | 39 => ⟨S_, .f32⟩
  | 40 => ⟨S_, .f32⟩
  | 41 => ⟨S45, .f32⟩
  | 42 => ⟨S45, .f32⟩
  | 43 => ⟨S2x768x45x64, .f32⟩
  | 44 => ⟨S45x1, .f32⟩
  | 45 => ⟨S1x1x45x1, .f32⟩
  | 46 => ⟨S2x768x45x64, .f32⟩
  | 47 => ⟨S2x768x45x64, .f32⟩
  | 48 => ⟨S_, .f32⟩
  | 49 => ⟨S_, .f32⟩
  | 50 => ⟨S_, .f32⟩
  | 51 => ⟨S2x768x45x64, .f32⟩
  | 52 => ⟨S2x768x45x64, .f32⟩
  | 53 => ⟨S_, .f32⟩
  | 54 => ⟨S2x768x45x64, .f32⟩
  | 55 => ⟨S2x768x45x64, .f32⟩
  | 56 => ⟨S2x768x5x64, .f32⟩
  | 57 => ⟨S5x1, .f32⟩
  | 58 => ⟨S1x1x5x1, .f32⟩
  | 59 => ⟨S2x768x5x64, .f32⟩
  | 60 => ⟨S2x768x5x64, .f32⟩
  | 61 => ⟨S_, .f32⟩
  | 62 => ⟨S_, .f32⟩
  | 63 => ⟨S_, .f32⟩
  | 64 => ⟨S2x768x5x64, .f32⟩
  | 65 => ⟨S2x768x5x64, .f32⟩
  | 66 => ⟨S_, .f32⟩
  | 67 => ⟨S2x768x5x64, .f32⟩
  | 68 => ⟨S2x768x5x64, .f32⟩
  | 69 => ⟨S2x768x5x64, .f32⟩
  | 70 => ⟨S5x1, .f32⟩
  | 71 => ⟨S1x1x5x1, .f32⟩
  | 72 => ⟨S2x768x5x64, .f32⟩
  | 73 => ⟨S2x768x5x64, .f32⟩
  | 74 => ⟨S_, .f32⟩
  | 75 => ⟨S_, .f32⟩
  | 76 => ⟨S_, .f32⟩
  | 77 => ⟨S2x768x5x64, .f32⟩
  | 78 => ⟨S2x768x5x64, .f32⟩
  | 79 => ⟨S_, .f32⟩
  | 80 => ⟨S2x768x5x64, .f32⟩
  | 81 => ⟨S2x768x5x64, .f32⟩
  | 82 => ⟨S5x9, .f32⟩
  | 83 => ⟨S5x1, .f32⟩
  | 84 => ⟨S5x9, .f32⟩
  | 85 => ⟨S5x9, .f32⟩
  | 86 => ⟨S_, .f32⟩
  | 87 => ⟨S5x9, .f32⟩
  | 88 => ⟨S5x9, .f32⟩
  | 89 => ⟨S2x768x5x9x64, .f32⟩
  | 90 => ⟨S2x5x9x768x64, .f32⟩
  | 91 => ⟨S2x5x768x64, .f32⟩
  | 92 => ⟨S2x5x768x64, .f32⟩
  | 93 => ⟨S2x5x9x768x768, .f32⟩
  | 94 => ⟨S1x5x9x1x1, .f32⟩
  | 95 => ⟨S2x5x9x768x768, .f32⟩
  | 96 => ⟨S2x5x9x768x768, .f32⟩
  | 97 => ⟨S_, .f32⟩
  | 98 => ⟨S_, .f32⟩
  | 99 => ⟨S2x5x9x768x768, .i1⟩
  | 100 => ⟨S2x5x9x768x768, .f32⟩
  | 101 => ⟨S2x5x9x768x768, .f32⟩
  | 102 => ⟨S_, .f32⟩
  | 103 => ⟨S2x5x9x768, .f32⟩
  | 104 => ⟨S_, .f32⟩
  | 105 => ⟨S2x5x9x768, .f32⟩
  | 106 => ⟨S2x5x9x768, .f32⟩
  | 107 => ⟨S2x5x9x768x1, .f32⟩
  | 108 => ⟨S2x5x9x768x768, .f32⟩
  | 109 => ⟨S2x5x9x768x768, .f32⟩
  | 110 => ⟨S2x5x9x768x768, .f32⟩
  | 111 => ⟨S_, .f32⟩
  | 112 => ⟨S2x5x9x768, .f32⟩
  | 113 => ⟨S2x5x9x768x1, .f32⟩
  | 114 => ⟨S2x5x9x768x768, .f32⟩
  | 115 => ⟨S2x5x9x768x768, .f32⟩
  | 116 => ⟨S_, .f32⟩
  | 117 => ⟨S2x5x9x768x768, .f32⟩
  | 118 => ⟨S2x5x9x768x768, .f32⟩
  | 119 => ⟨S2x5x9x768x64, .f32⟩
  | 120 => ⟨S_, .f32⟩
  | 121 => ⟨S5, .f32⟩
  | 122 => ⟨S5, .f32⟩
  | 123 => ⟨S1x5x1x1x1, .f32⟩
  | 124 => ⟨S2x5x9x768x64, .f32⟩
  | 125 => ⟨S2x5x9x768x64, .f32⟩
  | 126 => ⟨S2x768x5x9x64, .f32⟩
  | 127 => ⟨S2x768x45x64, .f32⟩
  | _ => ⟨S2x768x45x64, .bf16⟩

abbrev hbmTy0_2 (i : Nat) : BufTy := match i % 128 with
  | 0 => ⟨S45x1, .f32⟩
  | 1 => ⟨S1x1x45x1, .f32⟩
  | 2 => ⟨S2x768x45x64, .f32⟩
  | 3 => ⟨S2x768x45x64, .f32⟩
  | 4 => ⟨S_, .f32⟩
  | 5 => ⟨S_, .f32⟩
  | 6 => ⟨S_, .f32⟩
  | 7 => ⟨S2x768x45x64, .f32⟩
  | 8 => ⟨S2x768x45x64, .f32⟩
  | 9 => ⟨S_, .f32⟩
  | 10 => ⟨S2x768x45x64, .f32⟩
  | 11 => ⟨S2x768x45x64, .f32⟩
  | 12 => ⟨S45x2x768, .f32⟩
  | 13 => ⟨S5x2x768, .f32⟩
  | 14 => ⟨S5x2x768, .f32⟩
  | 15 => ⟨S45x2x768, .f32⟩
  | 16 => ⟨S45x2x768, .f32⟩
  | 17 => ⟨S2x768x45x64, .fp8e4m3⟩
  | 18 => ⟨S2x45x64x768, .fp8e4m3⟩
  | 19 => ⟨S2x768x5x64, .fp8e4m3⟩
  | 20 => ⟨S2x5x64x768, .fp8e4m3⟩
  | 21 => ⟨S2x768x5x64, .fp8e4m3⟩
  | 22 => ⟨S2x5x64x768, .fp8e4m3⟩
  | 23 => ⟨S2x768x45x64, .fp8e4m3⟩
  | 24 => ⟨S2x45x64x768, .fp8e4m3⟩
  | _ => ⟨S2x768x45x64, .bf16⟩

abbrev hbmTy (i : Nat) : BufTy := match i / 128 with
  | 0 => hbmTy0_0 i
  | 1 => hbmTy0_1 i
  | 2 => hbmTy0_2 i
  | _ => ⟨S2x768x45x64, .bf16⟩

abbrev bufTy : (tb : Table) → Fin (tcTables nBuf tb) → BufTy
  | .hbm, ⟨i, _⟩ => hbmTy i
  | _, _ => ⟨S2x768x45x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_2 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_3 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_4 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_8 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_9 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_cst_11 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v82 : Ref sig .tc := ⟨.hbm, 105, rfl⟩
abbrev main_cst_12 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_14 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_15 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_16 : Ref sig .tc := ⟨.hbm, 129, rfl⟩
abbrev main_v102 : Ref sig .tc := ⟨.hbm, 130, rfl⟩
abbrev main_cst_17 : Ref sig .tc := ⟨.hbm, 131, rfl⟩
abbrev main_v103 : Ref sig .tc := ⟨.hbm, 132, rfl⟩
abbrev main_v104 : Ref sig .tc := ⟨.hbm, 133, rfl⟩
abbrev main_cst_18 : Ref sig .tc := ⟨.hbm, 134, rfl⟩
abbrev main_v105 : Ref sig .tc := ⟨.hbm, 135, rfl⟩
abbrev main_v106 : Ref sig .tc := ⟨.hbm, 136, rfl⟩
abbrev main_cst_19 : Ref sig .tc := ⟨.hbm, 137, rfl⟩
abbrev main_call2_v0 : Ref sig .tc := ⟨.hbm, 138, rfl⟩
abbrev main_call2_v1 : Ref sig .tc := ⟨.hbm, 139, rfl⟩
abbrev main_v107 : Ref sig .tc := ⟨.hbm, 140, rfl⟩
abbrev main_cst_20 : Ref sig .tc := ⟨.hbm, 141, rfl⟩
abbrev main_v108 : Ref sig .tc := ⟨.hbm, 142, rfl⟩
abbrev main_v109 : Ref sig .tc := ⟨.hbm, 143, rfl⟩
abbrev main_cst_21 : Ref sig .tc := ⟨.hbm, 144, rfl⟩
abbrev main_v110 : Ref sig .tc := ⟨.hbm, 145, rfl⟩
abbrev main_v111 : Ref sig .tc := ⟨.hbm, 146, rfl⟩
abbrev main_cst_22 : Ref sig .tc := ⟨.hbm, 147, rfl⟩
abbrev main_call3_v0 : Ref sig .tc := ⟨.hbm, 148, rfl⟩
abbrev main_call3_v1 : Ref sig .tc := ⟨.hbm, 149, rfl⟩
abbrev main_v112 : Ref sig .tc := ⟨.hbm, 150, rfl⟩
abbrev main_cst_23 : Ref sig .tc := ⟨.hbm, 151, rfl⟩
abbrev main_v113 : Ref sig .tc := ⟨.hbm, 152, rfl⟩
abbrev main_v114 : Ref sig .tc := ⟨.hbm, 153, rfl⟩
abbrev main_cst_24 : Ref sig .tc := ⟨.hbm, 154, rfl⟩
abbrev main_v115 : Ref sig .tc := ⟨.hbm, 155, rfl⟩
abbrev main_v116 : Ref sig .tc := ⟨.hbm, 156, rfl⟩
abbrev main_cst_25 : Ref sig .tc := ⟨.hbm, 157, rfl⟩
abbrev main_call4_v0 : Ref sig .tc := ⟨.hbm, 158, rfl⟩
abbrev main_call4_v1 : Ref sig .tc := ⟨.hbm, 159, rfl⟩
abbrev main_v117 : Ref sig .tc := ⟨.hbm, 160, rfl⟩
abbrev main_cst_26 : Ref sig .tc := ⟨.hbm, 161, rfl⟩
abbrev main_v118 : Ref sig .tc := ⟨.hbm, 162, rfl⟩
abbrev main_v119 : Ref sig .tc := ⟨.hbm, 163, rfl⟩
abbrev main_cst_27 : Ref sig .tc := ⟨.hbm, 164, rfl⟩
abbrev main_v120 : Ref sig .tc := ⟨.hbm, 165, rfl⟩
abbrev main_v121 : Ref sig .tc := ⟨.hbm, 166, rfl⟩
abbrev main_cst_28 : Ref sig .tc := ⟨.hbm, 167, rfl⟩
abbrev main_call5_v0 : Ref sig .tc := ⟨.hbm, 168, rfl⟩
abbrev main_call5_v1 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_29 : Ref sig .tc := ⟨.hbm, 176, rfl⟩
abbrev main_cst_30 : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_31 : Ref sig .tc := ⟨.hbm, 189, rfl⟩
abbrev main_cst_32 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_cst_33 : Ref sig .tc := ⟨.hbm, 202, rfl⟩
abbrev main_cst_34 : Ref sig .tc := ⟨.hbm, 203, rfl⟩
abbrev main_call8_v0 : Ref sig .tc := ⟨.hbm, 204, rfl⟩
abbrev main_call8_v1 : Ref sig .tc := ⟨.hbm, 205, rfl⟩
abbrev main_call8_v2 : Ref sig .tc := ⟨.hbm, 206, rfl⟩
abbrev main_call8_v3 : Ref sig .tc := ⟨.hbm, 207, rfl⟩
abbrev main_call8_v4 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_cst_35 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_cst_36 : Ref sig .tc := ⟨.hbm, 225, rfl⟩
abbrev main_call9_v0 : Ref sig .tc := ⟨.hbm, 226, rfl⟩
abbrev main_call9_v1 : Ref sig .tc := ⟨.hbm, 227, rfl⟩
abbrev main_call9_v2 : Ref sig .tc := ⟨.hbm, 228, rfl⟩
abbrev main_v155 : Ref sig .tc := ⟨.hbm, 229, rfl⟩
abbrev main_cst_37 : Ref sig .tc := ⟨.hbm, 230, rfl⟩
abbrev main_v156 : Ref sig .tc := ⟨.hbm, 231, rfl⟩
abbrev main_cst_38 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_cst_39 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_cst_40 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_cst_41 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_cst_42 : Ref sig .tc := ⟨.hbm, 260, rfl⟩
abbrev main_cst_43 : Ref sig .tc := ⟨.hbm, 261, rfl⟩
abbrev main_call10_v0 : Ref sig .tc := ⟨.hbm, 262, rfl⟩
abbrev main_call10_v1 : Ref sig .tc := ⟨.hbm, 263, rfl⟩
abbrev main_call10_v2 : Ref sig .tc := ⟨.hbm, 264, rfl⟩
abbrev main_call10_v3 : Ref sig .tc := ⟨.hbm, 265, rfl⟩
abbrev main_call10_v4 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩

abbrev nD : Nat := 1
abbrev τ : Topo := Topo.v7x

variable {F : FTy → Type} [FloatOps F]
-- ==== Proof.Tile.lean ====
module

public import Idealize.ShloMosaic.Lib.Pointwise.IndexVar
public import Idealize.ShloMosaic.Lib.Pipeline.Value
public import Idealize.ShloMosaic.Lib.ValueIdx
public import Idealize.ShloMosaic.Lib.MatmulPlain
public import Idealize.ShloMosaic.PureOps.Ideal.Laws

@[expose] public section

noncomputable section

/-! # One column block of causal scores

The kernel works through the scores of a head in blocks of 128 queries. The definitions here are the operations it applies to
one such block, for any number of keys; the lemmas read them at an element. -/

namespace Cert.Tile

open Idealize.ShloMosaic

/-- A two-axis shape. -/
abbrev M2 (a b : ℕ) : Shape := ⟨2, ![a, b]⟩
/-- A one-axis shape. -/
abbrev M1 (a : ℕ) : Shape := ⟨1, ![a]⟩

theorem fold_max {ι : Type*} (s : Finset ι) (f : ι → EReal) :
    Finset.fold max (Ideal.ofBits .f32 0xFF800000#32) f s = s.sup f := by
  rw [show Ideal.ofBits .f32 0xFF800000#32 = ⊥ by simp [Ideal.ofBits, Ideal.ieee]]; rfl
theorem fold_min {ι : Type*} (s : Finset ι) (f : ι → EReal) :
    Finset.fold min (Ideal.ofBits .f32 0x7F800000#32) f s = s.inf f := by
  rw [show Ideal.ofBits .f32 0x7F800000#32 = ⊤ by simp [Ideal.ofBits, Ideal.ieee]]; rfl

/-! ## Sums and maxima over the visible keys -/

/-- The maximum over the keys up to `i`. -/
def top (X : ℕ → EReal) (i : ℕ) : EReal := (Finset.range (i + 1)).sup X
/-- The minimum over the keys up to `i`. -/
def bot (X : ℕ → EReal) (i : ℕ) : EReal := (Finset.range (i + 1)).inf X
/-- The weight of key `k` for query `i`, before the division by the sum: a power of two. -/
def wt (X : ℕ → EReal) (i k : ℕ) : EReal := Ideal.exp2 (X k - top X i)
/-- The sum of the weights. -/
def wsum (X : ℕ → EReal) (i : ℕ) : EReal := ∑ k ∈ Finset.range (i + 1), wt X i k

theorem sup_masked {N : ℕ} (X : ℕ → EReal) (i : ℕ) (hi : i < N) :
    (Finset.univ.sup fun k : Fin N => if k.val ≤ i then X k.val else ⊥) = top X i := by
  unfold top
  refine le_antisymm (Finset.sup_le fun k _ => ?_) (Finset.sup_le fun k hk => ?_)
  · split
    · exact Finset.le_sup (f := X) (Finset.mem_range.mpr (by omega))
    · exact bot_le
  · have hk' : k < i + 1 := Finset.mem_range.mp hk
    have := Finset.le_sup (f := fun k : Fin N => if k.val ≤ i then X k.val else ⊥) (Finset.mem_univ (⟨k, by omega⟩ : Fin N))
    simpa [show k ≤ i by omega] using this

theorem sum_masked {N : ℕ} (f : ℕ → EReal) (i : ℕ) (hi : i < N) :
    (∑ k : Fin N, if k.val ≤ i then f k.val else 0) = ∑ k ∈ Finset.range (i + 1), f k := by
  rw [Fin.sum_univ_eq_sum_range (fun k => if k ≤ i then f k else 0) N, ← Finset.sum_filter]
  congr 1
  ext k; simp only [Finset.mem_filter, Finset.mem_range]; omega

theorem top_split (X : ℕ → EReal) (n l : ℕ) (hl : l < 128) :
    max (Finset.univ.sup fun k : Fin 128 => if k.val ≤ l then X (n + k.val) else ⊥) (Finset.univ.sup fun k : Fin n => X k.val)
      = top X (n + l) := by
  unfold top
  refine le_antisymm (max_le (Finset.sup_le fun k _ => ?_) (Finset.sup_le fun k _ => ?_)) (Finset.sup_le fun k hk => ?_)
  · split
    · exact Finset.le_sup (f := X) (Finset.mem_range.mpr (by omega))
    · exact bot_le
  · exact Finset.le_sup (f := X) (Finset.mem_range.mpr (by omega))
  · have hk' : k < n + l + 1 := Finset.mem_range.mp hk
    by_cases h : k < n
    · exact le_max_of_le_right (Finset.le_sup (f := fun k : Fin n => X k.val) (Finset.mem_univ (⟨k, h⟩ : Fin n)))
    · refine le_max_of_le_left ?_
      have := Finset.le_sup (f := fun k : Fin 128 => if k.val ≤ l then X (n + k.val) else ⊥)
        (Finset.mem_univ (⟨k - n, by omega⟩ : Fin 128))
      simpa [show k - n ≤ l by omega, show n + (k - n) = k by omega] using this

theorem bot_split (X : ℕ → EReal) (n l : ℕ) (hl : l < 128) :
    min (Finset.univ.inf fun k : Fin 128 => if k.val ≤ l then X (n + k.val) else ⊤) (Finset.univ.inf fun k : Fin n => X k.val)
      = bot X (n + l) := by
  unfold bot
  refine le_antisymm (Finset.le_inf fun k hk => ?_) (le_min (Finset.le_inf fun k _ => ?_) (Finset.le_inf fun k _ => ?_))
  · have hk' : k < n + l + 1 := Finset.mem_range.mp hk
    by_cases h : k < n
    · exact min_le_of_right_le (Finset.inf_le (f := fun k : Fin n => X k.val) (Finset.mem_univ (⟨k, h⟩ : Fin n)))
    · refine min_le_of_left_le ?_
      have := Finset.inf_le (f := fun k : Fin 128 => if k.val ≤ l then X (n + k.val) else ⊤)
        (Finset.mem_univ (⟨k - n, by omega⟩ : Fin 128))
      simpa [show k - n ≤ l by omega, show n + (k - n) = k by omega] using this
  · split
    · exact Finset.inf_le (f := X) (Finset.mem_range.mpr (by omega))
    · exact le_top
  · exact Finset.inf_le (f := X) (Finset.mem_range.mpr (by omega))

theorem inf_masked {N : ℕ} (X : ℕ → EReal) (i : ℕ) (hi : i < N) :
    (Finset.univ.inf fun k : Fin N => if k.val ≤ i then X k.val else ⊤) = bot X i := by
  unfold bot
  refine le_antisymm (Finset.le_inf fun k hk => ?_) (Finset.le_inf fun k _ => ?_)
  · have hk' : k < i + 1 := Finset.mem_range.mp hk
    have := Finset.inf_le (f := fun k : Fin N => if k.val ≤ i then X k.val else ⊤) (Finset.mem_univ (⟨k, by omega⟩ : Fin N))
    simpa [show k ≤ i by omega] using this
  · split
    · exact Finset.inf_le (f := X) (Finset.mem_range.mpr (by omega))
    · exact le_top

/-! ## The operations on a block -/

section Columns

variable {N n : ℕ}

/-- The maximum of each column. -/
def colMax (x : FVec Ideal (M2 N 128) .f32) (h : (M2 N 128).Reduces [0] (M1 128)) (hc : (M1 128).ShapeCasts (M2 1 128)) :
    FVec Ideal (M2 1 128) .f32 :=
  shapeCast (M2 1 128) (multiReduction .maximumf [0] (M1 128) x 0xFF800000#32 h (.inl rfl) rfl) hc

theorem colMax_apply (x : FVec Ideal (M2 N 128) .f32) (h hc) (l : Fin 128) :
    colMax x h hc (ix2 0 l) = Finset.univ.sup fun k : Fin N => x (ix2 k l) := by
  pointwise [colMax]
  exact fold_max _ _

/-- The minimum of each column. -/
def colMin (x : FVec Ideal (M2 N 128) .f32) (h : (M2 N 128).Reduces [0] (M1 128)) (hc : (M1 128).ShapeCasts (M2 1 128)) :
    FVec Ideal (M2 1 128) .f32 :=
  shapeCast (M2 1 128) (multiReduction .minimumf [0] (M1 128) x 0x7F800000#32 h (.inl rfl) rfl) hc

theorem colMin_apply (x : FVec Ideal (M2 N 128) .f32) (h hc) (l : Fin 128) :
    colMin x h hc (ix2 0 l) = Finset.univ.inf fun k : Fin N => x (ix2 k l) := by
  pointwise [colMin]
  exact fold_min _ _

/-- The sum of each column. -/
def colSum (x : FVec Ideal (M2 N 128) .f32) (h : (M2 N 128).Reduces [0] (M1 128)) (hc : (M1 128).ShapeCasts (M2 1 128)) :
    FVec Ideal (M2 1 128) .f32 :=
  shapeCast (M2 1 128) (multiReduction .add [0] (M1 128) x 0x00000000#32 h (.inl rfl) rfl) hc

theorem colSum_apply (x : FVec Ideal (M2 N 128) .f32) (h hc) (l : Fin 128) :
    colSum x h hc (ix2 0 l) = ∑ k : Fin N, x (ix2 k l) := by
  pointwise [colSum]

/-- The diagonal keys of a column block, the hidden ones replaced by the word `w`. -/
def masked (mask : IVec (M2 128 128) 1) (w : BitVec 32) (D : FVec Ideal (M2 128 128) .f32) : FVec Ideal (M2 128 128) .f32 :=
  select mask D (broadcast (M2 128 128) (Scalar.ofBits .f32 w))

/-- The visibility mask of a diagonal block: key at most query. -/
def vis (h0 : (M2 128 128).Iotas .tc 32 [0]) (h1 : (M2 128 128).Iotas .tc 32 [1]) : IVec (M2 128 128) 1 :=
  cmpi .sle (iota .tc (M2 128 128) 32 [0] h0) (iota .tc (M2 128 128) 32 [1] h1)

theorem masked_apply (h0 h1) (w) (D : FVec Ideal (M2 128 128) .f32) (k l : Fin 128) :
    masked (vis h0 h1) w D (ix2 k l) = if k.val ≤ l.val then D (ix2 k l) else Ideal.ofBits .f32 w := by
  pointwise [masked, vis]
  have hk := k.isLt; have hl := l.isLt
  have e : (IntOp.cmpi CmpIPredicate.sle (BitVec.ofNat 32 k.val) (BitVec.ofNat 32 l.val)) = if k.val ≤ l.val then 1#1 else 0#1 := by
    show BitVec.ofBool _ = _
    rw [BitVec.sle_eq_decide, BitVec.toInt_eq_toNat_of_lt, BitVec.toInt_eq_toNat_of_lt]
    · rw [BitVec.toNat_ofNat, BitVec.toNat_ofNat, Nat.mod_eq_of_lt (show k.val < 2 ^ 32 by omega),
        Nat.mod_eq_of_lt (show l.val < 2 ^ 32 by omega)]
      by_cases h : k.val ≤ l.val
      · rw [if_pos h, decide_eq_true (by exact_mod_cast h)]; rfl
      · rw [if_neg h, decide_eq_false (by exact_mod_cast h)]; rfl
    · simp; omega
    · simp; omega
  refine (congrArg (fun m => Scalar.select m _ _) e).trans ?_
  split <;> rfl

/-- The earlier keys of a column block over its diagonal ones. -/
def joined (O : FVec Ideal (M2 n 128) .f32) (D : FVec Ideal (M2 128 128) .f32)
    (h : Shape.Concatenates [M2 n 128, M2 128 128] (M2 N 128) 0) : FVec Ideal (M2 N 128) .f32 :=
  concatenate (M2 N 128) 0 [⟨M2 n 128, O⟩, ⟨M2 128 128, D⟩] h

theorem joined_apply (O : FVec Ideal (M2 n 128) .f32) (D : FVec Ideal (M2 128 128) .f32) (h) (hN : N = n + 128) (k : Fin N) (l : Fin 128) :
    joined O D h (ix2 k l) = if hk : k.val < n then O (ix2 ⟨k.val, hk⟩ l) else D (ix2 ⟨k.val - n, by omega⟩ l) := by
  pointwise [joined]

/-- Zeros appended to a column block of weights. -/
def padded {φ : FTy} (p : FVec Ideal (M2 n 128) φ) (z : Ideal φ)
    (h : Shape.Concatenates [M2 n 128, M2 128 128] (M2 N 128) 0) : FVec Ideal (M2 N 128) φ :=
  concatenate (M2 N 128) 0 [⟨M2 n 128, p⟩, ⟨M2 128 128, broadcast (M2 128 128) z⟩] h

/-- Two column blocks side by side. -/
def beside {φ : FTy} {R : ℕ} (a b : FVec Ideal (M2 R 128) φ) (h : Shape.Concatenates [M2 R 128, M2 R 128] (M2 R 256) 1) :
    FVec Ideal (M2 R 256) φ :=
  concatenate (M2 R 256) 1 [⟨M2 R 128, a⟩, ⟨M2 R 128, b⟩] h

theorem beside_apply {φ : FTy} {R : ℕ} (a b : FVec Ideal (M2 R 128) φ) (h) (k : Fin R) (c : Fin 256) :
    beside a b h (ix2 k c) = if hc : c.val < 128 then a (ix2 k ⟨c.val, hc⟩) else b (ix2 k ⟨c.val - 128, by omega⟩) := by
  pointwise [beside]

/-- The weights of a column block. -/
def weights (xm : FVec Ideal (M2 N 128) .f32) (mx : FVec Ideal (M2 1 128) .f32) (h : (M2 1 128).Broadcasts (M2 N 128)) : FVec Ideal (M2 N 128) .f32 :=
  exp2 (subf xm (broadcastTo (M2 N 128) mx h))

theorem weights_apply (xm : FVec Ideal (M2 N 128) .f32) (mx h) (X : ℕ → EReal) (i : ℕ) (k : Fin N) (l : Fin 128)
    (hx : xm (ix2 k l) = if k.val ≤ i then X k.val else ⊥) (hm : mx (ix2 0 l) = top X i) :
    weights xm mx h (ix2 k l) = if k.val ≤ i then wt X i k.val else 0 := by
  pointwise [weights]
  rw [hx, hm]
  split
  · rfl
  · rw [EReal.bot_sub]; rfl

/-- The largest magnitude of a score of the block's queries. -/
def scoreRow (mx mn : FVec Ideal (M2 1 128) .f32) (c : Ideal .f32) : FVec Ideal (M2 1 128) .f32 :=
  mulf (maximumf mx (subf (broadcast (M2 1 128) (Scalar.ofBits .f32 0x00000000#32)) mn)) (broadcast (M2 1 128) c)

theorem scoreRow_apply (mx mn c) (l : Fin 128) :
    scoreRow mx mn c (ix2 0 l) = max (mx (ix2 0 l)) (0 - mn (ix2 0 l)) * c := by
  pointwise [scoreRow]

/-- A word over the sum of the weights. -/
def over (w : BitVec 32) (s : FVec Ideal (M2 1 128) .f32) : FVec Ideal (M2 1 128) .f32 :=
  divf (broadcast (M2 1 128) (Scalar.ofBits .f32 w)) s

theorem over_apply (w s) (l : Fin 128) : over w s (ix2 0 l) = Ideal.div (Ideal.ofBits .f32 w) (s (ix2 0 l)) := by
  pointwise [over]

/-- The dequantised scores of a column block. -/
def scaled (a : FVec Ideal (M2 N 128) .f32) (s : FVec Ideal (M2 1 1) .f32) (h : (M2 1 1).Broadcasts (M2 N 128)) :
    FVec Ideal (M2 N 128) .f32 :=
  mulf a (broadcastTo (M2 N 128) s h)

theorem scaled_apply (a : FVec Ideal (M2 N 128) .f32) (s h) (k : Fin N) (l : Fin 128) :
    scaled a s h (ix2 k l) = a (ix2 k l) * s (ix2 0 0) := by
  pointwise [scaled]

/-- Weights times a row. -/
def timesRow (a : FVec Ideal (M2 N 128) .f32) (s : FVec Ideal (M2 1 128) .f32) (h : (M2 1 128).Broadcasts (M2 N 128)) :
    FVec Ideal (M2 N 128) .f32 :=
  mulf a (broadcastTo (M2 N 128) s h)

theorem timesRow_apply (a : FVec Ideal (M2 N 128) .f32) (s h) (k : Fin N) (l : Fin 128) :
    timesRow a s h (ix2 k l) = a (ix2 k l) * s (ix2 0 l) := by
  pointwise [timesRow]

end Columns

section Outputs

variable {R P : ℕ}

/-- A matrix product. -/
def product {φ ψ : FTy} (V : FVec Ideal (M2 R P) φ) (p : FVec Ideal (M2 P 256) ψ) : FVec Ideal (M2 R 256) .f32 :=
  matmul (DotDims.plain R P 256) none V p (constant (M2 R 256) .f32 0x00000000#32)

theorem product_apply {φ ψ : FTy} (V : FVec Ideal (M2 R P) φ) (p : FVec Ideal (M2 P 256) ψ) (r : Fin R) (c : Fin 256) :
    product V p (ix2 r c) = ∑ k : Fin P, V (ix2 r k) * p (ix2 k c) := by
  unfold product
  refine (Ideal.matmul_plain_apply none V p _ r c).trans ?_
  exact (congrArg (· + _) Ideal.ofBits_zero_f32).trans (zero_add _)

/-- The largest magnitude of an output of the block's queries. -/
def outRow (o : FVec Ideal (M2 64 256) .f32) (inv : FVec Ideal (M2 1 256) .f32)
    (h : (M2 64 256).Reduces [0] (M1 256)) (hc : (M1 256).ShapeCasts (M2 1 256)) : FVec Ideal (M2 1 256) .f32 :=
  mulf (shapeCast (M2 1 256) (multiReduction .maximumf [0] (M1 256) (absf o) 0xFF800000#32 h (.inl rfl) rfl) hc) inv

theorem outRow_apply (o inv h hc) (c : Fin 256) :
    outRow o inv h hc (ix2 0 c) = (Finset.univ.sup fun d : Fin 64 => max (o (ix2 d c)) (-o (ix2 d c))) * inv (ix2 0 c) := by
  pointwise [outRow]
  rw [fold_max]; rfl

/-- The dequantised outputs of the block's queries. -/
def outTile (o : FVec Ideal (M2 64 256) .f32) (s : FVec Ideal (M2 1 1) .f32) (h : (M2 1 1).Broadcasts (M2 64 256)) : FVec Ideal (M2 64 256) .f32 :=
  mulf o (broadcastTo (M2 64 256) (mulf s (broadcast (M2 1 1) (Scalar.ofBits .f32 0x3B124925#32))) h)

theorem outTile_apply (o s h) (d : Fin 64) (c : Fin 256) :
    outTile o s h (ix2 d c) = o (ix2 d c) * (s (ix2 0 0) * Ideal.ofBits .f32 0x3B124925#32) := by
  pointwise [outTile]

end Outputs
end Cert.Tile
-- ==== Proof.Column.lean ====
module

public import proofs.«01_k».proof.Proof.Tile

@[expose] public section

noncomputable section

/-! # A column block, from the scores to the outputs

A tile holds the scores of 256 queries against `H` keys. Its left and right halves are worked through one after the other. A half
with `n` earlier keys has `N = n + 128` keys that some of its queries see. -/

namespace Cert.Tile

open Idealize.ShloMosaic

variable {H n N : ℕ}

/-- The piece of a tile of scores that starts at key `o` and query `j`. -/
def piece (m : ℕ) (o j : ℕ) (X : FVec Ideal (M2 H 256) .f32) (h : (M2 H 256).Slices ![o, j] (M2 m 128)) : FVec Ideal (M2 m 128) .f32 :=
  extractStridedSlice (M2 m 128) ![o, j] X h

theorem piece_apply (m o j : ℕ) (X : FVec Ideal (M2 H 256) .f32) (h) (f : ℕ → ℕ → EReal)
    (hX : ∀ (k : Fin H) (c : Fin 256), X (ix2 k c) = f k.val c.val) (k : Fin m) (l : Fin 128) :
    piece m o j X h (ix2 k l) = f (o + k.val) (j + l.val) := by
  pointwise [piece]
  rw [hX]

/-- What a column block of scores holds: the visible scores, and `⊥` at the hidden keys. -/
def Shows (x : FVec Ideal (M2 N 128) .f32) (n : ℕ) (X : Fin 128 → ℕ → EReal) : Prop :=
  ∀ (k : Fin N) (l : Fin 128), x (ix2 k l) = if k.val ≤ n + l.val then X l k.val else ⊥

theorem top_word : Ideal.ofBits .f32 0x7F800000#32 = ⊤ := by simp [Ideal.ofBits, Ideal.ieee]
theorem bot_word : Ideal.ofBits .f32 0xFF800000#32 = ⊥ := by simp [Ideal.ofBits, Ideal.ieee]

/-! ## The visible scores -/

theorem shows_first {D : FVec Ideal (M2 128 128) .f32} {X : Fin 128 → ℕ → EReal} (h0 h1)
    (hD : ∀ k l : Fin 128, D (ix2 k l) = X l k.val) : Shows (masked (vis h0 h1) 0xFF800000#32 D) 0 X := by
  intro k l
  rw [masked_apply, hD, bot_word, Nat.zero_add]

theorem shows_later {O : FVec Ideal (M2 n 128) .f32} {D : FVec Ideal (M2 128 128) .f32} {X : Fin 128 → ℕ → EReal} (h0 h1 h)
    (hN : N = n + 128) (hO : ∀ (k : Fin n) (l : Fin 128), O (ix2 k l) = X l k.val)
    (hD : ∀ k l : Fin 128, D (ix2 k l) = X l (n + k.val)) :
    Shows (N := N) (joined O (masked (vis h0 h1) 0xFF800000#32 D) h) n X := by
  intro k l
  rw [joined_apply _ _ _ hN]
  have hk := k.isLt
  split
  · rename_i h'
    rw [hO, if_pos (by omega)]
  · rename_i h'
    rw [masked_apply, hD, bot_word]
    simp only [show n + (k.val - n) = k.val by omega]
    by_cases hl : k.val ≤ n + l.val
    · rw [if_pos hl, if_pos (by omega)]
    · rw [if_neg hl, if_neg (by omega)]

theorem colMax_shows {x : FVec Ideal (M2 N 128) .f32} {X : Fin 128 → ℕ → EReal} (hx : Shows x n X) (hN : N = n + 128) (h hc) (l : Fin 128) :
    colMax x h hc (ix2 0 l) = top (X l) (n + l.val) := by
  rw [colMax_apply]
  have hl := l.isLt
  rw [← sup_masked (N := N) (X l) (n + l.val) (by omega)]
  exact Finset.sup_congr rfl fun k _ => hx k l

theorem colMax_later {O : FVec Ideal (M2 n 128) .f32} {D : FVec Ideal (M2 128 128) .f32} {X : Fin 128 → ℕ → EReal} (h0 h1 ho hc hd)
    (hO : ∀ (k : Fin n) (l : Fin 128), O (ix2 k l) = X l k.val)
    (hD : ∀ k l : Fin 128, D (ix2 k l) = X l (n + k.val)) (l : Fin 128) :
    maximumf (colMax (masked (vis h0 h1) 0xFF800000#32 D) hd hc) (colMax O ho hc) (ix2 0 l) = top (X l) (n + l.val) := by
  refine Eq.trans ?_ (top_split (X l) n l.val l.isLt)
  show max _ _ = _
  rw [colMax_apply, colMax_apply]
  congr 1
  · exact Finset.sup_congr rfl fun k _ => by rw [masked_apply, hD, bot_word]
  · exact Finset.sup_congr rfl fun k _ => hO k l

theorem colMin_first {D : FVec Ideal (M2 128 128) .f32} {X : Fin 128 → ℕ → EReal} (h0 h1 h hc)
    (hD : ∀ k l : Fin 128, D (ix2 k l) = X l k.val) (l : Fin 128) :
    colMin (masked (vis h0 h1) 0x7F800000#32 D) h hc (ix2 0 l) = bot (X l) l.val := by
  rw [colMin_apply, ← inf_masked (N := 128) (X l) l.val l.isLt]
  exact Finset.inf_congr rfl fun k _ => by rw [masked_apply, hD, top_word]

theorem colMin_later {O : FVec Ideal (M2 n 128) .f32} {D : FVec Ideal (M2 128 128) .f32} {X : Fin 128 → ℕ → EReal} (h0 h1 ho hc hd)
    (hO : ∀ (k : Fin n) (l : Fin 128), O (ix2 k l) = X l k.val)
    (hD : ∀ k l : Fin 128, D (ix2 k l) = X l (n + k.val)) (l : Fin 128) :
    minimumf (colMin (masked (vis h0 h1) 0x7F800000#32 D) hd hc) (colMin O ho hc) (ix2 0 l) = bot (X l) (n + l.val) := by
  refine Eq.trans ?_ (bot_split (X l) n l.val l.isLt)
  show min _ _ = _
  rw [colMin_apply, colMin_apply]
  congr 1
  · exact Finset.inf_congr rfl fun k _ => by rw [masked_apply, hD, top_word]
  · exact Finset.inf_congr rfl fun k _ => hO k l

/-! ## The weights -/

/-- What a column block of weights holds: the value of a visible key, and zero at the hidden keys. -/
def Holds {φ : FTy} (p : FVec Ideal (M2 N 128) φ) (n : ℕ) (W : Fin 128 → ℕ → EReal) : Prop :=
  ∀ (k : Fin N) (l : Fin 128), p (ix2 k l) = if k.val ≤ n + l.val then W l k.val else 0

theorem weights_holds {x : FVec Ideal (M2 N 128) .f32} {X : Fin 128 → ℕ → EReal} (hx : Shows x n X) {mx : FVec Ideal (M2 1 128) .f32}
    (hm : ∀ l : Fin 128, mx (ix2 0 l) = top (X l) (n + l.val)) (h) :
    Holds (weights x mx h) n fun l k => wt (X l) (n + l.val) k :=
  fun k l => weights_apply x mx h (X l) (n + l.val) k l (hx k l) (hm l)

theorem colSum_holds {p : FVec Ideal (M2 N 128) .f32} {W : Fin 128 → ℕ → EReal} (hp : Holds p n W) (hN : N = n + 128) (h hc) (l : Fin 128) :
    colSum p h hc (ix2 0 l) = ∑ k ∈ Finset.range (n + l.val + 1), W l k := by
  rw [colSum_apply]
  have hl := l.isLt
  rw [← sum_masked (N := N) (W l) (n + l.val) (by omega)]
  exact Finset.sum_congr rfl fun k _ => hp k l

theorem timesRow_holds {p : FVec Ideal (M2 N 128) .f32} {W : Fin 128 → ℕ → EReal} (hp : Holds p n W) {s : FVec Ideal (M2 1 128) .f32}
    {u : Fin 128 → EReal} (hs : ∀ l : Fin 128, s (ix2 0 l) = u l) (h) :
    Holds (timesRow p s h) n fun l k => W l k * u l := by
  intro k l
  rw [timesRow_apply, hp, hs]
  split
  · rfl
  · exact zero_mul _

theorem scaled_shows {a : FVec Ideal (M2 N 128) .f32} {X : Fin 128 → ℕ → EReal} (ha : Shows a n X) {s : FVec Ideal (M2 1 1) .f32}
    {r : EReal} (hs : s (ix2 0 0) = r) (hr : 0 < r) (h) : Shows (scaled a s h) n fun l k => X l k * r := by
  intro k l
  rw [scaled_apply, ha, hs]
  split
  · rfl
  · exact EReal.bot_mul_of_pos hr

theorem padded_holds {φ : FTy} {p : FVec Ideal (M2 N 128) φ} {W : Fin 128 → ℕ → EReal} (hp : Holds p n W) {z : Ideal φ} (hz : z = (0 : EReal))
    (hN : N = n + 128) (hH : H = N + 128) (h) : Holds (N := H) (padded p z h) n W := by
  intro k l
  have hk := k.isLt; have hl := l.isLt
  have e : padded p z h (ix2 k l) = if hk' : k.val < N then p (ix2 ⟨k.val, hk'⟩ l) else z := by
    pointwise [padded]
  rw [e]
  split
  · exact hp _ _
  · rw [if_neg (by omega)]; exact hz

/-- The weights of the two halves of a tile side by side: query `c` of the tile sees the keys up to `o + c`. -/
theorem beside_holds {φ : FTy} {a b : FVec Ideal (M2 H 128) φ} {o : ℕ} {W : Fin 256 → ℕ → EReal}
    (ha : Holds a o fun l => W ⟨l.val, by omega⟩) (hb : Holds b (o + 128) fun l => W ⟨128 + l.val, by omega⟩) (h) (k : Fin H) (c : Fin 256) :
    beside a b h (ix2 k c) = if k.val ≤ o + c.val then W c k.val else 0 := by
  rw [beside_apply]
  split
  · exact ha _ _
  · rename_i hc
    rw [hb]
    simp only [show o + 128 + (c.val - 128) = o + c.val by omega, show 128 + (c.val - 128) = c.val by omega]

theorem beside_row {a b : FVec Ideal (M2 1 128) .f32} {u : Fin 256 → EReal}
    (ha : ∀ l : Fin 128, a (ix2 0 l) = u ⟨l.val, by omega⟩) (hb : ∀ l : Fin 128, b (ix2 0 l) = u ⟨128 + l.val, by omega⟩) (h) (c : Fin 256) :
    beside a b h (ix2 0 c) = u c := by
  rw [beside_apply]
  split
  · exact ha _
  · rename_i hc
    rw [hb]
    simp only [show 128 + (c.val - 128) = c.val by omega]

/-- The product of the values with a tile of weights: a sum over the visible keys. -/
theorem product_holds {φ ψ : FTy} {R o : ℕ} {V : FVec Ideal (M2 R H) φ} {p : FVec Ideal (M2 H 256) ψ} {f : Fin R → ℕ → EReal} {W : Fin 256 → ℕ → EReal}
    (hH : H = o + 256) (hV : ∀ (d : Fin R) (k : Fin H), V (ix2 d k) = f d k.val)
    (hp : ∀ (k : Fin H) (c : Fin 256), p (ix2 k c) = if k.val ≤ o + c.val then W c k.val else 0) (d : Fin R) (c : Fin 256) :
    product V p (ix2 d c) = ∑ k ∈ Finset.range (o + c.val + 1), f d k * W c k := by
  rw [product_apply]
  have hc := c.isLt
  rw [← sum_masked (N := H) (fun k => f d k * W c k) (o + c.val) (by omega)]
  refine Finset.sum_congr rfl fun k _ => ?_
  rw [hV, hp]
  split
  · rfl
  · exact mul_zero _

end Cert.Tile
-- ==== Proof.Half.lean ====
module

public import proofs.«01_k».proof.Proof.Column

@[expose] public section

noncomputable section

/-! # The two halves of a tile

`Late` is a half of 128 queries with `n` earlier keys; `Early` is the first half of the first tile, which has none. `j` is the first
query of the half within the tile. -/

namespace Cert.Tile

open Idealize.ShloMosaic

variable {H n N j : ℕ}

/-- The shape facts of a half without earlier keys. -/
structure Early (H : ℕ) : Prop where
  sd : (M2 H 256).Slices ![0, 0] (M2 128 128)
  rd : (M2 128 128).Reduces [0] (M1 128)
  hc : (M1 128).ShapeCasts (M2 1 128)
  hb : (M2 1 128).Broadcasts (M2 128 128)
  h1 : (M2 1 1).Broadcasts (M2 128 128)
  i0 : (M2 128 128).Iotas .tc 32 [0]
  i1 : (M2 128 128).Iotas .tc 32 [1]

/-- The shape facts of a half with `n` earlier keys. -/
structure Late (H n N j : ℕ) : Prop where
  hN : N = n + 128
  sd : (M2 H 256).Slices ![n, j] (M2 128 128)
  so : (M2 H 256).Slices ![0, j] (M2 n 128)
  rd : (M2 128 128).Reduces [0] (M1 128)
  ro : (M2 n 128).Reduces [0] (M1 128)
  rN : (M2 N 128).Reduces [0] (M1 128)
  hc : (M1 128).ShapeCasts (M2 1 128)
  hj : Shape.Concatenates [M2 n 128, M2 128 128] (M2 N 128) 0
  hb : (M2 1 128).Broadcasts (M2 N 128)
  h1 : (M2 1 1).Broadcasts (M2 N 128)
  i0 : (M2 128 128).Iotas .tc 32 [0]
  i1 : (M2 128 128).Iotas .tc 32 [1]

/-! ## From the visible scores on -/

section Rest

/-- The weights, rounded. -/
def probs (xm : FVec Ideal (M2 N 128) .f32) (mx : FVec Ideal (M2 1 128) .f32) (hb : (M2 1 128).Broadcasts (M2 N 128)) : FVec Ideal (M2 N 128) .bf16 :=
  truncf .bf16 (weights xm mx hb) (by decide)
/-- The reciprocal of the sum of the weights. -/
def recip (xm : FVec Ideal (M2 N 128) .f32) (mx : FVec Ideal (M2 1 128) .f32) (hb : (M2 1 128).Broadcasts (M2 N 128))
    (rN : (M2 N 128).Reduces [0] (M1 128)) (hc : (M1 128).ShapeCasts (M2 1 128)) : FVec Ideal (M2 1 128) .f32 :=
  over 0x3F800000#32 (colSum (weights xm mx hb) rN hc)
/-- The weights of the dequantised scores, scaled to 448. -/
def probs8 (am : FVec Ideal (M2 N 128) .f32) (s : FVec Ideal (M2 1 1) .f32) (h1 : (M2 1 1).Broadcasts (M2 N 128)) (hb : (M2 1 128).Broadcasts (M2 N 128))
    (rN : (M2 N 128).Reduces [0] (M1 128)) (hc : (M1 128).ShapeCasts (M2 1 128)) : FVec Ideal (M2 N 128) .fp8e4m3 :=
  truncf .fp8e4m3 (timesRow (weights (scaled am s h1) (colMax (scaled am s h1) rN hc) hb)
    (over 0x43E00000#32 (colSum (weights (scaled am s h1) (colMax (scaled am s h1) rN hc) hb) rN hc)) hb) (by decide)

theorem probs_holds {xm : FVec Ideal (M2 N 128) .f32} {X : Fin 128 → ℕ → EReal} (hx : Shows xm n X) {mx : FVec Ideal (M2 1 128) .f32}
    (hm : ∀ l : Fin 128, mx (ix2 0 l) = top (X l) (n + l.val)) (hb) :
    Holds (probs xm mx hb) n fun l k => wt (X l) (n + l.val) k :=
  fun k l => weights_holds hx hm hb k l

theorem recip_apply {xm : FVec Ideal (M2 N 128) .f32} {X : Fin 128 → ℕ → EReal} (hx : Shows xm n X) {mx : FVec Ideal (M2 1 128) .f32}
    (hm : ∀ l : Fin 128, mx (ix2 0 l) = top (X l) (n + l.val)) (hN : N = n + 128) (hb rN hc) (l : Fin 128) :
    recip xm mx hb rN hc (ix2 0 l) = Ideal.div (Ideal.ofBits .f32 0x3F800000#32) (wsum (X l) (n + l.val)) := by
  unfold recip
  rw [over_apply, colSum_holds (weights_holds hx hm hb) hN]
  rfl

theorem probs8_holds {am : FVec Ideal (M2 N 128) .f32} {X : Fin 128 → ℕ → EReal} (hx : Shows am n X) {s : FVec Ideal (M2 1 1) .f32}
    {r : EReal} (hs : s (ix2 0 0) = r) (hr : 0 < r) (hN : N = n + 128) (h1 hb rN hc) :
    Holds (probs8 am s h1 hb rN hc) n fun l k => wt (fun k => X l k * r) (n + l.val) k
      * Ideal.div (Ideal.ofBits .f32 0x43E00000#32) (wsum (fun k => X l k * r) (n + l.val)) := by
  have hsc := scaled_shows hx hs hr h1
  have hw := weights_holds hsc (fun l => colMax_shows hsc hN rN hc l) hb
  refine timesRow_holds (s := over _ _) hw (fun l => ?_) hb
  rw [over_apply, colSum_holds hw hN]
  rfl

end Rest

/-! ## The first half of the first tile -/

namespace Early
variable (F : Early H) (X : FVec Ideal (M2 H 256) .f32)

def diag : FVec Ideal (M2 128 128) .f32 := piece 128 0 0 X F.sd
def xm : FVec Ideal (M2 128 128) .f32 := masked (vis F.i0 F.i1) 0xFF800000#32 (F.diag X)
def mx : FVec Ideal (M2 1 128) .f32 := colMax (F.xm X) F.rd F.hc
def mn : FVec Ideal (M2 1 128) .f32 := colMin (masked (vis F.i0 F.i1) 0x7F800000#32 (F.diag X)) F.rd F.hc
def row (c : Ideal .f32) : FVec Ideal (M2 1 128) .f32 := scoreRow (F.mx X) (F.mn X) c
def p : FVec Ideal (M2 128 128) .bf16 := probs (F.xm X) (F.mx X) F.hb
def inv : FVec Ideal (M2 1 128) .f32 := recip (F.xm X) (F.mx X) F.hb F.rd F.hc
def p8 (s : FVec Ideal (M2 1 1) .f32) : FVec Ideal (M2 128 128) .fp8e4m3 := probs8 (F.xm X) s F.h1 F.hb F.rd F.hc

variable {X} {f : ℕ → ℕ → EReal}
theorem diag_apply (hX : ∀ (k : Fin H) (c : Fin 256), X (ix2 k c) = f c.val k.val) (k l : Fin 128) : F.diag X (ix2 k l) = f l.val k.val := by
  rw [diag, piece_apply 128 0 0 X F.sd (fun k c => f c k) hX, Nat.zero_add, Nat.zero_add]
theorem xm_shows (hX : ∀ (k : Fin H) (c : Fin 256), X (ix2 k c) = f c.val k.val) : Shows (F.xm X) 0 fun l => f l.val :=
  shows_first (X := fun l => f l.val) _ _ (F.diag_apply hX)
theorem mx_apply (hX : ∀ (k : Fin H) (c : Fin 256), X (ix2 k c) = f c.val k.val) (l : Fin 128) : F.mx X (ix2 0 l) = top (f l.val) (0 + l.val) :=
  colMax_shows (F.xm_shows hX) rfl _ _ l
theorem row_apply (hX : ∀ (k : Fin H) (c : Fin 256), X (ix2 k c) = f c.val k.val) (c) (l : Fin 128) :
    F.row X c (ix2 0 l) = max (top (f l.val) l.val) (0 - bot (f l.val) l.val) * c := by
  rw [row, scoreRow_apply, F.mx_apply hX, mn, colMin_first (X := fun l => f l.val) _ _ _ _ (F.diag_apply hX), Nat.zero_add]
theorem p_holds (hX : ∀ (k : Fin H) (c : Fin 256), X (ix2 k c) = f c.val k.val) :
    Holds (F.p X) 0 fun l k => wt (f l.val) (0 + l.val) k := probs_holds (F.xm_shows hX) (F.mx_apply hX) _
theorem inv_apply (hX : ∀ (k : Fin H) (c : Fin 256), X (ix2 k c) = f c.val k.val) (l : Fin 128) :
    F.inv X (ix2 0 l) = Ideal.div (Ideal.ofBits .f32 0x3F800000#32) (wsum (f l.val) (0 + l.val)) :=
  recip_apply (F.xm_shows hX) (F.mx_apply hX) rfl _ _ _ l
theorem p8_holds (hX : ∀ (k : Fin H) (c : Fin 256), X (ix2 k c) = f c.val k.val) {s : FVec Ideal (M2 1 1) .f32} {r : EReal}
    (hs : s (ix2 0 0) = r) (hr : 0 < r) :
    Holds (F.p8 X s) 0 fun l k => wt (fun k => f l.val k * r) (0 + l.val) k
      * Ideal.div (Ideal.ofBits .f32 0x43E00000#32) (wsum (fun k => f l.val k * r) (0 + l.val)) :=
  probs8_holds (F.xm_shows hX) hs hr rfl _ _ _ _
end Early

/-! ## Every other half -/

namespace Late
variable (F : Late H n N j) (X : FVec Ideal (M2 H 256) .f32)

def diag : FVec Ideal (M2 128 128) .f32 := piece 128 n j X F.sd
def old : FVec Ideal (M2 n 128) .f32 := piece n 0 j X F.so
def vm : FVec Ideal (M2 128 128) .f32 := masked (vis F.i0 F.i1) 0xFF800000#32 (F.diag X)
def xm : FVec Ideal (M2 N 128) .f32 := joined (F.old X) (F.vm X) F.hj
def mx : FVec Ideal (M2 1 128) .f32 := maximumf (colMax (F.vm X) F.rd F.hc) (colMax (F.old X) F.ro F.hc)
def mn : FVec Ideal (M2 1 128) .f32 :=
  minimumf (colMin (masked (vis F.i0 F.i1) 0x7F800000#32 (F.diag X)) F.rd F.hc) (colMin (F.old X) F.ro F.hc)
def row (c : Ideal .f32) : FVec Ideal (M2 1 128) .f32 := scoreRow (F.mx X) (F.mn X) c
def p : FVec Ideal (M2 N 128) .bf16 := probs (F.xm X) (F.mx X) F.hb
def inv : FVec Ideal (M2 1 128) .f32 := recip (F.xm X) (F.mx X) F.hb F.rN F.hc
def p8 (s : FVec Ideal (M2 1 1) .f32) : FVec Ideal (M2 N 128) .fp8e4m3 := probs8 (F.xm X) s F.h1 F.hb F.rN F.hc

variable {X} {f : ℕ → ℕ → EReal}
theorem diag_apply (hX : ∀ (k : Fin H) (c : Fin 256), X (ix2 k c) = f c.val k.val) (k l : Fin 128) :
    F.diag X (ix2 k l) = f (j + l.val) (n + k.val) := by
  rw [diag, piece_apply 128 n j X F.sd (fun k c => f c k) hX]
theorem old_apply (hX : ∀ (k : Fin H) (c : Fin 256), X (ix2 k c) = f c.val k.val) (k : Fin n) (l : Fin 128) :
    F.old X (ix2 k l) = f (j + l.val) k.val := by
  rw [old, piece_apply n 0 j X F.so (fun k c => f c k) hX, Nat.zero_add]
theorem xm_shows (hX : ∀ (k : Fin H) (c : Fin 256), X (ix2 k c) = f c.val k.val) : Shows (F.xm X) n fun l => f (j + l.val) :=
  shows_later (X := fun l => f (j + l.val)) _ _ _ F.hN (F.old_apply hX) (F.diag_apply hX)
theorem mx_apply (hX : ∀ (k : Fin H) (c : Fin 256), X (ix2 k c) = f c.val k.val) (l : Fin 128) :
    F.mx X (ix2 0 l) = top (f (j + l.val)) (n + l.val) :=
  colMax_later (X := fun l => f (j + l.val)) _ _ _ _ _ (F.old_apply hX) (F.diag_apply hX) l
theorem row_apply (hX : ∀ (k : Fin H) (c : Fin 256), X (ix2 k c) = f c.val k.val) (c) (l : Fin 128) :
    F.row X c (ix2 0 l) = max (top (f (j + l.val)) (n + l.val)) (0 - bot (f (j + l.val)) (n + l.val)) * c := by
  rw [row, scoreRow_apply, F.mx_apply hX, mn,
    colMin_later (X := fun l => f (j + l.val)) _ _ _ _ _ (F.old_apply hX) (F.diag_apply hX)]
theorem p_holds (hX : ∀ (k : Fin H) (c : Fin 256), X (ix2 k c) = f c.val k.val) :
    Holds (F.p X) n fun l k => wt (f (j + l.val)) (n + l.val) k := probs_holds (F.xm_shows hX) (F.mx_apply hX) _
theorem inv_apply (hX : ∀ (k : Fin H) (c : Fin 256), X (ix2 k c) = f c.val k.val) (l : Fin 128) :
    F.inv X (ix2 0 l) = Ideal.div (Ideal.ofBits .f32 0x3F800000#32) (wsum (f (j + l.val)) (n + l.val)) :=
  recip_apply (F.xm_shows hX) (F.mx_apply hX) F.hN _ _ _ l
theorem p8_holds (hX : ∀ (k : Fin H) (c : Fin 256), X (ix2 k c) = f c.val k.val) {s : FVec Ideal (M2 1 1) .f32} {r : EReal}
    (hs : s (ix2 0 0) = r) (hr : 0 < r) :
    Holds (F.p8 X s) n fun l k => wt (fun k => f (j + l.val) k * r) (n + l.val) k
      * Ideal.div (Ideal.ofBits .f32 0x43E00000#32) (wsum (fun k => f (j + l.val) k * r) (n + l.val)) :=
  probs8_holds (F.xm_shows hX) hs hr F.hN _ _ _ _
end Late

/-! ## A whole tile -/

section Whole

variable {o : ℕ} {X : FVec Ideal (M2 H 256) .f32} {f : ℕ → ℕ → EReal}

/-- The largest score magnitudes of a tile's queries, from those of its halves. -/
def rowsOf (a b : FVec Ideal (M2 1 128) .f32) (h : Shape.Concatenates [M2 1 128, M2 1 128] (M2 1 256) 1) : FVec Ideal (M2 1 256) .f32 := beside a b h

/-- The products of a tile, from the weights of its halves. -/
def outOf {φ ψ : FTy} {R : ℕ} (V : FVec Ideal (M2 R H) φ) (a b : FVec Ideal (M2 H 128) ψ)
    (h : Shape.Concatenates [M2 H 128, M2 H 128] (M2 H 256) 1) : FVec Ideal (M2 R 256) .f32 :=
  product V (beside a b h)

theorem outOf_apply {φ ψ : FTy} {R : ℕ} {V : FVec Ideal (M2 R H) φ} {a b : FVec Ideal (M2 H 128) ψ} {g : Fin R → ℕ → EReal} {W : ℕ → ℕ → EReal}
    (hH : H = o + 256) (hV : ∀ (d : Fin R) (k : Fin H), V (ix2 d k) = g d k.val)
    (ha : Holds a o fun l => W l.val) (hb : Holds b (o + 128) fun l => W (128 + l.val)) (h) (d : Fin R) (c : Fin 256) :
    outOf V a b h (ix2 d c) = ∑ k ∈ Finset.range (o + c.val + 1), g d k * W c.val k :=
  product_holds (W := fun c => W c.val) hH hV (fun k c => beside_holds (W := fun c => W c.val) ha hb h k c) d c

/-- The largest output magnitudes of a tile's queries. -/
theorem outRow_of {V : FVec Ideal (M2 64 H) .bf16} {a b : FVec Ideal (M2 H 128) .bf16} {u v : FVec Ideal (M2 1 128) .f32}
    {g : Fin 64 → ℕ → EReal} {W : ℕ → ℕ → EReal} {I : ℕ → EReal}
    (hH : H = o + 256) (hV : ∀ (d : Fin 64) (k : Fin H), V (ix2 d k) = g d k.val)
    (ha : Holds a o fun l => W l.val) (hb : Holds b (o + 128) fun l => W (128 + l.val))
    (hu : ∀ l : Fin 128, u (ix2 0 l) = I l.val) (hv : ∀ l : Fin 128, v (ix2 0 l) = I (128 + l.val)) (h h' hr hc) (c : Fin 256) :
    outRow (outOf V a b h) (beside u v h') hr hc (ix2 0 c)
      = (Finset.univ.sup fun d => max (∑ k ∈ Finset.range (o + c.val + 1), g d k * W c.val k)
          (-∑ k ∈ Finset.range (o + c.val + 1), g d k * W c.val k)) * I c.val := by
  rw [outRow_apply, beside_row (u := fun c => I c.val) hu hv]
  simp only [outOf_apply hH hV ha hb]

end Whole

end Cert.Tile
-- ==== Proof.Softmax.lean ====
module

public import proofs.«01_k».proof.Proof.Tile

@[expose] public section

noncomputable section

/-! # The softmax by powers of two and by exponentials

The kernel scales the scores by `1 / log 2`, takes powers of two and divides by the sum once at the end; the reference takes
exponentials of the scores and divides every weight. On finite scores the two agree. -/

namespace Cert.Tile

open Idealize.ShloMosaic

/-- The weight of key `k` for query `i`, as an exponential. -/
def et (S : ℕ → EReal) (i k : ℕ) : EReal := Ideal.exp (S k - top S i)
/-- The sum of the weights. -/
def esum (S : ℕ → EReal) (i : ℕ) : EReal := ∑ k ∈ Finset.range (i + 1), et S i k

theorem coe_sum {ι : Type*} (t : Finset ι) (f : ι → ℝ) : ∑ k ∈ t, (f k : EReal) = ((∑ k ∈ t, f k : ℝ) : EReal) := by
  classical
  induction t using Finset.induction with
  | empty => simp
  | insert a t ha ih => rw [Finset.sum_insert ha, Finset.sum_insert ha, ih, EReal.coe_add]

theorem coe_max (a b : ℝ) : ((max a b : ℝ) : EReal) = max (a : EReal) (b : EReal) :=
  (show Monotone fun x : ℝ => (x : EReal) from fun _ _ h => EReal.coe_le_coe_iff.mpr h).map_max

/-- The maximum is reached at a visible key. -/
theorem top_mem (S : ℕ → EReal) (i : ℕ) : ∃ j, j ≤ i ∧ top S i = S j ∧ ∀ k, k ≤ i → S k ≤ S j := by
  obtain ⟨j, hj, e⟩ := Finset.exists_mem_eq_sup (Finset.range (i + 1)) ⟨0, by simp⟩ S
  refine ⟨j, by have := Finset.mem_range.mp hj; omega, e, fun k hk => ?_⟩
  rw [← e]
  exact Finset.le_sup (f := S) (Finset.mem_range.mpr (by omega))

/-- The minimum is reached at a visible key. -/
theorem bot_mem (S : ℕ → EReal) (i : ℕ) : ∃ j, j ≤ i ∧ bot S i = S j ∧ ∀ k, k ≤ i → S j ≤ S k := by
  obtain ⟨j, hj, e⟩ := Finset.exists_mem_eq_inf (Finset.range (i + 1)) ⟨0, by simp⟩ S
  refine ⟨j, by have := Finset.mem_range.mp hj; omega, e, fun k hk => ?_⟩
  rw [← e]
  exact Finset.inf_le (f := S) (Finset.mem_range.mpr (by omega))

theorem top_eq_of (S : ℕ → EReal) (i j : ℕ) (hj : j ≤ i) (h : ∀ k, k ≤ i → S k ≤ S j) : top S i = S j :=
  le_antisymm (Finset.sup_le fun k hk => h k (by have := Finset.mem_range.mp hk; omega))
    (Finset.le_sup (f := S) (Finset.mem_range.mpr (by omega)))

theorem bot_eq_of (S : ℕ → EReal) (i j : ℕ) (hj : j ≤ i) (h : ∀ k, k ≤ i → S j ≤ S k) : bot S i = S j :=
  le_antisymm (Finset.inf_le (f := S) (Finset.mem_range.mpr (by omega)))
    (Finset.le_inf fun k hk => h k (by have := Finset.mem_range.mp hk; omega))

variable {S X : ℕ → EReal} {s : ℕ → ℝ} {i : ℕ}

/-- Scaling by `1 / log 2` scales the maximum. -/
theorem top_scaled (hS : ∀ k, k ≤ i → S k = (s k : EReal)) (hX : ∀ k, k ≤ i → X k = ((s k * (Real.log 2)⁻¹ : ℝ) : EReal)) :
    ∃ M : ℝ, top S i = (M : EReal) ∧ top X i = ((M * (Real.log 2)⁻¹ : ℝ) : EReal) ∧ (∀ k, k ≤ i → s k ≤ M) := by
  have hl : 0 < (Real.log 2)⁻¹ := inv_pos.mpr (Real.log_pos (by norm_num))
  obtain ⟨j, hj, e, hm⟩ := top_mem S i
  have hm' : ∀ k, k ≤ i → s k ≤ s j := fun k hk => by
    have := hm k hk; rw [hS k hk, hS j hj] at this; exact_mod_cast this
  refine ⟨s j, by rw [e, hS j hj], ?_, hm'⟩
  rw [top_eq_of X i j hj fun k hk => ?_, hX j hj]
  rw [hX k hk, hX j hj]
  exact_mod_cast mul_le_mul_of_nonneg_right (hm' k hk) hl.le

/-- Scaling by `1 / log 2` scales the minimum. -/
theorem bot_scaled (hS : ∀ k, k ≤ i → S k = (s k : EReal)) (hX : ∀ k, k ≤ i → X k = ((s k * (Real.log 2)⁻¹ : ℝ) : EReal)) :
    ∃ M : ℝ, bot S i = (M : EReal) ∧ bot X i = ((M * (Real.log 2)⁻¹ : ℝ) : EReal) := by
  have hl : 0 < (Real.log 2)⁻¹ := inv_pos.mpr (Real.log_pos (by norm_num))
  obtain ⟨j, hj, e, hm⟩ := bot_mem S i
  have hm' : ∀ k, k ≤ i → s j ≤ s k := fun k hk => by
    have := hm k hk; rw [hS k hk, hS j hj] at this; exact_mod_cast this
  refine ⟨s j, by rw [e, hS j hj], ?_⟩
  rw [bot_eq_of X i j hj fun k hk => ?_, hX j hj]
  rw [hX k hk, hX j hj]
  exact_mod_cast mul_le_mul_of_nonneg_right (hm' k hk) hl.le

/-- A power of two of a scaled score is the exponential of the score. -/
theorem wt_eq_et (hS : ∀ k, k ≤ i → S k = (s k : EReal)) (hX : ∀ k, k ≤ i → X k = ((s k * (Real.log 2)⁻¹ : ℝ) : EReal))
    (k : ℕ) (hk : k ≤ i) : ∃ r : ℝ, 0 < r ∧ et S i k = (r : EReal) ∧ wt X i k = (r : EReal) := by
  have hl : Real.log 2 ≠ 0 := (Real.log_pos (by norm_num)).ne'
  obtain ⟨M, e, e', _⟩ := top_scaled hS hX
  refine ⟨Real.exp (s k - M), Real.exp_pos _, ?_, ?_⟩
  · unfold et; rw [e, hS k hk, ← EReal.coe_sub]; rfl
  · unfold wt; rw [e', hX k hk, ← EReal.coe_sub]
    show ((Real.rpow 2 _ : ℝ) : EReal) = _
    congr 1
    rw [Real.rpow_eq_pow, Real.rpow_def_of_pos (by norm_num)]
    congr 1; field_simp

theorem wsum_eq_esum (hS : ∀ k, k ≤ i → S k = (s k : EReal)) (hX : ∀ k, k ≤ i → X k = ((s k * (Real.log 2)⁻¹ : ℝ) : EReal)) :
    ∃ r : ℝ, 0 < r ∧ esum S i = (r : EReal) ∧ wsum X i = (r : EReal) := by
  choose! r hr he hw using fun k (hk : k ≤ i) => wt_eq_et hS hX k hk
  have hmem : ∀ k ∈ Finset.range (i + 1), k ≤ i := fun k hk => by have := Finset.mem_range.mp hk; omega
  refine ⟨∑ k ∈ Finset.range (i + 1), r k, Finset.sum_pos (fun k hk => hr k (hmem k hk)) ⟨0, by simp⟩, ?_, ?_⟩
  · unfold esum; rw [Finset.sum_congr rfl fun k hk => he k (hmem k hk), coe_sum]
  · unfold wsum; rw [Finset.sum_congr rfl fun k hk => hw k (hmem k hk), coe_sum]

theorem div_coe (x : EReal) (r : ℝ) (hr : 0 < r) : Ideal.div x (r : EReal) = x * ((r⁻¹ : ℝ) : EReal) := by
  unfold Ideal.div
  rw [if_neg (by exact_mod_cast hr.ne'), EReal.coe_inv]

/-- A positive real factor goes through a sum of extended reals. -/
theorem sum_mul_pos {ι : Type*} (t : Finset ι) (f : ι → EReal) (r : ℝ) (hr : 0 < r) :
    (∑ k ∈ t, f k) * (r : EReal) = ∑ k ∈ t, f k * (r : EReal) := by
  classical
  induction t using Finset.induction with
  | empty => simp
  | insert a t ha ih =>
    rw [Finset.sum_insert ha, Finset.sum_insert ha, EReal.right_distrib_of_nonneg_of_ne_top (by exact_mod_cast hr.le) (EReal.coe_ne_top r), ih]

theorem sup_mul_pos {ι : Type*} (t : Finset ι) (ht : t.Nonempty) (f : ι → EReal) (r : ℝ) (hr : 0 < r) :
    (t.sup f) * (r : EReal) = t.sup fun k => f k * (r : EReal) := by
  have hm : ∀ a b : EReal, a ≤ b → a * (r : EReal) ≤ b * (r : EReal) := fun a b h =>
    mul_le_mul_of_nonneg_right h (by exact_mod_cast hr.le)
  obtain ⟨j, hj, e⟩ := Finset.exists_mem_eq_sup t ht f
  rw [e]
  exact le_antisymm (Finset.le_sup (f := fun k => f k * (r : EReal)) hj)
    (Finset.sup_le fun k hk => hm _ _ (by rw [← e]; exact Finset.le_sup hk))

/-- The largest magnitude of a visible score. -/
theorem rows_scaled (hS : ∀ k, k ≤ i → S k = (s k : EReal)) (hX : ∀ k, k ≤ i → X k = ((s k * (Real.log 2)⁻¹ : ℝ) : EReal)) :
    max (top X i) (0 - bot X i) * ((Real.log 2 : ℝ) : EReal) = top (fun k => max (S k) (-S k)) i := by
  have hlp : 0 < Real.log 2 := Real.log_pos (by norm_num)
  have hl : Real.log 2 ≠ 0 := hlp.ne'
  obtain ⟨j, hj, e, hm⟩ := top_mem S i
  obtain ⟨j', hj', e', hm'⟩ := bot_mem S i
  obtain ⟨M, hM, hM', _⟩ := top_scaled hS hX
  obtain ⟨m, hm1, hm2⟩ := bot_scaled hS hX
  rw [hM', hm2, show ((0 : EReal) - ((m * (Real.log 2)⁻¹ : ℝ) : EReal)) = ((-(m * (Real.log 2)⁻¹) : ℝ) : EReal) by simp,
    ← coe_max, ← EReal.coe_mul, max_mul_of_nonneg _ _ hlp.le]
  rw [show M * (Real.log 2)⁻¹ * Real.log 2 = M by field_simp, show -(m * (Real.log 2)⁻¹) * Real.log 2 = -m by field_simp]
  rw [coe_max, EReal.coe_neg, ← hM, ← hm1, e, e']
  unfold top
  refine le_antisymm (max_le ?_ ?_) (Finset.sup_le fun k hk => ?_)
  · exact (le_max_left _ _).trans (Finset.le_sup (f := fun k => max (S k) (-S k)) (Finset.mem_range.mpr (by omega : j < i + 1)))
  · exact (le_max_right _ _).trans (Finset.le_sup (f := fun k => max (S k) (-S k)) (Finset.mem_range.mpr (by omega : j' < i + 1)))
  · have hk' : k ≤ i := by have := Finset.mem_range.mp hk; omega
    exact max_le_max (hm k hk') (EReal.neg_le_neg_iff.mpr (hm' k hk'))

/-- The largest magnitude of an output: dividing at the end is dividing every weight. -/
theorem outRow_scaled (hS : ∀ k, k ≤ i → S k = (s k : EReal)) (hX : ∀ k, k ≤ i → X k = ((s k * (Real.log 2)⁻¹ : ℝ) : EReal))
    (V : Fin 64 → ℕ → EReal) :
    (Finset.univ.sup fun d : Fin 64 => max (∑ k ∈ Finset.range (i + 1), V d k * wt X i k) (-∑ k ∈ Finset.range (i + 1), V d k * wt X i k))
        * Ideal.div 1 (wsum X i)
      = Finset.univ.sup fun d : Fin 64 => max (∑ k ∈ Finset.range (i + 1), Ideal.div (et S i k) (esum S i) * V d k)
          (-∑ k ∈ Finset.range (i + 1), Ideal.div (et S i k) (esum S i) * V d k) := by
  obtain ⟨r, hr, e, e'⟩ := wsum_eq_esum hS hX
  have hr' : 0 < r⁻¹ := inv_pos.mpr hr
  rw [e, e', div_coe _ r hr, one_mul, sup_mul_pos _ ⟨0, Finset.mem_univ _⟩ _ _ hr']
  refine Finset.sup_congr rfl fun d _ => ?_
  have hd : (∑ k ∈ Finset.range (i + 1), V d k * wt X i k) * ((r⁻¹ : ℝ) : EReal)
      = ∑ k ∈ Finset.range (i + 1), Ideal.div (et S i k) (r : EReal) * V d k := by
    rw [sum_mul_pos _ _ _ hr']
    refine Finset.sum_congr rfl fun k hk => ?_
    obtain ⟨w, _, h1, h2⟩ := wt_eq_et hS hX k (by have := Finset.mem_range.mp hk; omega)
    rw [h1, h2, div_coe _ r hr, mul_assoc, mul_comm]
  have hmm : ∀ a b : EReal, max a b * ((r⁻¹ : ℝ) : EReal) = max (a * ((r⁻¹ : ℝ) : EReal)) (b * ((r⁻¹ : ℝ) : EReal)) := fun a b =>
    (show Monotone fun x : EReal => x * ((r⁻¹ : ℝ) : EReal) from fun a b h =>
      mul_le_mul_of_nonneg_right h (by exact_mod_cast hr'.le)).map_max
  rw [hmm, EReal.neg_mul, hd]

/-- A dequantised output. -/
theorem out8_scaled (hS : ∀ k, k ≤ i → S k = (s k : EReal)) (hX : ∀ k, k ≤ i → X k = ((s k * (Real.log 2)⁻¹ : ℝ) : EReal))
    (V : ℕ → EReal) (c : EReal) :
    (∑ k ∈ Finset.range (i + 1), V k * (wt X i k * Ideal.div c (wsum X i)))
      = ∑ k ∈ Finset.range (i + 1), (Ideal.div (et S i k) (esum S i) * c) * V k := by
  obtain ⟨r, hr, e, e'⟩ := wsum_eq_esum hS hX
  rw [e, e']
  refine Finset.sum_congr rfl fun k hk => ?_
  obtain ⟨w, _, h1, h2⟩ := wt_eq_et hS hX k (by have := Finset.mem_range.mp hk; omega)
  rw [h1, h2, div_coe _ r hr, div_coe _ r hr]
  ac_rfl

end Cert.Tile
-- ==== Proof.Spec.lean ====
module

public import proofs.«01_k».proof.Proof.Softmax

@[expose] public section

noncomputable section

/-! # What is computed

The rotated queries and keys, the largest magnitudes, the quantiser, the attention of the exact values and of the dequantised
codes, as functions of coordinates over the extended reals. -/

namespace Cert.Spec

open Idealize.ShloMosaic Cert.Tile

/-- The inputs: queries, keys and values by batch, row, head and channel; cosines and sines by batch, row and channel pair. -/
structure Args where
  q : Fin 2 → Fin 768 → Fin 45 → Fin 64 → EReal
  k : Fin 2 → Fin 768 → Fin 5 → Fin 64 → EReal
  v : Fin 2 → Fin 768 → Fin 5 → Fin 64 → EReal
  c : Fin 2 → Fin 768 → Fin 32 → EReal
  s : Fin 2 → Fin 768 → Fin 32 → EReal

/-- The group of a head. -/
def grp (h : Fin 45) : Fin 5 := ⟨h.val / 9, by omega⟩

/-- The rotation of one vector of 64 channels. -/
def rot (x : Fin 64 → EReal) (c s : Fin 32 → EReal) (d : Fin 64) : EReal :=
  if h : d.val < 32 then x d * c ⟨d.val, h⟩ - x ⟨d.val + 32, by omega⟩ * s ⟨d.val, h⟩
  else x d * c ⟨d.val - 32, by omega⟩ + x ⟨d.val - 32, by omega⟩ * s ⟨d.val - 32, by omega⟩

/-- The largest magnitude. -/
def mag (f : Fin 64 → EReal) : EReal := Finset.univ.sup fun d => max (f d) (-f d)
/-- The largest of all rows. -/
def all (f : Fin 2 → Fin 768 → EReal) : EReal := Finset.univ.sup fun b => Finset.univ.sup fun s => f b s
/-- The scale of a largest magnitude: one 448th of it, one when it is zero. -/
def scaleOf (a : EReal) : EReal := if a = 0 then 1 else a * Ideal.ofBits .f32 0x3B124925#32
/-- The quantiser: divide by the scale, clip to ±448. -/
def quant (x s : EReal) : EReal := min (Ideal.ofBits .f32 0x43E00000#32) (max (Ideal.ofBits .f32 0xC3E00000#32) (Ideal.div x s))
/-- A function of the 768 keys, zero past them. -/
def ext (f : Fin 768 → EReal) (k : ℕ) : EReal := if h : k < 768 then f ⟨k, h⟩ else 0

variable (A : Args)

def qr (b : Fin 2) (s : Fin 768) (h : Fin 45) (d : Fin 64) : EReal := rot (A.q b s h) (A.c b s) (A.s b s) d
def kr (b : Fin 2) (s : Fin 768) (g : Fin 5) (d : Fin 64) : EReal := rot (A.k b s g) (A.c b s) (A.s b s) d
def rowQ (b : Fin 2) (s : Fin 768) (h : Fin 45) : EReal := mag (qr A b s h)
def rowK (b : Fin 2) (s : Fin 768) (g : Fin 5) : EReal := mag (kr A b s g)
def rowV (b : Fin 2) (s : Fin 768) (g : Fin 5) : EReal := mag (A.v b s g)
def amaxQ (h : Fin 45) : EReal := all fun b s => rowQ A b s h
def amaxK (g : Fin 5) : EReal := all fun b s => rowK A b s g
def amaxV (g : Fin 5) : EReal := all fun b s => rowV A b s g
def scaleQ (h : Fin 45) : EReal := scaleOf (amaxQ A h)
def scaleK (g : Fin 5) : EReal := scaleOf (amaxK A g)
def scaleV (g : Fin 5) : EReal := scaleOf (amaxV A g)
def codeQ (b : Fin 2) (s : Fin 768) (h : Fin 45) (d : Fin 64) : EReal := quant (qr A b s h d) (scaleQ A h)
def codeK (b : Fin 2) (s : Fin 768) (g : Fin 5) (d : Fin 64) : EReal := quant (kr A b s g d) (scaleK A g)
def codeV (b : Fin 2) (s : Fin 768) (g : Fin 5) (d : Fin 64) : EReal := quant (A.v b s g d) (scaleV A g)

/-- The score of query `i` against a key. -/
def score (b : Fin 2) (h : Fin 45) (i : Fin 768) : ℕ → EReal :=
  ext fun k => (∑ d : Fin 64, qr A b i h d * kr A b k (grp h) d) * Ideal.ofBits .f32 0x3E000000#32
def rowS (b : Fin 2) (i : Fin 768) (h : Fin 45) : EReal := top (fun k => max (score A b h i k) (-score A b h i k)) i
/-- One output channel. -/
def out (b : Fin 2) (i : Fin 768) (h : Fin 45) (d : Fin 64) : EReal :=
  ∑ k ∈ Finset.range (i.val + 1), Ideal.div (et (score A b h i) i k) (esum (score A b h i) i) * ext (fun k => A.v b k (grp h) d) k
def rowO (b : Fin 2) (i : Fin 768) (h : Fin 45) : EReal := mag (out A b i h)
def amaxS (h : Fin 45) : EReal := all fun b s => rowS A b s h
def amaxO (h : Fin 45) : EReal := all fun b s => rowO A b s h
def scaleS (h : Fin 45) : EReal := scaleOf (amaxS A h)
def scaleO (h : Fin 45) : EReal := scaleOf (amaxO A h)

/-- The score of dequantised codes. -/
def score8 (b : Fin 2) (h : Fin 45) (i : Fin 768) : ℕ → EReal :=
  ext fun k => (∑ d : Fin 64, codeQ A b i h d * codeK A b k (grp h) d) * (scaleQ A h * scaleK A (grp h) * Ideal.ofBits .f32 0x3E000000#32)
/-- One output channel of the dequantised attention. -/
def out8 (b : Fin 2) (i : Fin 768) (h : Fin 45) (d : Fin 64) : EReal :=
  (∑ k ∈ Finset.range (i.val + 1), (Ideal.div (et (score8 A b h i) i k) (esum (score8 A b h i) i) * Ideal.ofBits .f32 0x43E00000#32)
    * ext (fun k => codeV A b k (grp h) d) k) * (scaleV A (grp h) * Ideal.ofBits .f32 0x3B124925#32)
def codeO (b : Fin 2) (i : Fin 768) (h : Fin 45) (d : Fin 64) : EReal := quant (out8 A b i h d) (scaleO A h)

end Cert.Spec
-- ==== Proof.Body.lean ====
module

public import Idealize.ShloMosaic.Lib.ValueLayout
public import proofs.«01_k».proof.Proof.Half
public import proofs.«01_k».proof.Proof.Spec

@[expose] public section

noncomputable section

/-! # One head

The operations the kernel applies to the blocks of one head, and each read at an element. -/

namespace Cert.Body

open Idealize.ShloMosaic Cert.Tile

/-- A three-axis shape with one leading 1. -/
abbrev M3 (a b : ℕ) : Shape := ⟨3, ![1, a, b]⟩
/-- A four-axis shape with two leading 1s. -/
abbrev M4 (a b : ℕ) : Shape := ⟨4, ![1, 1, a, b]⟩

/-! ## Rotation, magnitudes, quantiser -/

/-- The rotation of a block of vectors, one vector in a column. -/
def rope (x : FVec Ideal (M4 64 768) .bf16) (c s : FVec Ideal (M3 32 768) .f32) : FVec Ideal (M2 64 768) .bf16 :=
  truncf .bf16 (concatenate (M2 64 768) 0
    [⟨M2 32 768, subf
      (mulf (extf .f32 (extractStridedSlice (M2 32 768) ![0, 0] (shapeCast (M2 64 768) x (by decide)) (by decide)) (by decide)) (shapeCast (M2 32 768) c (by decide)))
      (mulf (extf .f32 (extractStridedSlice (M2 32 768) ![32, 0] (shapeCast (M2 64 768) x (by decide)) (by decide)) (by decide)) (shapeCast (M2 32 768) s (by decide)))⟩,
     ⟨M2 32 768, addf
      (mulf (extf .f32 (extractStridedSlice (M2 32 768) ![32, 0] (shapeCast (M2 64 768) x (by decide)) (by decide)) (by decide)) (shapeCast (M2 32 768) c (by decide)))
      (mulf (extf .f32 (extractStridedSlice (M2 32 768) ![0, 0] (shapeCast (M2 64 768) x (by decide)) (by decide)) (by decide)) (shapeCast (M2 32 768) s (by decide)))⟩]
    (show Shape.Concatenates [M2 32 768, M2 32 768] (M2 64 768) 0 by decide)) (by decide)

theorem rope_apply (x c s) (d : Fin 64) (i : Fin 768) :
    rope x c s (ix2 d i) = Spec.rot (fun d => x (ix4 0 0 d i)) (fun e => c (ix3 0 e i)) (fun e => s (ix3 0 e i)) d := by
  pointwise [rope, Spec.rot]
  have hd := d.isLt
  split
  · simp only [Nat.add_comm 32]
  · simp only [show 32 + (d.val - 32) = d.val by omega]

/-- The largest magnitude of each column. -/
def rowMax (x : FVec Ideal (M2 64 768) .bf16) : FVec Ideal (M2 1 768) .f32 :=
  extf .f32 (shapeCast (M2 1 768) (multiReduction .maximumf [0] (M1 768) (absf x) 0xFF80#16 (by decide) (.inr rfl) rfl) (by decide)) (by decide)

theorem fold_max_bf {ι : Type*} (s : Finset ι) (f : ι → EReal) :
    Finset.fold max (Ideal.ofBits .bf16 0xFF80#16) f s = s.sup f := by
  rw [show Ideal.ofBits .bf16 0xFF80#16 = ⊥ by simp [Ideal.ofBits, Ideal.ieee]]; rfl

theorem rowMax_apply (x) (i : Fin 768) : rowMax x (ix2 0 i) = Spec.mag fun d => x (ix2 d i) := by
  pointwise [rowMax, Spec.mag]
  exact fold_max_bf _ _

/-- The largest entry of two rows. -/
def allMax (a b : FVec Ideal (M2 1 768) .f32) : FVec Ideal (M2 1 1) .f32 :=
  shapeCast (M2 1 1) (multiReduction .maximumf [1] (M1 1) (maximumf a b) 0xFF800000#32 (by decide) (.inl rfl) rfl) (by decide)

theorem allMax_apply {a b : FVec Ideal (M2 1 768) .f32} {f : Fin 2 → Fin 768 → EReal} (ha : ∀ i, a (ix2 0 i) = f 0 i) (hb : ∀ i, b (ix2 0 i) = f 1 i) :
    allMax a b (ix2 0 0) = Spec.all f := by
  pointwise [allMax, Spec.all]
  rw [fold_max]
  rw [show (Finset.univ : Finset (Fin 2)) = {0, 1} from rfl, Finset.sup_insert, Finset.sup_singleton, ← Finset.sup_sup]
  exact Finset.sup_congr rfl fun i _ => by rw [Pi.sup_apply, ← ha, ← hb]

/-- The scale of a largest magnitude. -/
def scale (a : FVec Ideal (M2 1 1) .f32) : FVec Ideal (M2 1 1) .f32 :=
  select (cmpf .oeq a (broadcast (M2 1 1) (Scalar.ofBits .f32 0x00000000#32))) (broadcast (M2 1 1) (Scalar.ofBits .f32 0x3F800000#32))
    (mulf a (broadcast (M2 1 1) (Scalar.ofBits .f32 0x3B124925#32)))

theorem scale_apply (a) : scale a (ix2 0 0) = Spec.scaleOf (a (ix2 0 0)) := by
  pointwise [scale, Spec.scaleOf]

/-- The quantiser on a block. -/
def codes {a b : ℕ} (x : FVec Ideal (M2 a b) .f32) (s : FVec Ideal (M2 1 1) .f32) (h : (M2 1 1).Broadcasts (M2 a b)) : FVec Ideal (M2 a b) .fp8e4m3 :=
  truncf .fp8e4m3 (minimumf (broadcast (M2 a b) (Scalar.ofBits .f32 0x43E00000#32))
    (maximumf (broadcast (M2 a b) (Scalar.ofBits .f32 0xC3E00000#32)) (divf x (broadcastTo (M2 a b) s h)))) (by decide)

theorem codes_apply {a b : ℕ} (x : FVec Ideal (M2 a b) .f32) (s h) (d : Fin a) (i : Fin b) :
    codes x s h (ix2 d i) = Spec.quant (x (ix2 d i)) (s (ix2 0 0)) := by
  pointwise [codes, Spec.quant]

/-- A vector with one lane replaced. -/
def put {n : ℕ} (at_ : BitVec 32) (v : FVec Ideal (M2 1 1) .f32) (old : FVec Ideal (M2 1 n) .f32)
    (hi : (M2 1 n).Iotas .tc 32 [1]) (hb : (M2 1 1).Broadcasts (M2 1 n)) (hc : (M2 1 n).ShapeCasts (M2 1 n)) (h1 : (M2 1 1).ShapeCasts (M2 1 1)) :
    FVec Ideal (M2 1 n) .f32 :=
  select (cmpi .eq (iota .tc (M2 1 n) 32 [1] hi) (broadcast (M2 1 n) at_)) (broadcastTo (M2 1 n) (shapeCast (M2 1 1) v h1) hb)
    (shapeCast (M2 1 n) old hc)

theorem put_apply {n : ℕ} (hn : n < 2 ^ 32) (t : ℕ) (ht : t < 2 ^ 32) (v : FVec Ideal (M2 1 1) .f32) (old : FVec Ideal (M2 1 n) .f32) (hi hb hc h1) (l : Fin n) :
    put (BitVec.ofNat 32 t) v old hi hb hc h1 (ix2 0 l) = if l.val = t then v (ix2 0 0) else old (ix2 0 l) := by
  have e1 : shapeCast (M2 1 n) old hc = old := shapeCast_self _ _
  have e2 : shapeCast (M2 1 1) v h1 = v := shapeCast_self _ _
  unfold put
  rw [e1, e2]
  pointwise []
  have e : IntOp.cmpi CmpIPredicate.eq (BitVec.ofNat 32 l.val) (BitVec.ofNat 32 t) = if l.val = t then 1#1 else 0#1 := by
    show BitVec.ofBool _ = _
    have : (BitVec.ofNat 32 l.val = BitVec.ofNat 32 t) ↔ l.val = t := by
      constructor
      · intro h
        have := congrArg BitVec.toNat h
        rwa [BitVec.toNat_ofNat, BitVec.toNat_ofNat, Nat.mod_eq_of_lt (show l.val < 2 ^ 32 by omega), Nat.mod_eq_of_lt ht] at this
      · intro h; rw [h]
    by_cases h : l.val = t
    · rw [if_pos h, h]; simp
    · rw [if_neg h, show (BitVec.ofNat 32 l.val == BitVec.ofNat 32 t) = false from beq_eq_false_iff_ne.mpr (fun e => h (this.mp e))]; rfl
  refine (congrArg (fun m => Scalar.select m _ _) e).trans ?_
  split <;> rfl

/-! ## Products -/

/-- Three copies of a block of queries, one below the other. -/
def thrice (q : FVec Ideal (M2 64 768) .bf16) : FVec Ideal (M2 192 768) .bf16 :=
  concatenate (M2 192 768) 0 [⟨M2 64 768, q⟩, ⟨M2 64 768, q⟩, ⟨M2 64 768, q⟩] (show Shape.Concatenates [M2 64 768, M2 64 768, M2 64 768] (M2 192 768) 0 by decide)

theorem thrice_apply (q) (e : Fin 192) (i : Fin 768) (h : e.val < 64) : thrice q (ix2 e i) = q (ix2 ⟨e.val, h⟩ i) := by
  pointwise [thrice]
  simp only [h, dite_true]

/-- The product of `H` keys with 256 queries from `lo` on. -/
def dots {H n : ℕ} {φ : FTy} (lo : ℕ) (K : FVec Ideal (M3 H n) φ) (Q : FVec Ideal (M2 n 768) φ) (hc : (M3 H n).ShapeCasts (M2 H n))
    (hs : (M2 n 768).Slices ![0, lo] (M2 n 256)) : FVec Ideal (M2 H 256) .f32 :=
  product (shapeCast (M2 H n) K hc) (extractStridedSlice (M2 n 256) ![0, lo] Q hs)

theorem dots_apply {H n : ℕ} {φ : FTy} (lo : ℕ) (hlo : lo + 256 ≤ 768) (K : FVec Ideal (M3 H n) φ) (Q : FVec Ideal (M2 n 768) φ) (hc) (hs)
    (k : Fin H) (c : Fin 256) : dots lo K Q hc hs (ix2 k c) = ∑ e : Fin n, K (ix3 0 k e) * Q (ix2 e ⟨lo + c.val, by omega⟩) := by
  unfold dots
  rw [product_apply]
  refine Finset.sum_congr rfl fun e _ => ?_
  congr 1
  · exact congrArg K (ValueIdx.reshapeEquiv_ix2_1ab _ _ _)
  · pointwise []

/-- Three tiles of 256 side by side. -/
def cat3 {R : ℕ} (a b c : FVec Ideal (M2 R 256) .f32) (h : Shape.Concatenates [M2 R 256, M2 R 256, M2 R 256] (M2 R 768) 1) : FVec Ideal (M2 R 768) .f32 :=
  concatenate (M2 R 768) 1 [⟨M2 R 256, a⟩, ⟨M2 R 256, b⟩, ⟨M2 R 256, c⟩] h

theorem cat3_apply {R : ℕ} {a b c : FVec Ideal (M2 R 256) .f32} {f : Fin R → ℕ → EReal} (ha : ∀ d (l : Fin 256), a (ix2 d l) = f d (0 + l.val))
    (hb : ∀ d (l : Fin 256), b (ix2 d l) = f d (256 + l.val)) (hc : ∀ d (l : Fin 256), c (ix2 d l) = f d (512 + l.val)) (h) (d : Fin R) (i : Fin 768) :
    cat3 a b c h (ix2 d i) = f d i.val := by
  have hi := i.isLt
  pointwise [cat3]
  split
  · rw [ha]; simp
  · split
    · rw [hb]; congr 1; simp; omega
    · rw [hc]; congr 1; simp; omega

/-- Six halves side by side. -/
def cat6 (a b c d e f : FVec Ideal (M2 1 128) .f32) : FVec Ideal (M2 1 768) .f32 :=
  concatenate (M2 1 768) 1 [⟨M2 1 128, a⟩, ⟨M2 1 128, b⟩, ⟨M2 1 128, c⟩, ⟨M2 1 128, d⟩, ⟨M2 1 128, e⟩, ⟨M2 1 128, f⟩]
    (show Shape.Concatenates [M2 1 128, M2 1 128, M2 1 128, M2 1 128, M2 1 128, M2 1 128] (M2 1 768) 1 by decide)

theorem cat6_apply {a b c d e f : FVec Ideal (M2 1 128) .f32} {g : ℕ → EReal} (ha : ∀ l : Fin 128, a (ix2 0 l) = g (0 + l.val))
    (hb : ∀ l : Fin 128, b (ix2 0 l) = g (128 + l.val)) (hc : ∀ l : Fin 128, c (ix2 0 l) = g (256 + l.val))
    (hd : ∀ l : Fin 128, d (ix2 0 l) = g (384 + l.val)) (he : ∀ l : Fin 128, e (ix2 0 l) = g (512 + l.val))
    (hf : ∀ l : Fin 128, f (ix2 0 l) = g (640 + l.val)) (i : Fin 768) : cat6 a b c d e f (ix2 0 i) = g i.val := by
  have hi := i.isLt
  pointwise [cat6]
  split
  · rw [ha]; simp
  split
  · rw [hb]; congr 1; simp; omega
  split
  · rw [hc]; congr 1; simp; omega
  split
  · rw [hd]; congr 1; simp; omega
  split
  · rw [he]; congr 1; simp; omega
  · rw [hf]; congr 1; simp; omega

/-- Two rows as a block. -/
def two (a b : FVec Ideal (M2 1 768) .f32) : FVec Ideal (M3 2 768) .f32 :=
  shapeCast (M3 2 768) (concatenate (M2 2 768) 0 [⟨M2 1 768, a⟩, ⟨M2 1 768, b⟩] (show Shape.Concatenates [M2 1 768, M2 1 768] (M2 2 768) 0 by decide)) (by decide)

theorem two_apply {a b : FVec Ideal (M2 1 768) .f32} {f : Fin 2 → Fin 768 → EReal} (ha : ∀ i, a (ix2 0 i) = f 0 i) (hb : ∀ i, b (ix2 0 i) = f 1 i)
    (r : Fin 2) (i : Fin 768) : two a b (ix3 0 r i) = f r i := by
  fin_cases r
  · refine Eq.trans ?_ (ha i)
    pointwise [two]
  · refine Eq.trans ?_ (hb i)
    pointwise [two]

/-- The quantiser of three tiles. -/
def tiles (a b c : FVec Ideal (M2 64 256) .f32) (s : FVec Ideal (M2 1 1) .f32) : FVec Ideal (M4 64 768) .fp8e4m3 :=
  shapeCast (M4 64 768) (codes (cat3 a b c (show Shape.Concatenates [M2 64 256, M2 64 256, M2 64 256] (M2 64 768) 1 by decide)) s (by decide)) (by decide)

/-- The factor of the dequantised scores. -/
def factor (log2e : Ideal .f32) (q k : FVec Ideal (M2 1 1) .f32) : FVec Ideal (M2 1 1) .f32 :=
  mulf (mulf (mulf q k) (broadcast (M2 1 1) (Scalar.ofBits .f32 0x3E000000#32))) (broadcast (M2 1 1) log2e)

theorem factor_apply (log2e) (q k) :
    factor log2e q k (ix2 0 0) = q (ix2 0 0) * k (ix2 0 0) * Ideal.ofBits .f32 0x3E000000#32 * log2e := by
  pointwise [factor]

end Cert.Body
-- ==== Proof.Facts.lean ====
module

public import proofs.«01_k».proof.Proof.Spec

@[expose] public section

noncomputable section

/-! # Finite values

For finite queries and keys the scores, scales and codes are real numbers. -/

namespace Cert.Spec

open Idealize.ShloMosaic Cert.Tile

/-- A real number. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb, EReal.coe_add]⟩
theorem IsReal.sub {x y : EReal} : IsReal x → IsReal y → IsReal (x - y) := fun ⟨a, ha⟩ ⟨b, hb⟩ => ⟨a - b, by rw [ha, hb, EReal.coe_sub]⟩
theorem IsReal.mul {x y : EReal} : IsReal x → IsReal y → IsReal (x * y) := fun ⟨a, ha⟩ ⟨b, hb⟩ => ⟨a * b, by rw [ha, hb, EReal.coe_mul]⟩
theorem IsReal.neg {x : EReal} : IsReal x → IsReal (-x) := fun ⟨a, ha⟩ => ⟨-a, by rw [ha, EReal.coe_neg]⟩
theorem IsReal.max {x y : EReal} (hx : IsReal x) (hy : IsReal y) : IsReal (max x y) := by
  rcases max_choice x y with h | h <;> rw [h] <;> assumption
theorem IsReal.sum {ι : Type*} (t : Finset ι) {f : ι → EReal} (h : ∀ k, IsReal (f k)) : IsReal (∑ k ∈ t, f k) := by
  choose r hr using h
  exact ⟨∑ k ∈ t, r k, by rw [← coe_sum]; exact Finset.sum_congr rfl fun k _ => hr k⟩
theorem IsReal.sup {ι : Type*} (t : Finset ι) (ht : t.Nonempty) {f : ι → EReal} (h : ∀ k, IsReal (f k)) : IsReal (t.sup f) := by
  obtain ⟨j, _, e⟩ := Finset.exists_mem_eq_sup t ht f
  rw [e]; exact h j
theorem IsReal.between {x l u : EReal} (hl : IsReal l) (hu : IsReal u) (h1 : l ≤ x) (h2 : x ≤ u) : IsReal x := by
  obtain ⟨a, rfl⟩ := hl
  obtain ⟨b, rfl⟩ := hu
  exact ⟨x.toReal, (EReal.coe_toReal (ne_of_lt (lt_of_le_of_lt h2 (EReal.coe_lt_top b))) (ne_of_gt (lt_of_lt_of_le (EReal.bot_lt_coe a) h1))).symm⟩

/-- A positive real number. -/
def Pos (x : EReal) : Prop := ∃ r : ℝ, 0 < r ∧ x = (r : EReal)
theorem Pos.isReal {x : EReal} : Pos x → IsReal x := fun ⟨r, _, h⟩ => ⟨r, h⟩
theorem Pos.mul {x y : EReal} : Pos x → Pos y → Pos (x * y) := fun ⟨a, pa, ha⟩ ⟨b, pb, hb⟩ => ⟨a * b, mul_pos pa pb, by rw [ha, hb, EReal.coe_mul]⟩
theorem pos_of {x : EReal} (h : IsReal x) (h0 : 0 < x) : Pos x := by
  obtain ⟨r, rfl⟩ := h
  exact ⟨r, by exact_mod_cast h0, rfl⟩

theorem pos_448th : Pos (Ideal.ofBits .f32 0x3B124925#32) :=
  ⟨9586981 / 4294967296, by norm_num, by simp [Ideal.ofBits, Ideal.ieee]; rw [← EReal.coe_mul]; norm_num⟩
theorem pos_eighth : Ideal.ofBits .f32 0x3E000000#32 = ((1 / 8 : ℝ) : EReal) := by
  simp [Ideal.ofBits, Ideal.ieee]; rw [← EReal.coe_mul]; norm_num
theorem top_448 : Ideal.ofBits .f32 0x43E00000#32 = ((448 : ℝ) : EReal) := by
  simp [Ideal.ofBits, Ideal.ieee]; rw [← EReal.coe_mul]; norm_num
theorem bot_448 : Ideal.ofBits .f32 0xC3E00000#32 = ((-448 : ℝ) : EReal) := by
  simp [Ideal.ofBits, Ideal.ieee]; rw [← EReal.coe_mul]; norm_num

theorem quant_real (x s : EReal) : IsReal (quant x s) := by
  unfold quant
  rw [top_448, bot_448]
  exact IsReal.between ⟨-448, rfl⟩ ⟨448, rfl⟩ (le_min (by exact_mod_cast (by norm_num : (-448 : ℝ) ≤ 448)) (le_max_left _ _)) (min_le_left _ _)

theorem scaleOf_pos {a : EReal} (ha : IsReal a) (h0 : 0 ≤ a) : Pos (scaleOf a) := by
  unfold scaleOf
  split
  · exact ⟨1, one_pos, rfl⟩
  · next h => exact (pos_of ha (lt_of_le_of_ne h0 (Ne.symm h))).mul pos_448th

theorem mag_nonneg (f : Fin 64 → EReal) : 0 ≤ mag f := by
  refine le_trans ?_ (Finset.le_sup (f := fun d => max (f d) (-f d)) (Finset.mem_univ 0))
  rcases le_total 0 (f 0) with h | h
  · exact le_max_of_le_left h
  · exact le_max_of_le_right (EReal.neg_nonneg.mpr h)
theorem all_nonneg {f : Fin 2 → Fin 768 → EReal} (h : ∀ b s, 0 ≤ f b s) : 0 ≤ all f :=
  le_trans (h 0 0) (le_trans (Finset.le_sup (f := fun s => f 0 s) (Finset.mem_univ 0))
    (Finset.le_sup (f := fun b => Finset.univ.sup fun s => f b s) (Finset.mem_univ 0)))
theorem mag_real {f : Fin 64 → EReal} (h : ∀ d, IsReal (f d)) : IsReal (mag f) := IsReal.sup _ ⟨0, Finset.mem_univ _⟩ fun d => (h d).max (h d).neg
theorem all_real {f : Fin 2 → Fin 768 → EReal} (h : ∀ b s, IsReal (f b s)) : IsReal (all f) :=
  IsReal.sup _ ⟨0, Finset.mem_univ _⟩ fun b => IsReal.sup _ ⟨0, Finset.mem_univ _⟩ fun s => h b s

theorem rot_real {x : Fin 64 → EReal} {c s : Fin 32 → EReal} (hx : ∀ d, IsReal (x d)) (hc : ∀ e, IsReal (c e)) (hs : ∀ e, IsReal (s e)) (d : Fin 64) :
    IsReal (rot x c s d) := by
  unfold rot
  split
  · exact ((hx _).mul (hc _)).sub ((hx _).mul (hs _))
  · exact ((hx _).mul (hc _)).add ((hx _).mul (hs _))

theorem ext_val (f : Fin 768 → EReal) (k : Fin 768) : ext f k.val = f k := by unfold ext; rw [dif_pos k.isLt]
theorem ext_real {f : Fin 768 → EReal} (h : ∀ k, IsReal (f k)) (k : ℕ) : IsReal (ext f k) := by
  unfold ext; split
  · exact h _
  · exact ⟨0, rfl⟩

/-- Finite queries, keys and tables. -/
structure Finite (A : Args) : Prop where
  q : ∀ b s h d, IsReal (A.q b s h d)
  k : ∀ b s g d, IsReal (A.k b s g d)
  c : ∀ b s e, IsReal (A.c b s e)
  s : ∀ b s e, IsReal (A.s b s e)

variable {A : Args}

theorem Finite.qr (F : Finite A) (b s h d) : IsReal (qr A b s h d) := rot_real (F.q b s h) (F.c b s) (F.s b s) d
theorem Finite.kr (F : Finite A) (b s g d) : IsReal (kr A b s g d) := rot_real (F.k b s g) (F.c b s) (F.s b s) d
theorem Finite.scaleQ (F : Finite A) (h) : Pos (scaleQ A h) :=
  scaleOf_pos (all_real fun b s => mag_real fun d => F.qr b s h d) (all_nonneg fun _ _ => mag_nonneg _)
theorem Finite.scaleK (F : Finite A) (g) : Pos (scaleK A g) :=
  scaleOf_pos (all_real fun b s => mag_real fun d => F.kr b s g d) (all_nonneg fun _ _ => mag_nonneg _)
theorem Finite.score (F : Finite A) (b h i k) : IsReal (score A b h i k) :=
  ext_real (fun k => (IsReal.sum _ fun d => (F.qr _ _ _ _).mul (F.kr _ _ _ _)).mul ⟨_, pos_eighth⟩) k
theorem Finite.score8 (F : Finite A) (b h i k) : IsReal (score8 A b h i k) :=
  ext_real (fun k => (IsReal.sum _ fun d => (quant_real _ _).mul (quant_real _ _)).mul (((F.scaleQ _).isReal.mul (F.scaleK _).isReal).mul ⟨_, pos_eighth⟩)) k

/-- The sum of the weights of real scores is a positive real number. -/
theorem esum_pos {S : ℕ → EReal} (i : ℕ) (h : ∀ k, IsReal (S k)) : Pos (esum S i) := by
  choose s hs using h
  obtain ⟨r, hr, e, _⟩ := wsum_eq_esum (S := S) (X := fun k => ((s k * (Real.log 2)⁻¹ : ℝ) : EReal)) (i := i) (fun k _ => hs k) fun _ _ => rfl
  exact ⟨r, hr, e⟩

end Cert.Spec
-- ==== Proof.RefRead.lean ====
module

public import proofs.«01_k».proof.Proof.Gen.ReferenceIdeal.Read
public import proofs.«01_k».proof.Proof.Body
public import proofs.«01_k».proof.Proof.Facts

@[expose] public section

noncomputable section

/-! # The reference

Each array the reference computes, read at an element. -/

namespace Cert.RefRead

open Idealize.ShloMosaic Cert.Tile
open Cert.ReferenceIdeal Cert.ReferenceIdeal.Gen Cert.ReferenceIdeal.Read

/-! ## Largest entries along an axis -/

theorem reduce3 {a b c n : ℕ} {u : Shape} (x : (⟨4, ![a, b, c, n]⟩ : Shape).Idx → EReal) (z : u.Idx → EReal) (hu : 0 < u.numel) (hz : z (Shape.Idx.first hu) = ⊥)
    (h' : (⟨4, ![a, b, c, n]⟩ : Shape).ReducesTo [3] ⟨3, ![a, b, c]⟩) (h : (⟨4, ![a, b, c, n]⟩ : Shape).Reduces [3] ⟨3, ![a, b, c]⟩) (i : Fin a) (j : Fin b) (k : Fin c) :
    Host.reduce max x z h' hu (ix3 i j k) = Finset.univ.sup fun l : Fin n => x (ix4 i j k l) := by
  rw [Host.reduce_eq_fold_single _ _ _ h' h, hz]
  refine Finset.fold_congr fun l _ => congrArg x (funext fun a => ?_)
  match a with
  | ⟨0, _⟩ => rfl
  | ⟨1, _⟩ => rfl
  | ⟨2, _⟩ => rfl
  | ⟨3, _⟩ => rfl

theorem reduce4 {a b c d n : ℕ} {u : Shape} (x : (⟨5, ![a, b, c, d, n]⟩ : Shape).Idx → EReal) (z : u.Idx → EReal) (hu : 0 < u.numel) (hz : z (Shape.Idx.first hu) = ⊥)
    (h' : (⟨5, ![a, b, c, d, n]⟩ : Shape).ReducesTo [4] ⟨4, ![a, b, c, d]⟩) (h : (⟨5, ![a, b, c, d, n]⟩ : Shape).Reduces [4] ⟨4, ![a, b, c, d]⟩)
    (i : Fin a) (j : Fin b) (k : Fin c) (m : Fin d) :
    Host.reduce max x z h' hu (ix4 i j k m) = Finset.univ.sup fun l : Fin n => x (ix5 i j k m l) := by
  rw [Host.reduce_eq_fold_single _ _ _ h' h, hz]
  refine Finset.fold_congr fun l _ => congrArg x (funext fun a => ?_)
  match a with
  | ⟨0, _⟩ => rfl
  | ⟨1, _⟩ => rfl
  | ⟨2, _⟩ => rfl
  | ⟨3, _⟩ => rfl
  | ⟨4, _⟩ => rfl

theorem reduce01 {n : ℕ} {u : Shape} (x : (⟨3, ![2, 768, n]⟩ : Shape).Idx → EReal) (z : u.Idx → EReal) (hu : 0 < u.numel) (hz : z (Shape.Idx.first hu) = ⊥)
    (h' : (⟨3, ![2, 768, n]⟩ : Shape).ReducesTo [0, 1] ⟨1, ![n]⟩) (j : Fin n) :
    Host.reduce max x z h' hu (ix1 j) = Spec.all fun b s => x (ix3 b s j) := by
  rw [Host.reduce_eq_fold, hz]
  show Finset.sup _ x = _
  refine le_antisymm (Finset.sup_le fun i hi => ?_) (Finset.sup_le fun b _ => Finset.sup_le fun s _ => ?_)
  · have e := congrFun (Finset.mem_filter.mp hi).2 0
    have e' : i 2 = j := Fin.ext (congrArg Fin.val e)
    rw [ValueIdx.eq_ix3 i, e']
    exact le_trans (Finset.le_sup (f := fun s => x (ix3 (i 0) s j)) (Finset.mem_univ (i 1)))
      (Finset.le_sup (f := fun b => Finset.univ.sup fun s => x (ix3 b s j)) (Finset.mem_univ (i 0)))
  · refine Finset.le_sup (f := x) (Finset.mem_filter.mpr ⟨Finset.mem_univ _, funext fun a => ?_⟩)
    match a with
    | ⟨0, _⟩ => rfl

/-! ## Rotations, magnitudes, codes -/

section
variable (x0 : (⟨S2x768x45x64, .bf16⟩ : BufTy).Contents (Elt Ideal)) (x1 x2 : (⟨S2x768x5x64, .bf16⟩ : BufTy).Contents (Elt Ideal))
  (x3 : (⟨S2, .i32⟩ : BufTy).Contents (Elt Ideal))

/-- The inputs by coordinates, and the tables of cosines and sines. -/
def args : Spec.Args where
  q b s h d := x0 (ix4 b s h d)
  k b s g d := x1 (ix4 b s g d)
  v b s g d := x2 (ix4 b s g d)
  c b s e := val_main_v20 (F := Ideal) x3 (ix3 b s e)
  s b s e := val_main_v22 (F := Ideal) x3 (ix3 b s e)

theorem q_rot (b : Fin 2) (s : Fin 768) (h : Fin 45) (d : Fin 64) :
    val_main_v38 (F := Ideal) x0 x3 (ix4 b s h d) = Spec.qr (args x0 x1 x2 x3) b s h d := by
  unfold Spec.qr Spec.rot args
  generalize hc : val_main_v20 (F := Ideal) x3 = c
  generalize hs : val_main_v22 (F := Ideal) x3 = s'
  pointwise [val_main_v38, val_main_v37, val_main_v36, val_main_v35, val_main_v34, val_main_v33, val_main_v32, val_main_v31, val_main_v30, val_main_v29, val_main_v28, val_main_v27, val_main_v26, val_main_v25, val_main_v24, val_main_v23, val_main_v21, hc, hs]
  have hd := d.isLt
  split
  · simp only [Nat.add_comm 32]
  · simp only [show 32 + (d.val - 32) = d.val by omega]

theorem k_rot (b : Fin 2) (s : Fin 768) (h : Fin 5) (d : Fin 64) :
    val_main_v53 (F := Ideal) x1 x3 (ix4 b s h d) = Spec.kr (args x0 x1 x2 x3) b s h d := by
  unfold Spec.kr Spec.rot args
  generalize hc : val_main_v20 (F := Ideal) x3 = c
  generalize hs : val_main_v22 (F := Ideal) x3 = s'
  pointwise [val_main_v53, val_main_v52, val_main_v51, val_main_v50, val_main_v49, val_main_v48, val_main_v47, val_main_v46, val_main_v45, val_main_v44, val_main_v43, val_main_v42, val_main_v41, val_main_v40, val_main_v39, val_main_v23, val_main_v21, hc, hs]
  have hd := d.isLt
  split
  · simp only [Nat.add_comm 32]
  · simp only [show 32 + (d.val - 32) = d.val by omega]

theorem one32 : Ideal.ofBits .f32 0x3F800000#32 = 1 := by simp [Ideal.ofBits, Ideal.ieee]; rw [← EReal.coe_mul]; norm_num
theorem bot16 : Ideal.ofBits .bf16 0xFF80#16 = ⊥ := by simp [Ideal.ofBits, Ideal.ieee]
theorem bot32 : Ideal.ofBits .f32 0xFF800000#32 = ⊥ := by simp [Ideal.ofBits, Ideal.ieee]

theorem row_q (b : Fin 2) (s : Fin 768) (h : Fin 45) : val_main_v56 (F := Ideal) x0 x3 (ix3 b s h) = Spec.rowQ (args x0 x1 x2 x3) b s h := by
  rw [val_main_v56_apply]
  show val_main_v55 (F := Ideal) x0 x3 (ix3 b s h) = _
  refine (reduce3 (val_main_v54 (F := Ideal) x0 x3) _ _ bot16 _ (by decide) b s h).trans ?_
  unfold Spec.rowQ Spec.mag
  refine Finset.sup_congr rfl fun d _ => ?_
  exact congrArg (fun y : EReal => max y (-y)) (q_rot x0 x1 x2 x3 b s h d)

theorem row_k (b : Fin 2) (s : Fin 768) (h : Fin 5) : val_main_v59 (F := Ideal) x1 x3 (ix3 b s h) = Spec.rowK (args x0 x1 x2 x3) b s h := by
  rw [val_main_v59_apply]
  show val_main_v58 (F := Ideal) x1 x3 (ix3 b s h) = _
  refine (reduce3 (val_main_v57 (F := Ideal) x1 x3) _ _ bot16 _ (by decide) b s h).trans ?_
  unfold Spec.rowK Spec.mag
  refine Finset.sup_congr rfl fun d _ => ?_
  exact congrArg (fun y : EReal => max y (-y)) (k_rot x0 x1 x2 x3 b s h d)

theorem row_v (b : Fin 2) (s : Fin 768) (h : Fin 5) : val_main_v62 (F := Ideal) x2 (ix3 b s h) = Spec.rowV (args x0 x1 x2 x3) b s h := by
  rw [val_main_v62_apply]
  show val_main_v61 (F := Ideal) x2 (ix3 b s h) = _
  refine (reduce3 (val_main_v60 (F := Ideal) x2) _ _ bot16 _ (by decide) b s h).trans ?_
  unfold Spec.rowV Spec.mag
  refine Finset.sup_congr rfl fun d _ => ?_
  rfl

theorem amax_q (h : Fin 45) : val_main_v63 (F := Ideal) x0 x3 (ix1 h) = Spec.amaxQ (args x0 x1 x2 x3) h := by
  refine (reduce01 (val_main_v56 (F := Ideal) x0 x3) _ _ bot32 _ h).trans ?_
  exact congrArg Spec.all (funext fun b => funext fun s => row_q x0 x1 x2 x3 b s h)

theorem amax_k (h : Fin 5) : val_main_v64 (F := Ideal) x1 x3 (ix1 h) = Spec.amaxK (args x0 x1 x2 x3) h := by
  refine (reduce01 (val_main_v59 (F := Ideal) x1 x3) _ _ bot32 _ h).trans ?_
  exact congrArg Spec.all (funext fun b => funext fun s => row_k x0 x1 x2 x3 b s h)

theorem amax_v (h : Fin 5) : val_main_v65 (F := Ideal) x2 (ix1 h) = Spec.amaxV (args x0 x1 x2 x3) h := by
  refine (reduce01 (val_main_v62 (F := Ideal) x2) _ _ bot32 _ h).trans ?_
  exact congrArg Spec.all (funext fun b => funext fun s => row_v x0 x1 x2 x3 b s h)

theorem scale_q (h : Fin 45) : val_main_v107 (F := Ideal) x0 x3 (ix1 h) = Spec.scaleQ (args x0 x1 x2 x3) h := by
  unfold Spec.scaleQ
  rw [← amax_q x0 x1 x2 x3 h]
  generalize hy : val_main_v63 (F := Ideal) x0 x3 = y
  pointwise [val_main_v107, val_main_v106, val_main_v105, val_main_v104, val_main_v103, val_main_cst_17, val_main_cst_18, val_main_cst_19,
    val_main_call2_v0, val_main_call2_v1, Spec.scaleOf, hy]
  show (if _ then Ideal.ofBits .f32 0x3F800000#32 else _) = _
  rw [one32]

theorem scale_k (h : Fin 5) : val_main_v112 (F := Ideal) x1 x3 (ix1 h) = Spec.scaleK (args x0 x1 x2 x3) h := by
  unfold Spec.scaleK
  rw [← amax_k x0 x1 x2 x3 h]
  generalize hy : val_main_v64 (F := Ideal) x1 x3 = y
  pointwise [val_main_v112, val_main_v111, val_main_v110, val_main_v109, val_main_v108, val_main_cst_20, val_main_cst_21, val_main_cst_22,
    val_main_call3_v0, val_main_call3_v1, Spec.scaleOf, hy]
  show (if _ then Ideal.ofBits .f32 0x3F800000#32 else _) = _
  rw [one32]

theorem scale_v (h : Fin 5) : val_main_v117 (F := Ideal) x2 (ix1 h) = Spec.scaleV (args x0 x1 x2 x3) h := by
  unfold Spec.scaleV
  rw [← amax_v x0 x1 x2 x3 h]
  generalize hy : val_main_v65 (F := Ideal) x2 = y
  pointwise [val_main_v117, val_main_v116, val_main_v115, val_main_v114, val_main_v113, val_main_cst_23, val_main_cst_24, val_main_cst_25,
    val_main_call4_v0, val_main_call4_v1, Spec.scaleOf, hy]
  show (if _ then Ideal.ofBits .f32 0x3F800000#32 else _) = _
  rw [one32]

theorem code_q (b : Fin 2) (s : Fin 768) (h : Fin 45) (d : Fin 64) :
    val_main_v128 (F := Ideal) x0 x3 (ix4 b s h d) = Spec.codeQ (args x0 x1 x2 x3) b s h d := by
  unfold Spec.codeQ
  rw [← q_rot x0 x1 x2 x3 b s h d, ← scale_q x0 x1 x2 x3 h]
  generalize hz : val_main_v107 (F := Ideal) x0 x3 = z
  generalize hy : val_main_v38 (F := Ideal) x0 x3 = y
  pointwise [val_main_v128, val_main_v127, val_main_v126, val_main_v125, val_main_v124, val_main_v123, val_main_cst_29, val_main_cst_30,
    val_main_call6_v0, val_main_call6_v1, val_main_call6_v2, val_main_call6_v3, val_main_call6_v4, Spec.quant, hz, hy]
  rfl

theorem code_k (b : Fin 2) (s : Fin 768) (h : Fin 5) (d : Fin 64) :
    val_main_v134 (F := Ideal) x1 x3 (ix4 b s h d) = Spec.codeK (args x0 x1 x2 x3) b s h d := by
  unfold Spec.codeK
  rw [← k_rot x0 x1 x2 x3 b s h d, ← scale_k x0 x1 x2 x3 h]
  generalize hz : val_main_v112 (F := Ideal) x1 x3 = z
  generalize hy : val_main_v53 (F := Ideal) x1 x3 = y
  pointwise [val_main_v134, val_main_v133, val_main_v132, val_main_v131, val_main_v130, val_main_v129, val_main_cst_31, val_main_cst_32,
    val_main_call7_v0, val_main_call7_v1, val_main_call7_v2, val_main_call7_v3, val_main_call7_v4, Spec.quant, hz, hy]
  rfl

theorem code_v (b : Fin 2) (s : Fin 768) (h : Fin 5) (d : Fin 64) :
    val_main_v140 (F := Ideal) x2 (ix4 b s h d) = Spec.codeV (args x0 x1 x2 x3) b s h d := by
  unfold Spec.codeV
  rw [← scale_v x0 x1 x2 x3 h]
  generalize hz : val_main_v117 (F := Ideal) x2 = z
  pointwise [val_main_v140, val_main_v139, val_main_v138, val_main_v137, val_main_v136, val_main_v135, val_main_cst_33, val_main_cst_34,
    val_main_call8_v0, val_main_call8_v1, val_main_call8_v2, val_main_call8_v3, val_main_call8_v4, Spec.quant, hz, args]
  rfl

/-! ## The exact attention -/

/-- The head of a group and a place in it. -/
def head (g : Fin 5) (r : Fin 9) : Fin 45 := ⟨g.val * 9 + r.val, by omega⟩
theorem grp_head (g : Fin 5) (r : Fin 9) : Spec.grp (head g r) = g := Fin.ext (by show (g.val * 9 + r.val) / 9 = g.val; omega)

theorem q_at (b : Fin 2) (g : Fin 5) (r : Fin 9) (i : Fin 768) (d : Fin 64) :
    val_main_v67 (F := Ideal) x0 x3 (ix5 b g r i d) = Spec.qr (args x0 x1 x2 x3) b i (head g r) d := by
  rw [← q_rot, val_main_v67_apply, val_main_v66_apply]
  refine congrArg _ (funext fun a => ?_)
  match a with
  | ⟨0, _⟩ => exact Fin.ext (by show ((((b.val * 768 + i.val) * 5 + g.val) * 9 + r.val) * 64 + d.val) / 2211840 = b.val; omega)
  | ⟨1, _⟩ => exact Fin.ext (by show ((((b.val * 768 + i.val) * 5 + g.val) * 9 + r.val) * 64 + d.val) / 2880 % 768 = i.val; omega)
  | ⟨2, _⟩ => exact Fin.ext (by show ((((b.val * 768 + i.val) * 5 + g.val) * 9 + r.val) * 64 + d.val) / 64 % 45 = g.val * 9 + r.val; omega)
  | ⟨3, _⟩ => exact Fin.ext (by show ((((b.val * 768 + i.val) * 5 + g.val) * 9 + r.val) * 64 + d.val) % 64 = d.val; omega)

theorem k_at (b : Fin 2) (g : Fin 5) (i : Fin 768) (d : Fin 64) :
    val_main_v68 (F := Ideal) x1 x3 (ix4 b g i d) = Spec.kr (args x0 x1 x2 x3) b i g d := by
  rw [← k_rot]
  generalize hy : val_main_v53 (F := Ideal) x1 x3 = y
  pointwise [val_main_v68, hy]

theorem score_at (b : Fin 2) (g : Fin 5) (r : Fin 9) (i k : Fin 768) :
    val_main_v78 (F := Ideal) x0 x1 x3 (ix5 b g r i k) = Spec.score (args x0 x1 x2 x3) b (head g r) i k.val := by
  unfold Spec.score
  rw [Spec.ext_val, grp_head, val_main_v78_apply, val_main_v76_apply, val_main_v77_apply]
  refine congrArg (· * _) (Finset.sum_congr rfl fun d _ => ?_)
  rw [← q_at, ← k_at]
  exact congrArg₂ (· * ·) (congrArg _ (ValueIdx.eq_ix5 _)) (congrArg _ (ValueIdx.eq_ix4 _))

theorem mask_at (i k : Fin 768) : val_main_v75 (F := Ideal) (ix2 i k) = if k.val ≤ i.val then 1#1 else 0#1 := by
  have hk := k.isLt; have hl := i.isLt
  have e : (IntOp.cmpi CmpIPredicate.sle (BitVec.ofNat 32 k.val) (BitVec.ofNat 32 i.val)) = if k.val ≤ i.val then 1#1 else 0#1 := by
    show BitVec.ofBool _ = _
    rw [BitVec.sle_eq_decide, BitVec.toInt_eq_toNat_of_lt, BitVec.toInt_eq_toNat_of_lt]
    · rw [BitVec.toNat_ofNat, BitVec.toNat_ofNat, Nat.mod_eq_of_lt (show k.val < 2 ^ 32 by omega),
        Nat.mod_eq_of_lt (show i.val < 2 ^ 32 by omega)]
      by_cases h : k.val ≤ i.val
      · rw [if_pos h, decide_eq_true (by exact_mod_cast h)]; rfl
      · rw [if_neg h, decide_eq_false (by exact_mod_cast h)]; rfl
    · simp; omega
    · simp; omega
  rw [val_main_v75_apply, val_main_v73_apply, val_main_v74_apply, val_main_v71_apply, val_main_v72_apply, val_main_v70_apply, val_main_v70_apply]
  exact e

theorem chosen {α : Type} (p : Prop) [Decidable p] (m : BitVec 1) (hm : m = if p then 1#1 else 0#1) (x y : α) : Scalar.select m x y = if p then x else y := by
  rw [hm]; split <;> rfl

theorem masked_at (b : Fin 2) (g : Fin 5) (r : Fin 9) (i k : Fin 768) :
    val_main_v82 (F := Ideal) x0 x1 x3 (ix5 b g r i k) = if k.val ≤ i.val then Spec.score (args x0 x1 x2 x3) b (head g r) i k.val else ⊥ := by
  rw [val_main_v82_apply, ← score_at]
  have e : val_main_call1_v1 (F := Ideal) (ix5 b g r i k) = if k.val ≤ i.val then 1#1 else 0#1 := by
    rw [← mask_at i k]; generalize hy : val_main_v75 (F := Ideal) = y; pointwise [val_main_call1_v1, hy]
  have e' : val_main_call1_v2 (F := Ideal) (ix5 b g r i k) = ⊥ := bot32
  rw [chosen _ _ e, e']

theorem top_at (b : Fin 2) (g : Fin 5) (r : Fin 9) (i : Fin 768) :
    val_main_v85 (F := Ideal) x0 x1 x3 (ix4 b g r i) = top (Spec.score (args x0 x1 x2 x3) b (head g r) i) i.val := by
  rw [val_main_v85_apply]
  have e : val_main_v84 (F := Ideal) (ix4 b g r i) = ⊥ := bot32
  have e' : val_main_v83 (F := Ideal) x0 x1 x3 (ix4 b g r i) = top (Spec.score (args x0 x1 x2 x3) b (head g r) i) i.val := by
    refine (reduce4 (val_main_v82 (F := Ideal) x0 x1 x3) _ _ bot32 _ (by decide) b g r i).trans ?_
    rw [← sup_masked (N := 768) _ _ i.isLt]
    exact congrArg _ (funext fun k => masked_at x0 x1 x2 x3 b g r i k)
  rw [e, e']
  exact max_eq_right bot_le

theorem et_at (b : Fin 2) (g : Fin 5) (r : Fin 9) (i k : Fin 768) :
    val_main_v89 (F := Ideal) x0 x1 x3 (ix5 b g r i k) = if k.val ≤ i.val then et (Spec.score (args x0 x1 x2 x3) b (head g r) i) i.val k.val else 0 := by
  have e : val_main_v87 (F := Ideal) x0 x1 x3 (ix5 b g r i k) = val_main_v85 (F := Ideal) x0 x1 x3 (ix4 b g r i) := by
    generalize hy : val_main_v85 (F := Ideal) x0 x1 x3 = y; pointwise [val_main_v87, val_main_v86, hy]
  rw [val_main_v89_apply, val_main_v88_apply, e, masked_at, top_at]
  split
  · rfl
  · exact congrArg Ideal.exp (EReal.bot_sub (top (Spec.score (args x0 x1 x2 x3) b (head g r) i) i.val))

theorem esum_at (b : Fin 2) (g : Fin 5) (r : Fin 9) (i : Fin 768) :
    val_main_v90 (F := Ideal) x0 x1 x3 (ix4 b g r i) = esum (Spec.score (args x0 x1 x2 x3) b (head g r) i) i.val := by
  rw [val_main_v90_apply]
  have z : val_main_cst_14 (F := Ideal) (Shape.Idx.first h_S_) = 0 := by show Ideal.ofBits .f32 0x00000000#32 = 0; simp [Ideal.ofBits, Ideal.ieee]
  rw [z, zero_add]
  unfold esum
  rw [← sum_masked (N := 768) _ _ i.isLt]
  refine Finset.sum_congr rfl fun k _ => ?_
  rw [← et_at]
  exact congrArg _ (ValueIdx.eq_ix5 _)

theorem prob_at (hA : Spec.Finite (args x0 x1 x2 x3)) (b : Fin 2) (g : Fin 5) (r : Fin 9) (i k : Fin 768) :
    val_main_v93 (F := Ideal) x0 x1 x3 (ix5 b g r i k) = if k.val ≤ i.val then Ideal.div (et (Spec.score (args x0 x1 x2 x3) b (head g r) i) i.val k.val)
      (esum (Spec.score (args x0 x1 x2 x3) b (head g r) i) i.val) else 0 := by
  have e : val_main_v92 (F := Ideal) x0 x1 x3 (ix5 b g r i k) = val_main_v90 (F := Ideal) x0 x1 x3 (ix4 b g r i) := by
    generalize hy : val_main_v90 (F := Ideal) x0 x1 x3 = y; pointwise [val_main_v92, val_main_v91, hy]
  rw [val_main_v93_apply, e, et_at, esum_at]
  obtain ⟨s, hs, es⟩ := Spec.esum_pos i.val (hA.score b (head g r) i)
  show Ideal.div _ _ = _
  split
  · rfl
  · rw [es, div_coe _ _ hs, zero_mul]

theorem out_at (hA : Spec.Finite (args x0 x1 x2 x3)) (b : Fin 2) (g : Fin 5) (r : Fin 9) (i : Fin 768) (d : Fin 64) :
    val_main_v95 (F := Ideal) x0 x1 x2 x3 (ix5 b g r i d) = Spec.out (args x0 x1 x2 x3) b i (head g r) d := by
  rw [val_main_v95_apply]
  unfold Spec.out
  rw [← sum_masked (N := 768) _ _ i.isLt]
  refine Finset.sum_congr rfl fun k _ => ?_
  have e : val_main_v94 (F := Ideal) x0 x1 x3 (lidx_main_v95 (ix5 b g r i d) k) = val_main_v93 (F := Ideal) x0 x1 x3 (ix5 b g r i k) :=
    congrArg _ (ValueIdx.eq_ix5 _)
  have e' : val_main_v69 (F := Ideal) x2 (ridx_main_v95 (ix5 b g r i d) k) = x2 (ix4 b k g d) := by
    rw [val_main_v69_apply]; exact congrArg _ (ValueIdx.eq_ix4 _)
  rw [e, e', prob_at x0 x1 x2 x3 hA, Spec.ext_val, grp_head]
  split
  · rfl
  · exact zero_mul _

/-! ## Its rows, largest magnitudes and scales -/

theorem place (h : Fin 45) : head (Spec.grp h) ⟨h.val % 9, by omega⟩ = h := Fin.ext (by show h.val / 9 * 9 + h.val % 9 = h.val; omega)

theorem row_s (b : Fin 2) (i : Fin 768) (h : Fin 45) : val_main_v99 (F := Ideal) x0 x1 x3 (ix3 b i h) = Spec.rowS (args x0 x1 x2 x3) b i h := by
  have e : val_main_v99 (F := Ideal) x0 x1 x3 (ix3 b i h) = val_main_v81 (F := Ideal) x0 x1 x3 (ix4 b (Spec.grp h) ⟨h.val % 9, by omega⟩ i) := by
    rw [val_main_v99_apply, val_main_v98_apply]
    refine congrArg _ (funext fun a => ?_)
    match a with
    | ⟨0, _⟩ => exact Fin.ext (by show ((b.val * 45 + h.val) * 768 + i.val) / 34560 = b.val; omega)
    | ⟨1, _⟩ => exact Fin.ext (by show ((b.val * 45 + h.val) * 768 + i.val) / 6912 % 5 = h.val / 9; omega)
    | ⟨2, _⟩ => exact Fin.ext (by show ((b.val * 45 + h.val) * 768 + i.val) / 768 % 9 = h.val % 9; omega)
    | ⟨3, _⟩ => exact Fin.ext (by show ((b.val * 45 + h.val) * 768 + i.val) % 768 = i.val; omega)
  rw [e]
  refine (reduce4 (val_main_v80 (F := Ideal) x0 x1 x3) _ _ bot32 _ (by decide) _ _ _ i).trans ?_
  unfold Spec.rowS top
  have pt : ∀ k : Fin 768, val_main_v80 (F := Ideal) x0 x1 x3 (ix5 b (Spec.grp h) ⟨h.val % 9, by omega⟩ i k)
      = if k.val ≤ i.val then max (Spec.score (args x0 x1 x2 x3) b h i k.val) (-Spec.score (args x0 x1 x2 x3) b h i k.val) else 0 := fun k => by
    have m : val_main_call0_v1 (F := Ideal) (ix5 b (Spec.grp h) ⟨h.val % 9, by omega⟩ i k) = if k.val ≤ i.val then 1#1 else 0#1 := by
      rw [← mask_at i k]; generalize hy : val_main_v75 (F := Ideal) = y; pointwise [val_main_call0_v1, hy]
    have m' : val_main_call0_v2 (F := Ideal) (ix5 b (Spec.grp h) ⟨h.val % 9, by omega⟩ i k) = 0 := by
      show Ideal.ofBits .f32 0x00000000#32 = 0; simp [Ideal.ofBits, Ideal.ieee]
    rw [val_main_v80_apply, chosen _ _ m, m', val_main_v79_apply, score_at x0 x1 x2 x3, place]
    rfl
  refine le_antisymm (Finset.sup_le fun k _ => ?_) (Finset.sup_le fun k hk => ?_)
  · rw [pt]
    split
    · next hk => exact Finset.le_sup (f := fun k => max (Spec.score (args x0 x1 x2 x3) b h i k) (-Spec.score (args x0 x1 x2 x3) b h i k)) (Finset.mem_range.mpr (by omega))
    · refine le_trans ?_ (Finset.le_sup (f := fun k => max (Spec.score (args x0 x1 x2 x3) b h i k) (-Spec.score (args x0 x1 x2 x3) b h i k)) (Finset.mem_range.mpr (Nat.succ_pos _)))
      rcases le_total 0 (Spec.score (args x0 x1 x2 x3) b h i 0) with h | h
      · exact le_max_of_le_left h
      · exact le_max_of_le_right (EReal.neg_nonneg.mpr h)
  · have hk' := Finset.mem_range.mp hk
    have hi := i.isLt
    refine le_trans (le_of_eq ?_) (Finset.le_sup (f := fun l : Fin 768 => val_main_v80 (F := Ideal) x0 x1 x3 (ix5 b (Spec.grp h) ⟨h.val % 9, by omega⟩ i l))
      (Finset.mem_univ ⟨k, by omega⟩))
    rw [pt, if_pos (show k ≤ i.val by omega)]

theorem row_o (hA : Spec.Finite (args x0 x1 x2 x3)) (b : Fin 2) (i : Fin 768) (h : Fin 45) :
    val_main_v101 (F := Ideal) x0 x1 x2 x3 (ix3 b i h) = Spec.rowO (args x0 x1 x2 x3) b i h := by
  have e : val_main_v101 (F := Ideal) x0 x1 x2 x3 (ix3 b i h) = val_main_v97 (F := Ideal) x0 x1 x2 x3 (ix4 b (Spec.grp h) ⟨h.val % 9, by omega⟩ i) := by
    rw [val_main_v101_apply, val_main_v100_apply]
    refine congrArg _ (funext fun a => ?_)
    match a with
    | ⟨0, _⟩ => exact Fin.ext (by show ((b.val * 45 + h.val) * 768 + i.val) / 34560 = b.val; omega)
    | ⟨1, _⟩ => exact Fin.ext (by show ((b.val * 45 + h.val) * 768 + i.val) / 6912 % 5 = h.val / 9; omega)
    | ⟨2, _⟩ => exact Fin.ext (by show ((b.val * 45 + h.val) * 768 + i.val) / 768 % 9 = h.val % 9; omega)
    | ⟨3, _⟩ => exact Fin.ext (by show ((b.val * 45 + h.val) * 768 + i.val) % 768 = i.val; omega)
  rw [e]
  refine (reduce4 (val_main_v96 (F := Ideal) x0 x1 x2 x3) _ _ bot32 _ (by decide) _ _ _ i).trans ?_
  unfold Spec.rowO Spec.mag
  refine Finset.sup_congr rfl fun d _ => ?_
  refine (congrArg (fun y : EReal => max y (-y)) (out_at x0 x1 x2 x3 hA b (Spec.grp h) ⟨h.val % 9, by omega⟩ i d)).trans ?_
  rw [place]

theorem amax_o (hA : Spec.Finite (args x0 x1 x2 x3)) (h : Fin 45) : val_main_v102 (F := Ideal) x0 x1 x2 x3 (ix1 h) = Spec.amaxO (args x0 x1 x2 x3) h := by
  refine (reduce01 (val_main_v101 (F := Ideal) x0 x1 x2 x3) _ _ bot32 _ h).trans ?_
  exact congrArg Spec.all (funext fun b => funext fun s => row_o x0 x1 x2 x3 hA b s h)

theorem scale_o (hA : Spec.Finite (args x0 x1 x2 x3)) (h : Fin 45) : val_main_v122 (F := Ideal) x0 x1 x2 x3 (ix1 h) = Spec.scaleO (args x0 x1 x2 x3) h := by
  unfold Spec.scaleO
  rw [← amax_o x0 x1 x2 x3 hA h]
  generalize hy : val_main_v102 (F := Ideal) x0 x1 x2 x3 = y
  pointwise [val_main_v122, val_main_v121, val_main_v120, val_main_v119, val_main_v118, val_main_cst_26, val_main_cst_27, val_main_cst_28,
    val_main_call5_v0, val_main_call5_v1, Spec.scaleOf, hy]
  show (if _ then Ideal.ofBits .f32 0x3F800000#32 else _) = _
  rw [one32]

/-! ## The attention of the codes -/

theorem score8_at (b : Fin 2) (g : Fin 5) (r : Fin 9) (i k : Fin 768) :
    val_main_v154 (F := Ideal) x0 x1 x3 (ix5 b g r i k) = Spec.score8 (args x0 x1 x2 x3) b (head g r) i k.val := by
  have eq : ∀ d, val_main_v148 (F := Ideal) x0 x3 (ix5 b g r i d) = Spec.codeQ (args x0 x1 x2 x3) b i (head g r) d := fun d => by
    rw [← code_q, val_main_v148_apply, val_main_v147_apply]
    refine congrArg _ (funext fun a => ?_)
    match a with
    | ⟨0, _⟩ => exact Fin.ext (by show ((((b.val * 768 + i.val) * 5 + g.val) * 9 + r.val) * 64 + d.val) / 2211840 = b.val; omega)
    | ⟨1, _⟩ => exact Fin.ext (by show ((((b.val * 768 + i.val) * 5 + g.val) * 9 + r.val) * 64 + d.val) / 2880 % 768 = i.val; omega)
    | ⟨2, _⟩ => exact Fin.ext (by show ((((b.val * 768 + i.val) * 5 + g.val) * 9 + r.val) * 64 + d.val) / 64 % 45 = g.val * 9 + r.val; omega)
    | ⟨3, _⟩ => exact Fin.ext (by show ((((b.val * 768 + i.val) * 5 + g.val) * 9 + r.val) * 64 + d.val) % 64 = d.val; omega)
  have ek : ∀ d, val_main_v149 (F := Ideal) x1 x3 (ix4 b g k d) = Spec.codeK (args x0 x1 x2 x3) b k g d := fun d => by
    rw [← code_k, val_main_v149_apply]; exact congrArg _ (ValueIdx.eq_ix4 _)
  have es : val_main_v153 (F := Ideal) x0 x1 x3 (ix5 b g r i k)
      = Spec.scaleQ (args x0 x1 x2 x3) (head g r) * Spec.scaleK (args x0 x1 x2 x3) g * Ideal.ofBits .f32 0x3E000000#32 := by
    rw [← scale_q, ← scale_k]
    have e0 : val_main_v153 (F := Ideal) x0 x1 x3 (ix5 b g r i k) = val_main_v146 (F := Ideal) x0 x1 x3 (ix2 g r) := by
      generalize hy : val_main_v146 (F := Ideal) x0 x1 x3 = y; pointwise [val_main_v153, val_main_v152, hy]
    have e1 : val_main_v141 (F := Ideal) x0 x3 (ix2 g r) = val_main_v107 (F := Ideal) x0 x3 (ix1 (head g r)) := by
      rw [val_main_v141_apply]; exact congrArg _ (ValueIdx.eq_ix1 _)
    have e2 : val_main_v143 (F := Ideal) x1 x3 (ix2 g r) = val_main_v112 (F := Ideal) x1 x3 (ix1 g) := by
      generalize hy : val_main_v112 (F := Ideal) x1 x3 = y; pointwise [val_main_v143, val_main_v142, hy]
    rw [e0, val_main_v146_apply, val_main_v144_apply, e1, e2]
    rfl
  unfold Spec.score8
  rw [Spec.ext_val, grp_head, val_main_v154_apply, val_main_v151_apply, es]
  refine congrArg₂ (fun a b : EReal => a * b) (Finset.sum_congr rfl fun d _ => ?_) rfl
  rw [← eq, ← ek]
  exact congrArg₂ (· * ·) (congrArg _ (ValueIdx.eq_ix5 _)) (congrArg _ (ValueIdx.eq_ix4 _))

theorem masked8_at (b : Fin 2) (g : Fin 5) (r : Fin 9) (i k : Fin 768) :
    val_main_v155 (F := Ideal) x0 x1 x3 (ix5 b g r i k) = if k.val ≤ i.val then Spec.score8 (args x0 x1 x2 x3) b (head g r) i k.val else ⊥ := by
  rw [val_main_v155_apply, ← score8_at]
  have e : val_main_call9_v1 (F := Ideal) (ix5 b g r i k) = if k.val ≤ i.val then 1#1 else 0#1 := by
    rw [← mask_at i k]; generalize hy : val_main_v75 (F := Ideal) = y; pointwise [val_main_call9_v1, hy]
  have e' : val_main_call9_v2 (F := Ideal) (ix5 b g r i k) = ⊥ := bot32
  rw [chosen _ _ e, e']

theorem top8_at (b : Fin 2) (g : Fin 5) (r : Fin 9) (i : Fin 768) :
    val_main_v158 (F := Ideal) x0 x1 x3 (ix4 b g r i) = top (Spec.score8 (args x0 x1 x2 x3) b (head g r) i) i.val := by
  rw [val_main_v158_apply]
  have e : val_main_v157 (F := Ideal) (ix4 b g r i) = ⊥ := bot32
  have e' : val_main_v156 (F := Ideal) x0 x1 x3 (ix4 b g r i) = top (Spec.score8 (args x0 x1 x2 x3) b (head g r) i) i.val := by
    refine (reduce4 (val_main_v155 (F := Ideal) x0 x1 x3) _ _ bot32 _ (by decide) b g r i).trans ?_
    rw [← sup_masked (N := 768) _ _ i.isLt]
    exact congrArg _ (funext fun k => masked8_at x0 x1 x2 x3 b g r i k)
  rw [e, e']
  exact max_eq_right bot_le

theorem et8_at (b : Fin 2) (g : Fin 5) (r : Fin 9) (i k : Fin 768) :
    val_main_v162 (F := Ideal) x0 x1 x3 (ix5 b g r i k) = if k.val ≤ i.val then et (Spec.score8 (args x0 x1 x2 x3) b (head g r) i) i.val k.val else 0 := by
  have e : val_main_v160 (F := Ideal) x0 x1 x3 (ix5 b g r i k) = val_main_v158 (F := Ideal) x0 x1 x3 (ix4 b g r i) := by
    generalize hy : val_main_v158 (F := Ideal) x0 x1 x3 = y; pointwise [val_main_v160, val_main_v159, hy]
  rw [val_main_v162_apply, val_main_v161_apply, e, masked8_at, top8_at]
  split
  · rfl
  · exact congrArg Ideal.exp (EReal.bot_sub (top (Spec.score8 (args x0 x1 x2 x3) b (head g r) i) i.val))

theorem esum8_at (b : Fin 2) (g : Fin 5) (r : Fin 9) (i : Fin 768) :
    val_main_v163 (F := Ideal) x0 x1 x3 (ix4 b g r i) = esum (Spec.score8 (args x0 x1 x2 x3) b (head g r) i) i.val := by
  rw [val_main_v163_apply]
  have z : val_main_cst_39 (F := Ideal) (Shape.Idx.first h_S_) = 0 := by show Ideal.ofBits .f32 0x00000000#32 = 0; simp [Ideal.ofBits, Ideal.ieee]
  rw [z, zero_add]
  unfold esum
  rw [← sum_masked (N := 768) _ _ i.isLt]
  refine Finset.sum_congr rfl fun k _ => ?_
  rw [← et8_at]
  exact congrArg _ (ValueIdx.eq_ix5 _)

theorem prob8_at (hA : Spec.Finite (args x0 x1 x2 x3)) (b : Fin 2) (g : Fin 5) (r : Fin 9) (i k : Fin 768) :
    val_main_v166 (F := Ideal) x0 x1 x3 (ix5 b g r i k) = if k.val ≤ i.val then Ideal.div (et (Spec.score8 (args x0 x1 x2 x3) b (head g r) i) i.val k.val)
      (esum (Spec.score8 (args x0 x1 x2 x3) b (head g r) i) i.val) else 0 := by
  have e : val_main_v165 (F := Ideal) x0 x1 x3 (ix5 b g r i k) = val_main_v163 (F := Ideal) x0 x1 x3 (ix4 b g r i) := by
    generalize hy : val_main_v163 (F := Ideal) x0 x1 x3 = y; pointwise [val_main_v165, val_main_v164, hy]
  rw [val_main_v166_apply, e, et8_at, esum8_at]
  obtain ⟨s, hs, es⟩ := Spec.esum_pos i.val (hA.score8 b (head g r) i)
  show Ideal.div _ _ = _
  split
  · rfl
  · rw [es, div_coe _ _ hs, zero_mul]

theorem out8_at (hA : Spec.Finite (args x0 x1 x2 x3)) (b : Fin 2) (g : Fin 5) (r : Fin 9) (i : Fin 768) (d : Fin 64) :
    val_main_v174 (F := Ideal) x0 x1 x2 x3 (ix5 b g r i d) = Spec.out8 (args x0 x1 x2 x3) b i (head g r) d := by
  have es : val_main_v173 (F := Ideal) x2 (ix5 b g r i d) = Spec.scaleV (args x0 x1 x2 x3) g * Ideal.ofBits .f32 0x3B124925#32 := by
    rw [← scale_v]
    have e0 : val_main_v173 (F := Ideal) x2 (ix5 b g r i d) = val_main_v171 (F := Ideal) x2 (ix1 g) := by
      generalize hy : val_main_v171 (F := Ideal) x2 = y; pointwise [val_main_v173, val_main_v172, hy]
    rw [e0]; rfl
  rw [val_main_v174_apply, val_main_v169_apply, es]
  unfold Spec.out8
  rw [← sum_masked (N := 768) _ _ i.isLt, grp_head]
  refine congrArg (· * _) (Finset.sum_congr rfl fun k _ => ?_)
  have e : val_main_v168 (F := Ideal) x0 x1 x3 (lidx_main_v169 (ix5 b g r i d) k)
      = val_main_v166 (F := Ideal) x0 x1 x3 (ix5 b g r i k) * Ideal.ofBits .f32 0x43E00000#32 := by
    rw [val_main_v168_apply]
    exact congrArg (· * Ideal.ofBits .f32 0x43E00000#32) (congrArg _ (ValueIdx.eq_ix5 _))
  have e' : val_main_v150 (F := Ideal) x2 (ridx_main_v169 (ix5 b g r i d) k) = Spec.codeV (args x0 x1 x2 x3) b k g d := by
    rw [← code_v, val_main_v150_apply]; exact congrArg _ (ValueIdx.eq_ix4 _)
  rw [e, e', prob8_at x0 x1 x2 x3 hA, Spec.ext_val]
  split
  · rfl
  · rw [zero_mul, zero_mul]

theorem code_o (hA : Spec.Finite (args x0 x1 x2 x3)) (b : Fin 2) (i : Fin 768) (h : Fin 45) (d : Fin 64) :
    val_main_v181 (F := Ideal) x0 x1 x2 x3 (ix4 b i h d) = Spec.codeO (args x0 x1 x2 x3) b i h d := by
  have e : val_main_v176 (F := Ideal) x0 x1 x2 x3 (ix4 b i h d) = Spec.out8 (args x0 x1 x2 x3) b i h d := by
    have e0 : Spec.out8 (args x0 x1 x2 x3) b i h d = Spec.out8 (args x0 x1 x2 x3) b i (head (Spec.grp h) ⟨h.val % 9, by omega⟩) d := by rw [place]
    rw [e0, ← out8_at x0 x1 x2 x3 hA, val_main_v176_apply, val_main_v175_apply]
    refine congrArg _ (funext fun a => ?_)
    match a with
    | ⟨0, _⟩ => exact Fin.ext (by show (((b.val * 768 + i.val) * 45 + h.val) * 64 + d.val) / 2211840 = b.val; omega)
    | ⟨1, _⟩ => exact Fin.ext (by show (((b.val * 768 + i.val) * 45 + h.val) * 64 + d.val) / 576 % 5 = h.val / 9; omega)
    | ⟨2, _⟩ => exact Fin.ext (by show (((b.val * 768 + i.val) * 45 + h.val) * 64 + d.val) / 64 % 9 = h.val % 9; omega)
    | ⟨3, _⟩ => exact Fin.ext (by show (((b.val * 768 + i.val) * 45 + h.val) * 64 + d.val) / 2880 % 768 = i.val; omega)
    | ⟨4, _⟩ => exact Fin.ext (by show (((b.val * 768 + i.val) * 45 + h.val) * 64 + d.val) % 64 = d.val; omega)
  unfold Spec.codeO
  rw [← e, ← scale_o x0 x1 x2 x3 hA]
  generalize hy : val_main_v176 (F := Ideal) x0 x1 x2 x3 = y
  generalize hz : val_main_v122 (F := Ideal) x0 x1 x2 x3 = z
  pointwise [val_main_v181, val_main_v180, val_main_v179, val_main_v178, val_main_v177, val_main_cst_42, val_main_cst_43,
    val_main_call10_v0, val_main_call10_v1, val_main_call10_v2, val_main_call10_v3, val_main_call10_v4, Spec.quant, hy, hz]
  rfl

end
end Cert.RefRead
-- ==== Proof.Given.lean ====
module

public import proofs.«01_k».proof.Pre_finite
public import proofs.«01_k».proof.Proof.RefRead
public import Idealize.ShloMosaic.Lib.ReduceAll

@[expose] public section

noncomputable section

/-! # The precondition, element by element

Finite queries and keys are real numbers, and so is every entry of the two angle tables. -/

namespace Cert.Given

open Idealize.ShloMosaic Cert.Tile Cert.Spec

instance facts : Cert.Pre_finite.Facts where
  bitsLt_bf16_f32 := by decide
  bcast_S_S2x768x45x64 := by decide
  reducesTo_S2x768x45x64_S_d0_1_2_3 := by decide
  h_S_ := by decide
  bcast_S_S2x768x5x64 := by decide
  reducesTo_S2x768x5x64_S_d0_1_2_3 := by decide

theorem real_of_lt {x : EReal} (h : max x (-x) < ⊤) : IsReal x := by
  induction x with
  | bot => exact absurd h (by simp)
  | top => exact absurd h (by simp)
  | coe r => exact ⟨r, rfl⟩

theorem real_of_cmp {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  refine real_of_lt ?_
  by_contra hn
  simp [Ideal.cmp, hn] at h

instance : Subsingleton Pre_finite.S_.Idx := ⟨fun _ _ => funext fun a => a.elim0⟩

variable {x0 : FVec Ideal Pre_finite.S2x768x45x64 .bf16} {x1 x2 : FVec Ideal Pre_finite.S2x768x5x64 .bf16} {x3 : IVec Pre_finite.S2 32}

theorem both (h : Pre_finite.fn (F := Ideal) x0 x1 x2 x3 = fun _ => 1#1) : (∀ i, IsReal (x0 i)) ∧ ∀ i, IsReal (x1 i) := by
  have h1 := congrFun h (fun a => a.elim0)
  obtain ⟨a, b⟩ := IntOp.andi_eq_one.1 h1
  exact ⟨fun i => real_of_cmp (Host.reduce_andi_all _ _ _ _ _ a i), fun i => real_of_cmp (Host.reduce_andi_all _ _ _ _ _ b i)⟩

theorem real_pow {x y : EReal} (hx : IsReal x) (hy : IsReal y) : IsReal (Ideal.pow x y) := by
  obtain ⟨a, rfl⟩ := hx
  obtain ⟨b, rfl⟩ := hy
  exact ⟨Real.rpow a b, rfl⟩

theorem real_div {x : EReal} (hx : IsReal x) {y : ℝ} (hy : y ≠ 0) : IsReal (Ideal.div x y) := by
  obtain ⟨a, rfl⟩ := hx
  unfold Ideal.div
  rw [if_neg (by exact_mod_cast hy)]
  exact ⟨a * y⁻¹, by rw [← EReal.coe_inv, ← EReal.coe_mul]⟩

open Cert.ReferenceIdeal Cert.ReferenceIdeal.Read

theorem two : IsReal (Ideal.ofBits .f32 0x40000000#32) := ⟨2, by simp [Ideal.ofBits, Ideal.ieee]; rw [← EReal.coe_mul]; norm_num⟩
theorem base : IsReal (Ideal.ofBits .f32 0x48F42400#32) := ⟨500000, by simp [Ideal.ofBits, Ideal.ieee]; rw [← EReal.coe_mul]; norm_num⟩
theorem width : Ideal.ofBits .f32 0x42800000#32 = ((64 : ℝ) : EReal) := by simp [Ideal.ofBits, Ideal.ieee]; rw [← EReal.coe_mul]; norm_num

theorem freq_real (i : S32.Idx) : IsReal (val_main_v14 (F := Ideal) i) := by
  rw [val_main_v14_apply, val_main_v13_apply, val_main_cst_1_apply, val_main_v12_apply, val_main_v11_apply, val_main_cst_0_apply,
    val_main_v10_apply, val_main_v9_apply, val_main_v8_apply, val_main_cst_apply]
  refine real_pow base ?_
  show IsReal (Ideal.div _ (Ideal.ofBits .f32 0x42800000#32))
  rw [width]
  exact real_div (IsReal.neg (IsReal.mul two ⟨_, rfl⟩)) (by norm_num)

theorem angle_real (x3 : (⟨S2, .i32⟩ : BufTy).Contents (Elt Ideal)) (i : S2x768x32.Idx) : IsReal (val_main_v19 (F := Ideal) x3 i) := by
  rw [val_main_v19_apply, val_main_v17_apply, val_main_v15_apply, val_main_v18_apply, val_main_v16_apply, val_main_v6_apply]
  exact IsReal.mul ⟨_, rfl⟩ (freq_real _)

theorem cos_real {x : EReal} (h : IsReal x) : IsReal (Ideal.cos x) := by
  obtain ⟨a, rfl⟩ := h
  exact ⟨Real.cos a, rfl⟩

theorem sin_real {x : EReal} (h : IsReal x) : IsReal (Ideal.sin x) := by
  obtain ⟨a, rfl⟩ := h
  exact ⟨Real.sin a, rfl⟩

/-- The precondition gives finite arguments. -/
theorem finite (h : Pre_finite.fn (F := Ideal) x0 x1 x2 x3 = fun _ => 1#1) : Finite (RefRead.args x0 x1 x2 x3) :=
  ⟨fun _ _ _ _ => (both h).1 _, fun _ _ _ _ => (both h).2 _, fun _ _ _ => cos_real (angle_real x3 _), fun _ _ _ => sin_real (angle_real x3 _)⟩

end Cert.Given
end
-- ==== Proof.Head.lean ====
module

public import proofs.«01_k».proof.Proof.Body
public import proofs.«01_k».proof.Proof.Facts

@[expose] public section

noncomputable section

/-! # What the kernel computes for one head

`Leaves` are the blocks the kernel reads for one head. The definitions that follow repeat the kernel's operations on them, and the
theorems say what every stored block holds, given what the blocks read hold (`Leaves.Reads`). -/

namespace Cert.Head

open Idealize.ShloMosaic Cert.Tile Cert.Body Cert.Spec

/-- The blocks read for one head, by batch: queries, tables, the scaled keys in pieces, key codes, values and value codes of the first
256, 512 and 768 keys, and the two scales. -/
structure Leaves where
  x : Fin 2 → FVec Ideal (M4 64 768) .bf16
  c : Fin 2 → FVec Ideal (M3 32 768) .f32
  s : Fin 2 → FVec Ideal (M3 32 768) .f32
  k0 : Fin 2 → FVec Ideal (M3 256 192) .bf16
  k1 : Fin 2 → FVec Ideal (M3 512 192) .bf16
  k2 : Fin 2 → FVec Ideal (M3 768 192) .bf16
  c0 : Fin 2 → FVec Ideal (M3 256 64) .fp8e4m3
  c1 : Fin 2 → FVec Ideal (M3 512 64) .fp8e4m3
  c2 : Fin 2 → FVec Ideal (M3 768 64) .fp8e4m3
  v0 : Fin 2 → FVec Ideal (M4 64 256) .bf16
  v1 : Fin 2 → FVec Ideal (M4 64 512) .bf16
  v2 : Fin 2 → FVec Ideal (M4 64 768) .bf16
  w0 : Fin 2 → FVec Ideal (M3 64 256) .fp8e4m3
  w1 : Fin 2 → FVec Ideal (M3 64 512) .fp8e4m3
  w2 : Fin 2 → FVec Ideal (M3 64 768) .fp8e4m3
  ks : FVec Ideal (M2 1 1) .f32
  vs : FVec Ideal (M2 1 1) .f32
  ln2 : Ideal .f32
  log2e : Ideal .f32

theorem early : Early 256 := ⟨by decide, by decide, by decide, by decide, by decide, by decide, by decide⟩
theorem late0 : Late 256 128 256 128 :=
  ⟨rfl, by decide, by decide, by decide, by decide, by decide, by decide, by decide, by decide, by decide, by decide, by decide⟩
theorem late1 : Late 512 256 384 0 :=
  ⟨rfl, by decide, by decide, by decide, by decide, by decide, by decide, by decide, by decide, by decide, by decide, by decide⟩
theorem late1' : Late 512 384 512 128 :=
  ⟨rfl, by decide, by decide, by decide, by decide, by decide, by decide, by decide, by decide, by decide, by decide, by decide⟩
theorem late2 : Late 768 512 640 0 :=
  ⟨rfl, by decide, by decide, by decide, by decide, by decide, by decide, by decide, by decide, by decide, by decide, by decide⟩
theorem late2' : Late 768 640 768 128 :=
  ⟨rfl, by decide, by decide, by decide, by decide, by decide, by decide, by decide, by decide, by decide, by decide, by decide⟩

/-- The largest output magnitudes of a tile. -/
def tileRow {H : ℕ} (V : FVec Ideal (M4 64 H) .bf16) (a b : FVec Ideal (M2 H 128) .bf16) (u v : FVec Ideal (M2 1 128) .f32)
    (hv : (M4 64 H).ShapeCasts (M2 64 H)) (h : Shape.Concatenates [M2 H 128, M2 H 128] (M2 H 256) 1) : FVec Ideal (M2 1 256) .f32 :=
  outRow (outOf (shapeCast (M2 64 H) V hv) a b h) (beside u v (by decide)) (by decide) (by decide)

/-- The dequantised outputs of a tile. -/
def tileOut {H : ℕ} (V : FVec Ideal (M3 64 H) .fp8e4m3) (a b : FVec Ideal (M2 H 128) .fp8e4m3) (s : FVec Ideal (M2 1 1) .f32)
    (hv : (M3 64 H).ShapeCasts (M2 64 H)) (h : Shape.Concatenates [M2 H 128, M2 H 128] (M2 H 256) 1) : FVec Ideal (M2 64 256) .f32 :=
  outTile (outOf (shapeCast (M2 64 H) V hv) a b h) s (by decide)

namespace Leaves
variable (L : Leaves)

def q (b : Fin 2) : FVec Ideal (M2 64 768) .bf16 := rope (L.x b) (L.c b) (L.s b)
def rq (b : Fin 2) : FVec Ideal (M2 1 768) .f32 := rowMax (L.q b)
def aq : FVec Ideal (M2 1 1) .f32 := allMax (L.rq 0) (L.rq 1)
def sq : FVec Ideal (M2 1 1) .f32 := scale L.aq
def cq (b : Fin 2) : FVec Ideal (M2 64 768) .fp8e4m3 := codes (extf .f32 (L.q b) (by decide)) L.sq (by decide)
def fac : FVec Ideal (M2 1 1) .f32 := factor L.log2e L.sq L.ks

/-- The scores of the three tiles, in units of log 2, and those of the codes. -/
def x0 (b : Fin 2) : FVec Ideal (M2 256 256) .f32 := dots 0 (L.k0 b) (thrice (L.q b)) (by decide) (by decide)
def x1 (b : Fin 2) : FVec Ideal (M2 512 256) .f32 := dots 256 (L.k1 b) (thrice (L.q b)) (by decide) (by decide)
def x2 (b : Fin 2) : FVec Ideal (M2 768 256) .f32 := dots 512 (L.k2 b) (thrice (L.q b)) (by decide) (by decide)
def y0 (b : Fin 2) : FVec Ideal (M2 256 256) .f32 := dots 0 (L.c0 b) (L.cq b) (by decide) (by decide)
def y1 (b : Fin 2) : FVec Ideal (M2 512 256) .f32 := dots 256 (L.c1 b) (L.cq b) (by decide) (by decide)
def y2 (b : Fin 2) : FVec Ideal (M2 768 256) .f32 := dots 512 (L.c2 b) (L.cq b) (by decide) (by decide)

def rs (b : Fin 2) : FVec Ideal (M2 1 768) .f32 :=
  cat6 (early.row (L.x0 b) L.ln2) (late0.row (L.x0 b) L.ln2) (late1.row (L.x1 b) L.ln2) (late1'.row (L.x1 b) L.ln2)
    (late2.row (L.x2 b) L.ln2) (late2'.row (L.x2 b) L.ln2)
def sa : FVec Ideal (M2 1 1) .f32 := allMax (L.rs 0) (L.rs 1)
def ss : FVec Ideal (M2 1 1) .f32 := scale L.sa

def ro (b : Fin 2) : FVec Ideal (M2 1 768) .f32 :=
  cat3
    (tileRow (L.v0 b) (padded (early.p (L.x0 b)) (Scalar.ofBits .bf16 0x0000#16) (by decide)) (late0.p (L.x0 b)) (early.inv (L.x0 b)) (late0.inv (L.x0 b)) (by decide) (by decide))
    (tileRow (L.v1 b) (padded (late1.p (L.x1 b)) (Scalar.ofBits .bf16 0x0000#16) (by decide)) (late1'.p (L.x1 b)) (late1.inv (L.x1 b)) (late1'.inv (L.x1 b)) (by decide) (by decide))
    (tileRow (L.v2 b) (padded (late2.p (L.x2 b)) (Scalar.ofBits .bf16 0x0000#16) (by decide)) (late2'.p (L.x2 b)) (late2.inv (L.x2 b)) (late2'.inv (L.x2 b)) (by decide) (by decide))
    (show Shape.Concatenates [M2 1 256, M2 1 256, M2 1 256] (M2 1 768) 1 by decide)
def ao : FVec Ideal (M2 1 1) .f32 := allMax (L.ro 0) (L.ro 1)
def so : FVec Ideal (M2 1 1) .f32 := scale L.ao

def oc (b : Fin 2) : FVec Ideal (M4 64 768) .fp8e4m3 :=
  tiles
    (tileOut (L.w0 b) (padded (early.p8 (L.y0 b) L.fac) (Scalar.ofBits .fp8e4m3 0x00#8) (by decide)) (late0.p8 (L.y0 b) L.fac) L.vs (by decide) (by decide))
    (tileOut (L.w1 b) (padded (late1.p8 (L.y1 b) L.fac) (Scalar.ofBits .fp8e4m3 0x00#8) (by decide)) (late1'.p8 (L.y1 b) L.fac) L.vs (by decide) (by decide))
    (tileOut (L.w2 b) (padded (late2.p8 (L.y2 b) L.fac) (Scalar.ofBits .fp8e4m3 0x00#8) (by decide)) (late2'.p8 (L.y2 b) L.fac) L.vs (by decide) (by decide))
    L.so

end Leaves

/-! ## A half, by the number of its query -/

variable {H n N j lo : ℕ} {g : ℕ → ℕ → EReal}

/-- The largest score magnitude of a query. -/
def magOf (g : ℕ → ℕ → EReal) (c : EReal) (i : ℕ) : EReal := max (top (g i) i) (0 - bot (g i) i) * c

theorem early_row (F : Early H) {X : FVec Ideal (M2 H 256) .f32} (hX : ∀ (k : Fin H) (c : Fin 256), X (ix2 k c) = g (0 + c.val) k.val) (c) (l : Fin 128) :
    F.row X c (ix2 0 l) = magOf g c (0 + l.val) := by
  rw [F.row_apply (f := fun c => g (0 + c)) hX]
  simp only [magOf, Nat.zero_add]
theorem late_row (F : Late H n N j) (hn : n = lo + j) {X : FVec Ideal (M2 H 256) .f32}
    (hX : ∀ (k : Fin H) (c : Fin 256), X (ix2 k c) = g (lo + c.val) k.val) (c) (l : Fin 128) :
    F.row X c (ix2 0 l) = magOf g c (n + l.val) := by
  rw [F.row_apply (f := fun c => g (lo + c)) hX]
  simp only [magOf, hn, Nat.add_assoc]

/-- The weight of a key for a query. -/
def wOf (g : ℕ → ℕ → EReal) (lo c k : ℕ) : EReal := wt (g (lo + c)) (lo + c) k
/-- The reciprocal of the sum of a query's weights. -/
def iOf (g : ℕ → ℕ → EReal) (lo c : ℕ) : EReal := Ideal.div (Ideal.ofBits .f32 0x3F800000#32) (wsum (g (lo + c)) (lo + c))
/-- The weight of a key for a query, scaled to 448. -/
def w8Of (g : ℕ → ℕ → EReal) (lo c k : ℕ) : EReal := wt (g (lo + c)) (lo + c) k * Ideal.div (Ideal.ofBits .f32 0x43E00000#32) (wsum (g (lo + c)) (lo + c))

theorem late_p (F : Late H n N j) (hn : n = lo + j) {X : FVec Ideal (M2 H 256) .f32}
    (hX : ∀ (k : Fin H) (c : Fin 256), X (ix2 k c) = g (lo + c.val) k.val) : Holds (F.p X) n fun l => wOf g lo (j + l.val) := by
  subst hn
  have := F.p_holds (f := fun c => g (lo + c)) hX
  simp only [Nat.add_assoc] at this
  exact this
theorem late_inv (F : Late H n N j) (hn : n = lo + j) {X : FVec Ideal (M2 H 256) .f32}
    (hX : ∀ (k : Fin H) (c : Fin 256), X (ix2 k c) = g (lo + c.val) k.val) (l : Fin 128) : F.inv X (ix2 0 l) = iOf g lo (j + l.val) := by
  rw [F.inv_apply (f := fun c => g (lo + c)) hX]
  simp only [iOf, hn, Nat.add_assoc]
theorem late_p8 (F : Late H n N j) (hn : n = lo + j) {X : FVec Ideal (M2 H 256) .f32} {f : ℕ → ℕ → EReal}
    (hX : ∀ (k : Fin H) (c : Fin 256), X (ix2 k c) = f (lo + c.val) k.val) {s : FVec Ideal (M2 1 1) .f32} {r : EReal}
    (hs : s (ix2 0 0) = r) (hr : 0 < r) : Holds (F.p8 X s) n fun l => w8Of (fun i k => f i k * r) lo (j + l.val) := by
  subst hn
  have := F.p8_holds (f := fun c => f (lo + c)) hX hs hr
  simp only [Nat.add_assoc] at this
  exact this
theorem early_p (F : Early H) {X : FVec Ideal (M2 H 256) .f32} (hX : ∀ (k : Fin H) (c : Fin 256), X (ix2 k c) = g (0 + c.val) k.val) :
    Holds (F.p X) 0 fun l => wOf g 0 l.val := F.p_holds (f := fun c => g (0 + c)) hX
theorem early_inv (F : Early H) {X : FVec Ideal (M2 H 256) .f32} (hX : ∀ (k : Fin H) (c : Fin 256), X (ix2 k c) = g (0 + c.val) k.val) (l : Fin 128) :
    F.inv X (ix2 0 l) = iOf g 0 l.val := F.inv_apply (f := fun c => g (0 + c)) hX l
theorem early_p8 (F : Early H) {X : FVec Ideal (M2 H 256) .f32} {f : ℕ → ℕ → EReal} (hX : ∀ (k : Fin H) (c : Fin 256), X (ix2 k c) = f (0 + c.val) k.val)
    {s : FVec Ideal (M2 1 1) .f32} {r : EReal} (hs : s (ix2 0 0) = r) (hr : 0 < r) : Holds (F.p8 X s) 0 fun l => w8Of (fun i k => f i k * r) 0 l.val :=
  F.p8_holds (f := fun c => f (0 + c)) hX hs hr

/-! ## A tile, by the number of its query -/

/-- An output before the division, and its largest magnitude after it. -/
def sumOf (g : ℕ → ℕ → EReal) (v : Fin 64 → ℕ → EReal) (d : Fin 64) (i : ℕ) : EReal := ∑ k ∈ Finset.range (i + 1), v d k * wt (g i) i k
def outMag (g : ℕ → ℕ → EReal) (v : Fin 64 → ℕ → EReal) (i : ℕ) : EReal :=
  (Finset.univ.sup fun d => max (sumOf g v d i) (-sumOf g v d i)) * Ideal.div (Ideal.ofBits .f32 0x3F800000#32) (wsum (g i) i)
/-- A dequantised output. -/
def sum8 (g : ℕ → ℕ → EReal) (v : Fin 64 → ℕ → EReal) (s : EReal) (d : Fin 64) (i : ℕ) : EReal :=
  (∑ k ∈ Finset.range (i + 1), v d k * (wt (g i) i k * Ideal.div (Ideal.ofBits .f32 0x43E00000#32) (wsum (g i) i))) * (s * Ideal.ofBits .f32 0x3B124925#32)

theorem tileRow_apply {V : FVec Ideal (M4 64 H) .bf16} {v : Fin 64 → ℕ → EReal} {a b : FVec Ideal (M2 H 128) .bf16} {u w : FVec Ideal (M2 1 128) .f32}
    (hH : H = lo + 256) (hV : ∀ (d : Fin 64) (k : Fin H), V (ix4 0 0 d k) = v d k.val)
    (ha : Holds a lo fun l => wOf g lo l.val) (hb : Holds b (lo + 128) fun l => wOf g lo (128 + l.val))
    (hu : ∀ l : Fin 128, u (ix2 0 l) = iOf g lo l.val) (hw : ∀ l : Fin 128, w (ix2 0 l) = iOf g lo (128 + l.val)) (hv h) (c : Fin 256) :
    tileRow V a b u w hv h (ix2 0 c) = outMag g v (lo + c.val) := by
  have hV' : ∀ (d : Fin 64) (k : Fin H), shapeCast (M2 64 H) V hv (ix2 d k) = v d k.val := fun d k => by
    rw [← hV]; exact congrArg V (ValueIdx.reshapeEquiv_ix2_11ab _ _ _)
  exact outRow_of hH hV' ha hb hu hw h _ _ _ c

theorem tileOut_apply {V : FVec Ideal (M3 64 H) .fp8e4m3} {v : Fin 64 → ℕ → EReal} {a b : FVec Ideal (M2 H 128) .fp8e4m3} {s : FVec Ideal (M2 1 1) .f32}
    (hH : H = lo + 256) (hV : ∀ (d : Fin 64) (k : Fin H), V (ix3 0 d k) = v d k.val)
    (ha : Holds a lo fun l => w8Of g lo l.val) (hb : Holds b (lo + 128) fun l => w8Of g lo (128 + l.val)) (hv h) (d : Fin 64) (c : Fin 256) :
    tileOut V a b s hv h (ix2 d c) = sum8 g v (s (ix2 0 0)) d (lo + c.val) := by
  have hV' : ∀ (d : Fin 64) (k : Fin H), shapeCast (M2 64 H) V hv (ix2 d k) = v d k.val := fun d k => by
    rw [← hV]; exact congrArg V (ValueIdx.reshapeEquiv_ix2_1ab _ _ _)
  unfold tileOut
  rw [outTile_apply, outOf_apply (W := w8Of g lo) hH hV' ha hb]
  rfl

end Cert.Head
-- ==== Proof.HeadSpec.lean ====
module

public import proofs.«01_k».proof.Proof.Head

@[expose] public section

noncomputable section

/-! # What one head's stored blocks hold

`Leaves.Reads` says that the blocks read hold the inputs, the key data and the value data of the head's group. Then every stored
block holds the specification's values. -/

namespace Cert.Head

open Idealize.ShloMosaic Cert.Tile Cert.Body Cert.Spec

/-- The factor of the keys. -/
def kFac : EReal := (((1 / 8) * (Real.log 2)⁻¹ : ℝ) : EReal)

/-- What the pieces of a key hold: the scaled key, then zeros. -/
def key3 (A : Args) (b : Fin 2) (g : Fin 5) (k : ℕ) (e : Fin 192) : EReal :=
  if h : e.val < 64 then ext (fun k => kr A b k g ⟨e.val, h⟩) k * kFac else 0

/-- What the blocks of one head hold. -/
structure Leaves.Reads (L : Leaves) (A : Args) (h : Fin 45) : Prop where
  x : ∀ b d i, L.x b (ix4 0 0 d i) = A.q b i h d
  c : ∀ b e i, L.c b (ix3 0 e i) = A.c b i e
  s : ∀ b e i, L.s b (ix3 0 e i) = A.s b i e
  k0 : ∀ b (k : Fin 256) e, L.k0 b (ix3 0 k e) = key3 A b (grp h) k.val e
  k1 : ∀ b (k : Fin 512) e, L.k1 b (ix3 0 k e) = key3 A b (grp h) k.val e
  k2 : ∀ b (k : Fin 768) e, L.k2 b (ix3 0 k e) = key3 A b (grp h) k.val e
  c0 : ∀ b (k : Fin 256) d, L.c0 b (ix3 0 k d) = ext (fun k => codeK A b k (grp h) d) k.val
  c1 : ∀ b (k : Fin 512) d, L.c1 b (ix3 0 k d) = ext (fun k => codeK A b k (grp h) d) k.val
  c2 : ∀ b (k : Fin 768) d, L.c2 b (ix3 0 k d) = ext (fun k => codeK A b k (grp h) d) k.val
  v0 : ∀ b d (k : Fin 256), L.v0 b (ix4 0 0 d k) = ext (fun k => A.v b k (grp h) d) k.val
  v1 : ∀ b d (k : Fin 512), L.v1 b (ix4 0 0 d k) = ext (fun k => A.v b k (grp h) d) k.val
  v2 : ∀ b d (k : Fin 768), L.v2 b (ix4 0 0 d k) = ext (fun k => A.v b k (grp h) d) k.val
  w0 : ∀ b d (k : Fin 256), L.w0 b (ix3 0 d k) = ext (fun k => codeV A b k (grp h) d) k.val
  w1 : ∀ b d (k : Fin 512), L.w1 b (ix3 0 d k) = ext (fun k => codeV A b k (grp h) d) k.val
  w2 : ∀ b d (k : Fin 768), L.w2 b (ix3 0 d k) = ext (fun k => codeV A b k (grp h) d) k.val
  ks : L.ks (ix2 0 0) = scaleK A (grp h)
  vs : L.vs (ix2 0 0) = scaleV A (grp h)
  ln2 : L.ln2 = ((Real.log 2 : ℝ) : EReal)
  log2e : L.log2e = (((Real.log 2)⁻¹ : ℝ) : EReal)

/-! ## Scores in units of log 2 -/

theorem dot_scaled {q k : Fin 64 → EReal} (hq : ∀ d, IsReal (q d)) (hk : ∀ d, IsReal (k d)) :
    ∑ d, (k d * kFac) * q d = (∑ d, q d * k d) * Ideal.ofBits .f32 0x3E000000#32 * (((Real.log 2)⁻¹ : ℝ) : EReal) := by
  choose a ha using hq
  choose c hc using hk
  have e1 : ∑ d, (k d * kFac) * q d = ((∑ d, c d * ((1 / 8) * (Real.log 2)⁻¹) * a d : ℝ) : EReal) := by
    rw [← coe_sum]; exact Finset.sum_congr rfl fun d _ => by rw [ha, hc, kFac, ← EReal.coe_mul, ← EReal.coe_mul]
  have e2 : ∑ d, q d * k d = ((∑ d, a d * c d : ℝ) : EReal) := by
    rw [← coe_sum]; exact Finset.sum_congr rfl fun d _ => by rw [ha, hc, EReal.coe_mul]
  rw [e1, e2, pos_eighth, ← EReal.coe_mul, ← EReal.coe_mul, Finset.sum_mul, Finset.sum_mul]
  congr 1
  exact Finset.sum_congr rfl fun d _ => by ring

theorem ext_mul (f : Fin 768 → EReal) (r : EReal) (k : ℕ) : ext f k * r = ext (fun k => f k * r) k := by
  unfold ext
  split
  · rfl
  · rw [zero_mul]

variable (A : Args) (b : Fin 2) (h : Fin 45)

/-- The scores in units of log 2, by query and key. -/
def units (i k : ℕ) : EReal := ext (fun i => score A b h i k * (((Real.log 2)⁻¹ : ℝ) : EReal)) i
/-- The products of the codes. -/
def prods (i k : ℕ) : EReal := ext (fun i => ext (fun k => ∑ d : Fin 64, codeQ A b i h d * codeK A b k (grp h) d) k) i
/-- The factor of the products. -/
def facOf : EReal := scaleQ A h * scaleK A (grp h) * Ideal.ofBits .f32 0x3E000000#32 * (((Real.log 2)⁻¹ : ℝ) : EReal)

variable {A} {b} {h}

theorem log2_pos : 0 < (Real.log 2)⁻¹ := inv_pos.mpr (Real.log_pos (by norm_num))
theorem facOf_pos (F : Finite A) : 0 < facOf A h := by
  obtain ⟨r, hr, e⟩ : Pos (facOf A h) := (((F.scaleQ h).mul (F.scaleK (grp h))).mul ⟨1 / 8, by norm_num, pos_eighth⟩).mul ⟨_, log2_pos, rfl⟩
  rw [e]; exact_mod_cast hr

theorem prods_fac (i : Fin 768) (k : ℕ) : prods A b h i.val k * facOf A h = score8 A b h i k * (((Real.log 2)⁻¹ : ℝ) : EReal) := by
  unfold prods
  rw [ext_val, facOf, ← mul_assoc, ext_mul]
  rfl

theorem units_eq (i : Fin 768) (k : ℕ) : units A b h i.val k = score A b h i k * (((Real.log 2)⁻¹ : ℝ) : EReal) := by
  unfold units
  rw [ext_val]

/-- The real scores of a query. -/
theorem score_reals (F : Finite A) (i : Fin 768) : ∃ s : ℕ → ℝ, (∀ k, k ≤ i.val → score A b h i k = (s k : EReal))
    ∧ ∀ k, k ≤ i.val → units A b h i.val k = ((s k * (Real.log 2)⁻¹ : ℝ) : EReal) := by
  choose s hs using F.score b h i
  exact ⟨s, fun k _ => hs k, fun k _ => by rw [units_eq, hs, EReal.coe_mul]⟩
theorem score8_reals (F : Finite A) (i : Fin 768) : ∃ s : ℕ → ℝ, (∀ k, k ≤ i.val → score8 A b h i k = (s k : EReal))
    ∧ ∀ k, k ≤ i.val → prods A b h i.val k * facOf A h = ((s k * (Real.log 2)⁻¹ : ℝ) : EReal) := by
  choose s hs using F.score8 b h i
  exact ⟨s, fun k _ => hs k, fun k _ => by rw [prods_fac, hs, EReal.coe_mul]⟩

theorem magOf_eq (F : Finite A) (i : Fin 768) : magOf (units A b h) ((Real.log 2 : ℝ) : EReal) i.val = rowS A b i h := by
  obtain ⟨s, h1, h2⟩ := score_reals (b := b) (h := h) F i
  exact rows_scaled h1 h2

theorem one_word : Ideal.ofBits .f32 0x3F800000#32 = (1 : EReal) := by simp [Ideal.ofBits, Ideal.ieee]; rw [← EReal.coe_mul]; norm_num

theorem outMag_eq (F : Finite A) (i : Fin 768) : outMag (units A b h) (fun d => ext fun k => A.v b k (grp h) d) i.val = rowO A b i h := by
  obtain ⟨s, h1, h2⟩ := score_reals (b := b) (h := h) F i
  unfold outMag
  rw [one_word]
  exact outRow_scaled h1 h2 _

theorem sum8_eq (F : Finite A) (d : Fin 64) (i : Fin 768) :
    sum8 (fun i k => prods A b h i k * facOf A h) (fun d => ext fun k => codeV A b k (grp h) d) (scaleV A (grp h)) d i.val = out8 A b i h d := by
  obtain ⟨s, h1, h2⟩ := score8_reals (b := b) (h := h) F i
  unfold sum8 out8
  exact congrArg₂ (fun a b : EReal => a * b) (out8_scaled h1 h2 _ _) rfl

/-! ## The blocks -/

namespace Leaves
variable {L : Leaves} (R : L.Reads A h)
include R

theorem q_apply (b d i) : L.q b (ix2 d i) = qr A b i h d := by
  rw [q, rope_apply]
  simp only [R.x, R.c, R.s]
  rfl
theorem rq_apply (b i) : L.rq b (ix2 0 i) = rowQ A b i h := by
  rw [rq, rowMax_apply]
  simp only [q_apply R]
  rfl
theorem aq_apply : L.aq (ix2 0 0) = amaxQ A h :=
  allMax_apply (f := fun b i => rowQ A b i h) (rq_apply R 0) (rq_apply R 1)
theorem sq_apply : L.sq (ix2 0 0) = scaleQ A h := by rw [sq, scale_apply, aq_apply R]; rfl
theorem cq_apply (b d i) : L.cq b (ix2 d i) = codeQ A b i h d := by
  rw [cq, codes_apply, sq_apply R]
  exact congrArg (fun x => quant x _) (q_apply R b d i)
theorem fac_apply : L.fac (ix2 0 0) = facOf A h := by
  rw [fac, factor_apply, sq_apply R, R.ks, R.log2e]; rfl

theorem scores {H lo : ℕ} (hlo : lo + 256 ≤ 768) (F : Finite A) (b) {K : FVec Ideal (M3 H 192) .bf16} (hK : ∀ (k : Fin H) e, K (ix3 0 k e) = key3 A b (grp h) k.val e)
    (hH : H ≤ 768) (hc hs) (k : Fin H) (c : Fin 256) : dots lo K (thrice (L.q b)) hc hs (ix2 k c) = units A b h (lo + c.val) k.val := by
  have hc' := c.isLt
  have hk := k.isLt
  rw [dots_apply lo hlo]
  refine (Fin.sum_univ_add (a := 64) (b := 128) (fun e => K (ix3 0 k e) * thrice (L.q b) (ix2 e ⟨lo + c.val, by omega⟩))).trans ?_
  have e0 : ∀ e : Fin 128, K (ix3 0 k (Fin.natAdd 64 e)) * thrice (L.q b) (ix2 (Fin.natAdd 64 e) ⟨lo + c.val, by omega⟩) = 0 := fun e => by
    rw [hK, key3, dif_neg (by simp), zero_mul]
  rw [Finset.sum_congr rfl fun e _ => e0 e, Finset.sum_const_zero, add_zero]
  have e1 : ∀ d : Fin 64, K (ix3 0 k (Fin.castAdd 128 d)) * thrice (L.q b) (ix2 (Fin.castAdd 128 d) ⟨lo + c.val, by omega⟩)
      = (kr A b ⟨k.val, by omega⟩ (grp h) d * kFac) * qr A b ⟨lo + c.val, by omega⟩ h d := fun d => by
    rw [hK, key3, dif_pos (show (Fin.castAdd 128 d).val < 64 from d.isLt), thrice_apply _ _ _ (show (Fin.castAdd 128 d).val < 64 from d.isLt)]
    refine congrArg₂ (fun a b : EReal => a * b) (congrArg (fun a : EReal => a * kFac) ?_) (q_apply R b d _)
    exact ext_val (fun k => kr A b k (grp h) d) ⟨k.val, by omega⟩
  rw [Finset.sum_congr rfl fun d _ => e1 d, dot_scaled (fun d => F.qr _ _ _ d) fun d => F.kr _ _ _ d]
  refine Eq.trans ?_ (units_eq (A := A) (b := b) (h := h) ⟨lo + c.val, by omega⟩ k.val).symm
  refine congrArg (fun a : EReal => a * _) ?_
  exact (ext_val (fun k => (∑ d : Fin 64, qr A b ⟨lo + c.val, by omega⟩ h d * kr A b k (grp h) d) * Ideal.ofBits .f32 0x3E000000#32) ⟨k.val, by omega⟩).symm

theorem products {H lo : ℕ} (hlo : lo + 256 ≤ 768) (b) {K : FVec Ideal (M3 H 64) .fp8e4m3}
    (hK : ∀ (k : Fin H) d, K (ix3 0 k d) = ext (fun k => codeK A b k (grp h) d) k.val)
    (hH : H ≤ 768) (hc hs) (k : Fin H) (c : Fin 256) : dots lo K (L.cq b) hc hs (ix2 k c) = prods A b h (lo + c.val) k.val := by
  have hc' := c.isLt
  have hk := k.isLt
  rw [dots_apply lo hlo]
  unfold prods
  refine Eq.trans ?_ (ext_val _ ⟨lo + c.val, by omega⟩).symm
  refine Eq.trans ?_ (ext_val _ ⟨k.val, by omega⟩).symm
  refine Finset.sum_congr rfl fun d _ => ?_
  rw [hK, cq_apply R, mul_comm]
  exact congrArg (fun a : EReal => _ * a) (ext_val (fun k => codeK A b k (grp h) d) ⟨k.val, by omega⟩)

theorem x0_apply (F : Finite A) (b) (k : Fin 256) (c : Fin 256) : L.x0 b (ix2 k c) = units A b h (0 + c.val) k.val :=
  scores R (by decide) F b (R.k0 b) (by decide) _ _ k c
theorem x1_apply (F : Finite A) (b) (k : Fin 512) (c : Fin 256) : L.x1 b (ix2 k c) = units A b h (256 + c.val) k.val :=
  scores R (by decide) F b (R.k1 b) (by decide) _ _ k c
theorem x2_apply (F : Finite A) (b) (k : Fin 768) (c : Fin 256) : L.x2 b (ix2 k c) = units A b h (512 + c.val) k.val :=
  scores R (by decide) F b (R.k2 b) (by decide) _ _ k c
theorem y0_apply (b) (k : Fin 256) (c : Fin 256) : L.y0 b (ix2 k c) = prods A b h (0 + c.val) k.val :=
  products R (by decide) b (R.c0 b) (by decide) _ _ k c
theorem y1_apply (b) (k : Fin 512) (c : Fin 256) : L.y1 b (ix2 k c) = prods A b h (256 + c.val) k.val :=
  products R (by decide) b (R.c1 b) (by decide) _ _ k c
theorem y2_apply (b) (k : Fin 768) (c : Fin 256) : L.y2 b (ix2 k c) = prods A b h (512 + c.val) k.val :=
  products R (by decide) b (R.c2 b) (by decide) _ _ k c

theorem rs_apply (F : Finite A) (b i) : L.rs b (ix2 0 i) = rowS A b i h := by
  rw [← magOf_eq F, ← R.ln2]
  exact cat6_apply (g := magOf (units A b h) L.ln2) (early_row early (x0_apply R F b) _) (late_row late0 (lo := 0) rfl (x0_apply R F b) _)
    (late_row late1 (lo := 256) rfl (x1_apply R F b) _) (late_row late1' (lo := 256) rfl (x1_apply R F b) _)
    (late_row late2 (lo := 512) rfl (x2_apply R F b) _) (late_row late2' (lo := 512) rfl (x2_apply R F b) _) i
theorem sa_apply (F : Finite A) : L.sa (ix2 0 0) = amaxS A h :=
  allMax_apply (f := fun b i => rowS A b i h) (rs_apply R F 0) (rs_apply R F 1)
theorem ss_apply (F : Finite A) : L.ss (ix2 0 0) = scaleS A h := by rw [ss, scale_apply, sa_apply R F]; rfl

omit R in
theorem zero_bf : (Scalar.ofBits .bf16 0x0000#16 : Ideal .bf16) = (0 : EReal) := by
  show Ideal.ofBits .bf16 0x0000#16 = _
  simp [Ideal.ofBits, Ideal.ieee]
omit R in
theorem zero_f8 : (Scalar.ofBits .fp8e4m3 0x00#8 : Ideal .fp8e4m3) = (0 : EReal) := by
  show Ideal.ofBits .fp8e4m3 0x00#8 = _
  simp [Ideal.ofBits, Ideal.e4m3fn]

theorem ro_apply (F : Finite A) (b i) : L.ro b (ix2 0 i) = rowO A b i h := by
  rw [← outMag_eq F]
  refine cat3_apply (R := 1) (f := fun _ => outMag (units A b h) (fun d => ext fun k => A.v b k (grp h) d)) ?_ ?_ ?_ _ 0 i
  · intro d l
    obtain rfl : d = 0 := Subsingleton.elim _ _
    exact tileRow_apply (lo := 0) rfl (R.v0 b) (padded_holds (early_p early (x0_apply R F b)) zero_bf rfl rfl _) (late_p late0 (lo := 0) rfl (x0_apply R F b))
      (early_inv early (x0_apply R F b)) (late_inv late0 (lo := 0) rfl (x0_apply R F b)) _ _ l
  · intro d l
    obtain rfl : d = 0 := Subsingleton.elim _ _
    exact tileRow_apply (lo := 256) rfl (R.v1 b) (padded_holds (by simpa only [Nat.zero_add] using late_p late1 (lo := 256) rfl (x1_apply R F b)) zero_bf rfl rfl _)
      (late_p late1' (lo := 256) rfl (x1_apply R F b))
      (by simpa only [Nat.zero_add] using late_inv late1 (lo := 256) rfl (x1_apply R F b)) (late_inv late1' (lo := 256) rfl (x1_apply R F b)) _ _ l
  · intro d l
    obtain rfl : d = 0 := Subsingleton.elim _ _
    exact tileRow_apply (lo := 512) rfl (R.v2 b) (padded_holds (by simpa only [Nat.zero_add] using late_p late2 (lo := 512) rfl (x2_apply R F b)) zero_bf rfl rfl _)
      (late_p late2' (lo := 512) rfl (x2_apply R F b))
      (by simpa only [Nat.zero_add] using late_inv late2 (lo := 512) rfl (x2_apply R F b)) (late_inv late2' (lo := 512) rfl (x2_apply R F b)) _ _ l
theorem ao_apply (F : Finite A) : L.ao (ix2 0 0) = amaxO A h :=
  allMax_apply (f := fun b i => rowO A b i h) (ro_apply R F 0) (ro_apply R F 1)
theorem so_apply (F : Finite A) : L.so (ix2 0 0) = scaleO A h := by rw [so, scale_apply, ao_apply R F]; rfl

omit R in
theorem cast_apply (X : FVec Ideal (M2 64 768) .fp8e4m3) (hc : (M2 64 768).ShapeCasts (M4 64 768)) (d i) : shapeCast (M4 64 768) X hc (ix4 0 0 d i) = X (ix2 d i) := by
  pointwise []

theorem oc_apply (F : Finite A) (b d i) : L.oc b (ix4 0 0 d i) = codeO A b i h d := by
  have hf := fac_apply R
  have hp := facOf_pos (h := h) F
  unfold oc tiles codeO
  rw [← so_apply R F, ← sum8_eq F]
  refine (cast_apply _ _ d i).trans ?_
  rw [codes_apply]
  generalize L.so (ix2 0 0) = w
  refine congrArg (fun x => quant x w) ?_
  refine cat3_apply (R := 64) (f := sum8 (fun i k => prods A b h i k * facOf A h) (fun d => ext fun k => codeV A b k (grp h) d) (scaleV A (grp h))) ?_ ?_ ?_ _ d i
  · intro d l
    rw [← R.vs]
    exact tileOut_apply (lo := 0) rfl (R.w0 b) (padded_holds (early_p8 early (y0_apply R b) hf hp) zero_f8 rfl rfl _)
      (late_p8 late0 (lo := 0) rfl (y0_apply R b) hf hp) _ _ d l
  · intro d l
    rw [← R.vs]
    exact tileOut_apply (lo := 256) rfl (R.w1 b) (padded_holds (by simpa only [Nat.zero_add] using late_p8 late1 (lo := 256) rfl (y1_apply R b) hf hp) zero_f8 rfl rfl _)
      (late_p8 late1' (lo := 256) rfl (y1_apply R b) hf hp) _ _ d l
  · intro d l
    rw [← R.vs]
    exact tileOut_apply (lo := 512) rfl (R.w2 b) (padded_holds (by simpa only [Nat.zero_add] using late_p8 late2 (lo := 512) rfl (y2_apply R b) hf hp) zero_f8 rfl rfl _)
      (late_p8 late2' (lo := 512) rfl (y2_apply R b) hf hp) _ _ d l

end Leaves
end Cert.Head
-- ==== Proof.Key.lean ====
module

public import proofs.«01_k».proof.Proof.HeadSpec

@[expose] public section

noncomputable section

/-! # What the kernel computes for one group

The keys and values of a group are prepared once: largest magnitudes, scales, codes, and the keys in pieces. The definitions repeat
the kernel's operations on the blocks read; the theorems say what every block holds. -/

namespace Cert.Key

open Idealize.ShloMosaic Cert.Tile Cert.Body Cert.Spec

/-- The blocks read for one group, by batch: keys, values, tables. -/
structure Leaves where
  x : Fin 2 → FVec Ideal (M4 64 768) .bf16
  y : Fin 2 → FVec Ideal (M4 64 768) .bf16
  c : Fin 2 → FVec Ideal (M3 32 768) .f32
  s : Fin 2 → FVec Ideal (M3 32 768) .f32
  fac : Ideal .f32

namespace Leaves
variable (L : Leaves)

def k (b : Fin 2) : FVec Ideal (M2 64 768) .bf16 := rope (L.x b) (L.c b) (L.s b)
def v (b : Fin 2) : FVec Ideal (M2 64 768) .bf16 := shapeCast (M2 64 768) (L.y b) (by decide)
def rk (b : Fin 2) : FVec Ideal (M2 1 768) .f32 := rowMax (L.k b)
def rv (b : Fin 2) : FVec Ideal (M2 1 768) .f32 := rowMax (L.v b)
def sk : FVec Ideal (M2 1 1) .f32 := scale (allMax (L.rk 0) (L.rk 1))
def sv : FVec Ideal (M2 1 1) .f32 := scale (allMax (L.rv 0) (L.rv 1))
def kf (b : Fin 2) : FVec Ideal (M2 64 768) .f32 := extf .f32 (L.k b) (by decide)
def ck (b : Fin 2) : FVec Ideal (M2 64 768) .fp8e4m3 := codes (L.kf b) L.sk (by decide)
def cv (b : Fin 2) : FVec Ideal (M2 64 768) .fp8e4m3 := codes (extf .f32 (L.v b) (by decide)) L.sv (by decide)
/-- The codes as the kernel stores them. -/
def kc (b : Fin 2) : FVec Ideal (M4 64 768) .fp8e4m3 := shapeCast (M4 64 768) (L.ck b) (by decide)
def vc (b : Fin 2) : FVec Ideal (M4 64 768) .fp8e4m3 := shapeCast (M4 64 768) (L.cv b) (by decide)
/-- The codes as the kernel keeps them. -/
def vs (b : Fin 2) : FVec Ideal (M3 64 768) .fp8e4m3 := shapeCast (M3 64 768) (L.cv b) (by decide)
def kt (b : Fin 2) : FVec Ideal (M2 768 64) .f32 := transpose (M2 768 64) [1, 0] (L.kf b) (by decide)
def ks (b : Fin 2) : FVec Ideal (M3 768 64) .fp8e4m3 := shapeCast (M3 768 64) (codes (L.kt b) L.sk (by decide)) (by decide)
/-- The scaled key, and what rounding leaves of it, twice. -/
def r0 (b : Fin 2) : FVec Ideal (M2 768 64) .f32 := mulf (L.kt b) (broadcast (M2 768 64) L.fac)
def p0 (b : Fin 2) : FVec Ideal (M2 768 64) .bf16 := truncf .bf16 (L.r0 b) (by decide)
def r1 (b : Fin 2) : FVec Ideal (M2 768 64) .f32 := subf (L.r0 b) (extf .f32 (L.p0 b) (by decide))
def p1 (b : Fin 2) : FVec Ideal (M2 768 64) .bf16 := truncf .bf16 (L.r1 b) (by decide)
def r2 (b : Fin 2) : FVec Ideal (M2 768 64) .f32 := subf (L.r1 b) (extf .f32 (L.p1 b) (by decide))
def p2 (b : Fin 2) : FVec Ideal (M2 768 64) .bf16 := truncf .bf16 (L.r2 b) (by decide)
def k3 (b : Fin 2) : FVec Ideal (M3 768 192) .bf16 :=
  shapeCast (M3 768 192) (concatenate (M2 768 192) 1 [⟨M2 768 64, L.p0 b⟩, ⟨M2 768 64, L.p1 b⟩, ⟨M2 768 64, L.p2 b⟩]
    (show Shape.Concatenates [M2 768 64, M2 768 64, M2 768 64] (M2 768 192) 1 by decide)) (by decide)
/-- A scale at every place of a block. -/
def wide (s : FVec Ideal (M2 1 1) .f32) : FVec Ideal (M2 8 128) .f32 :=
  shapeCast (M2 8 128) (broadcastTo (M2 8 128) (shapeCast (M2 1 1) s (by decide)) (by decide)) (by decide)

/-- What the blocks hold. -/
structure Reads (L : Leaves) (A : Args) (g : Fin 5) : Prop where
  x : ∀ b d i, L.x b (ix4 0 0 d i) = A.k b i g d
  y : ∀ b d i, L.y b (ix4 0 0 d i) = A.v b i g d
  c : ∀ b e i, L.c b (ix3 0 e i) = A.c b i e
  s : ∀ b e i, L.s b (ix3 0 e i) = A.s b i e
  fac : L.fac = Head.kFac

theorem wide_apply (s : FVec Ideal (M2 1 1) .f32) (i : Fin 8) (j : Fin 128) : wide s (ix2 i j) = s (ix2 0 0) := by
  have e1 : shapeCast (M2 1 1) s (by decide) = s := shapeCast_self _ _
  have e2 : ∀ x : FVec Ideal (M2 8 128) .f32, shapeCast (M2 8 128) x (by decide) = x := fun x => shapeCast_self _ _
  unfold wide
  rw [e1, e2]
  pointwise []

variable {L} {A : Args} {g : Fin 5} (R : L.Reads A g)
include R

theorem k_apply (b d i) : L.k b (ix2 d i) = kr A b i g d := by
  rw [k, rope_apply]
  simp only [R.x, R.c, R.s]
  rfl
theorem v_apply (b d i) : L.v b (ix2 d i) = A.v b i g d := by
  rw [← R.y]; exact congrArg (L.y b) (ValueIdx.reshapeEquiv_ix2_11ab _ _ _)
theorem rk_apply (b i) : L.rk b (ix2 0 i) = rowK A b i g := by
  rw [rk, rowMax_apply]
  simp only [k_apply R]
  rfl
theorem rv_apply (b i) : L.rv b (ix2 0 i) = rowV A b i g := by
  rw [rv, rowMax_apply]
  simp only [v_apply R]
  rfl
theorem sk_apply : L.sk (ix2 0 0) = scaleK A g := by
  rw [sk, scale_apply, allMax_apply (f := fun b i => rowK A b i g) (rk_apply R 0) (rk_apply R 1)]; rfl
theorem sv_apply : L.sv (ix2 0 0) = scaleV A g := by
  rw [sv, scale_apply, allMax_apply (f := fun b i => rowV A b i g) (rv_apply R 0) (rv_apply R 1)]; rfl
theorem ck_apply (b d i) : L.ck b (ix2 d i) = codeK A b i g d := by
  rw [ck, codes_apply, sk_apply R]
  exact congrArg (fun x => quant x _) (k_apply R b d i)
theorem cv_apply (b d i) : L.cv b (ix2 d i) = codeV A b i g d := by
  rw [cv, codes_apply, sv_apply R]
  exact congrArg (fun x => quant x _) (v_apply R b d i)
theorem kc_apply (b d i) : L.kc b (ix4 0 0 d i) = codeK A b i g d := by
  rw [← ck_apply R]
  generalize hy : L.ck b = y
  pointwise [kc, hy]
theorem vc_apply (b d i) : L.vc b (ix4 0 0 d i) = codeV A b i g d := by
  rw [← cv_apply R]
  generalize hy : L.cv b = y
  pointwise [vc, hy]
theorem vs_apply (b d i) : L.vs b (ix3 0 d i) = codeV A b i g d := by
  rw [← cv_apply R]
  generalize hy : L.cv b = y
  pointwise [vs, hy]
theorem kt_apply (b d i) : L.kt b (ix2 i d) = kr A b i g d := by
  refine Eq.trans ?_ (k_apply R b d i)
  show _ = L.kf b (ix2 d i)
  generalize hy : L.kf b = y
  pointwise [kt, hy]
theorem ks_apply (b d i) : L.ks b (ix3 0 i d) = codeK A b i g d := by
  have e : codes (L.kt b) L.sk (by decide) (ix2 i d) = codeK A b i g d := by
    rw [codes_apply, sk_apply R, kt_apply R]; rfl
  rw [← e]
  unfold ks
  generalize codes (L.kt b) L.sk _ = y
  pointwise []
theorem r0_apply (b d i) : L.r0 b (ix2 i d) = kr A b i g d * Head.kFac := by
  refine (congrArg₂ (fun a b : EReal => a * b) (kt_apply R b d i) R.fac)
theorem r1_apply (F : Finite A) (b d i) : L.r1 b (ix2 i d) = 0 := by
  show (L.r0 b (ix2 i d) : EReal) - L.r0 b (ix2 i d) = 0
  rw [r0_apply R]
  obtain ⟨a, ha⟩ := (F.kr b i g d).mul ⟨_, rfl⟩
  rw [Head.kFac, ha, ← EReal.coe_sub, sub_self]; rfl
theorem r2_apply (F : Finite A) (b d i) : L.r2 b (ix2 i d) = 0 := by
  show (L.r1 b (ix2 i d) : EReal) - L.r1 b (ix2 i d) = 0
  rw [r1_apply R F]; simp
theorem k3_apply (F : Finite A) (b) (e : Fin 192) (i : Fin 768) : L.k3 b (ix3 0 i e) = Head.key3 A b g i.val e := by
  have he := e.isLt
  have h0 : ∀ d, L.p0 b (ix2 i d) = ext (fun k => kr A b k g d) i.val * Head.kFac := fun d => by
    refine Eq.trans (r0_apply R b d i) ?_
    rw [ext_val]
  have h1 : ∀ d, L.p1 b (ix2 i d) = 0 := fun d => r1_apply R F b d i
  have h2 : ∀ d, L.p2 b (ix2 i d) = 0 := fun d => r2_apply R F b d i
  unfold k3
  generalize L.p0 b = y0 at *
  generalize L.p1 b = y1 at *
  generalize L.p2 b = y2 at *
  pointwise [Head.key3]
  split
  · rw [h0]
  · split
    · rw [h1]
    · rw [h2]

end Leaves
end Cert.Key

end
-- ==== Proof.Blocks.lean ====
module

public import proofs.«01_k».proof.Proof.Gen.KernelIdeal.Frame.Runs
public import proofs.«01_k».proof.Proof.Head
public import proofs.«01_k».proof.Proof.Key
public import Idealize.ShloMosaic.Lib.Pipeline.Value

@[expose] public section
set_option maxRecDepth 16384
noncomputable section

/-! # The blocks the kernel reads

The parts of the input blocks and of the kept blocks that one grid step loads. The kept blocks are given by their reading functions,
for a step may load them from the step before or from its own stores. -/

namespace Cert.Case
open Idealize.ShloMosaic Idealize.ShloMosaic.TcCoe Cert.Tile Cert.Body Cert.KernelIdeal Cert.KernelIdeal.Gen

/-- What the preparation of a group reads. -/
def keys (x1 x2 : Vec Ideal S2x1x64x768 .bf16) (x3 x4 : Vec Ideal S2x32x768 .f32) : Key.Leaves where
  x := ![(View.ld x1 (Rect.unit ![0,0,0,0] S1x1x64x768.size (by decide))), (View.ld x1 (Rect.unit ![1,0,0,0] S1x1x64x768.size (by decide)))]
  y := ![(View.ld x2 (Rect.unit ![0,0,0,0] S1x1x64x768.size (by decide))), (View.ld x2 (Rect.unit ![1,0,0,0] S1x1x64x768.size (by decide)))]
  c := ![(View.ld x3 (Rect.unit ![0,0,0] S1x32x768.size (by decide))), (View.ld x3 (Rect.unit ![1,0,0] S1x32x768.size (by decide)))]
  s := ![(View.ld x4 (Rect.unit ![0,0,0] S1x32x768.size (by decide))), (View.ld x4 (Rect.unit ![1,0,0] S1x32x768.size (by decide)))]
  fac := Named.named κ "score_log2e" 0x3E38AA3B#32

/-- How a kept block is read. -/
abbrev Reader (sh : Shape) (e : EltTy) : Type := (r : Rect sh) → r.shape.Idx → Elt Ideal e

/-- What the work on one head reads. -/
def head (x0 x2 : Vec Ideal S2x1x64x768 .bf16) (x3 x4 : Vec Ideal S2x32x768 .f32) (k : Reader S2x768x192 .bf16) (c : Reader S2x768x64 .fp8e4m3)
    (w : Reader S2x64x768 .fp8e4m3) (s t : Reader S8x128 .f32) : Head.Leaves where
  x := ![(View.ld x0 (Rect.unit ![0,0,0,0] S1x1x64x768.size (by decide))), (View.ld x0 (Rect.unit ![1,0,0,0] S1x1x64x768.size (by decide)))]
  c := ![(View.ld x3 (Rect.unit ![0,0,0] S1x32x768.size (by decide))), (View.ld x3 (Rect.unit ![1,0,0] S1x32x768.size (by decide)))]
  s := ![(View.ld x4 (Rect.unit ![0,0,0] S1x32x768.size (by decide))), (View.ld x4 (Rect.unit ![1,0,0] S1x32x768.size (by decide)))]
  k0 := ![(k (Rect.unit ![0,0,0] S1x256x192.size (by decide))), (k (Rect.unit ![1,0,0] S1x256x192.size (by decide)))]
  k1 := ![(k (Rect.unit ![0,0,0] S1x512x192.size (by decide))), (k (Rect.unit ![1,0,0] S1x512x192.size (by decide)))]
  k2 := ![(k (Rect.unit ![0,0,0] S1x768x192.size (by decide))), (k (Rect.unit ![1,0,0] S1x768x192.size (by decide)))]
  c0 := ![(c (Rect.unit ![0,0,0] S1x256x64.size (by decide))), (c (Rect.unit ![1,0,0] S1x256x64.size (by decide)))]
  c1 := ![(c (Rect.unit ![0,0,0] S1x512x64.size (by decide))), (c (Rect.unit ![1,0,0] S1x512x64.size (by decide)))]
  c2 := ![(c (Rect.unit ![0,0,0] S1x768x64.size (by decide))), (c (Rect.unit ![1,0,0] S1x768x64.size (by decide)))]
  v0 := ![(View.ld x2 (Rect.unit ![0,0,0,0] S1x1x64x256.size (by decide))), (View.ld x2 (Rect.unit ![1,0,0,0] S1x1x64x256.size (by decide)))]
  v1 := ![(View.ld x2 (Rect.unit ![0,0,0,0] S1x1x64x512.size (by decide))), (View.ld x2 (Rect.unit ![1,0,0,0] S1x1x64x512.size (by decide)))]
  v2 := ![(View.ld x2 (Rect.unit ![0,0,0,0] S1x1x64x768.size (by decide))), (View.ld x2 (Rect.unit ![1,0,0,0] S1x1x64x768.size (by decide)))]
  w0 := ![(w (Rect.unit ![0,0,0] S1x64x256.size (by decide))), (w (Rect.unit ![1,0,0] S1x64x256.size (by decide)))]
  w1 := ![(w (Rect.unit ![0,0,0] S1x64x512.size (by decide))), (w (Rect.unit ![1,0,0] S1x64x512.size (by decide)))]
  w2 := ![(w (Rect.unit ![0,0,0] S1x64x768.size (by decide))), (w (Rect.unit ![1,0,0] S1x64x768.size (by decide)))]
  ks := s (Rect.unit ![0,0] S1x1.size (by decide))
  vs := t (Rect.unit ![0,0] S1x1.size (by decide))
  ln2 := Named.named κ "ln2" 0x3F317218#32
  log2e := Named.named κ "log2e" 0x3FB8AA3B#32

end Cert.Case
end
-- ==== Proof.CaseA.lean ====
module

public import proofs.«01_k».proof.Proof.Gen.KernelIdeal.Frame.RunA
public import proofs.«01_k».proof.Proof.Blocks

@[expose] public section
set_option maxRecDepth 16384
noncomputable section

/-! # The stores of the first step of a group -/

namespace Cert.CaseA
open Idealize.ShloMosaic Idealize.ShloMosaic.TcCoe Cert.Tile Cert.Body Cert.KernelIdeal Cert.KernelIdeal.Gen

variable (c : Dev nD) (i : grid0.Coords) (arg1 : Memref sig .tc .vmem S2x1x64x768 .bf16) (harg1 : arg1.IsWhole) (arg2 : Memref sig .tc .vmem S2x1x64x768 .bf16) (harg2 : arg2.IsWhole) (arg3 : Memref sig .tc .vmem S2x1x64x768 .bf16) (harg3 : arg3.IsWhole) (arg4 : Memref sig .tc .vmem S2x32x768 .f32) (harg4 : arg4.IsWhole) (arg5 : Memref sig .tc .vmem S2x32x768 .f32) (harg5 : arg5.IsWhole) (arg6 : Memref sig .tc .vmem S1x2x768 .f32) (harg6 : arg6.IsWhole) (arg7 : Memref sig .tc .vmem S1x2x768 .f32) (harg7 : arg7.IsWhole) (arg8 : Memref sig .tc .vmem S1x2x768 .f32) (harg8 : arg8.IsWhole) (arg9 : Memref sig .tc .vmem S1x2x768 .f32) (harg9 : arg9.IsWhole) (arg10 : Memref sig .tc .vmem S1x2x768 .f32) (harg10 : arg10.IsWhole) (arg11 : Memref sig .tc .vmem S2x1x64x768 .fp8e4m3) (harg11 : arg11.IsWhole) (arg12 : Memref sig .tc .vmem S2x1x64x768 .fp8e4m3) (harg12 : arg12.IsWhole) (arg13 : Memref sig .tc .vmem S2x1x64x768 .fp8e4m3) (harg13 : arg13.IsWhole) (arg14 : Memref sig .tc .vmem S2x1x64x768 .fp8e4m3) (harg14 : arg14.IsWhole) (arg15 : Memref sig .tc .vmem S2x768x192 .bf16) (harg15 : arg15.IsWhole) (arg16 : Memref sig .tc .vmem S2x768x64 .fp8e4m3) (harg16 : arg16.IsWhole) (arg17 : Memref sig .tc .vmem S2x64x768 .fp8e4m3) (harg17 : arg17.IsWhole) (arg18 : Memref sig .tc .vmem S8x128 .f32) (harg18 : arg18.IsWhole) (arg19 : Memref sig .tc .vmem S8x128 .f32) (harg19 : arg19.IsWhole) (hc0 : cond0_0 i) (x0 : Vec Ideal S2x1x64x768 .bf16) (x1 : Vec Ideal S2x1x64x768 .bf16) (x2 : Vec Ideal S2x1x64x768 .bf16) (x3 : Vec Ideal S2x32x768 .f32) (x4 : Vec Ideal S2x32x768 .f32)

theorem out5 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).1 = [⟨(Rect.unit ![0,0,0] S1x2x768.size (by decide)), two ((Case.head (arg1.view.read (Elt Ideal) (harg1.unread x0)) (arg3.view.read (Elt Ideal) (harg3.unread x2)) (arg4.view.read (Elt Ideal) (harg4.unread x3)) (arg5.view.read (Elt Ideal) (harg5.unread x4)) (fun r => arg15.view.readCov [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] r) (fun r => arg16.view.readCov [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] r) (fun r => arg17.view.readCov [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] r) (fun r => arg18.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] r) (fun r => arg19.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] r)).rq 0) ((Case.head (arg1.view.read (Elt Ideal) (harg1.unread x0)) (arg3.view.read (Elt Ideal) (harg3.unread x2)) (arg4.view.read (Elt Ideal) (harg4.unread x3)) (arg5.view.read (Elt Ideal) (harg5.unread x4)) (fun r => arg15.view.readCov [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] r) (fun r => arg16.view.readCov [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] r) (fun r => arg17.view.readCov [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] r) (fun r => arg18.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] r) (fun r => arg19.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] r)).rq 1)⟩] := by sl_kernel_rfl
theorem out6 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.1 = ⟨(Rect.unit ![0,0,0] S1x2x768.size (by decide)), shapeCast S1x2x768 (arg7.view.readCov [⟨(Rect.unit ![0,0,0] S1x2x768.size (by decide)), two ((Case.keys (arg2.view.read (Elt Ideal) (harg2.unread x1)) (arg3.view.read (Elt Ideal) (harg3.unread x2)) (arg4.view.read (Elt Ideal) (harg4.unread x3)) (arg5.view.read (Elt Ideal) (harg5.unread x4))).rk 0) ((Case.keys (arg2.view.read (Elt Ideal) (harg2.unread x1)) (arg3.view.read (Elt Ideal) (harg3.unread x2)) (arg4.view.read (Elt Ideal) (harg4.unread x3)) (arg5.view.read (Elt Ideal) (harg5.unread x4))).rk 1)⟩] (Rect.unit ![0,0,0] S1x2x768.size (by decide))) (by decide)⟩ :: [⟨(Rect.unit ![0,0,0] S1x2x768.size (by decide)), two ((Case.keys (arg2.view.read (Elt Ideal) (harg2.unread x1)) (arg3.view.read (Elt Ideal) (harg3.unread x2)) (arg4.view.read (Elt Ideal) (harg4.unread x3)) (arg5.view.read (Elt Ideal) (harg5.unread x4))).rk 0) ((Case.keys (arg2.view.read (Elt Ideal) (harg2.unread x1)) (arg3.view.read (Elt Ideal) (harg3.unread x2)) (arg4.view.read (Elt Ideal) (harg4.unread x3)) (arg5.view.read (Elt Ideal) (harg5.unread x4))).rk 1)⟩] := by sl_kernel_rfl
theorem out7 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.1 = ⟨(Rect.unit ![0,0,0] S1x2x768.size (by decide)), shapeCast S1x2x768 (arg8.view.readCov [⟨(Rect.unit ![0,0,0] S1x2x768.size (by decide)), two ((Case.keys (arg2.view.read (Elt Ideal) (harg2.unread x1)) (arg3.view.read (Elt Ideal) (harg3.unread x2)) (arg4.view.read (Elt Ideal) (harg4.unread x3)) (arg5.view.read (Elt Ideal) (harg5.unread x4))).rv 0) ((Case.keys (arg2.view.read (Elt Ideal) (harg2.unread x1)) (arg3.view.read (Elt Ideal) (harg3.unread x2)) (arg4.view.read (Elt Ideal) (harg4.unread x3)) (arg5.view.read (Elt Ideal) (harg5.unread x4))).rv 1)⟩] (Rect.unit ![0,0,0] S1x2x768.size (by decide))) (by decide)⟩ :: [⟨(Rect.unit ![0,0,0] S1x2x768.size (by decide)), two ((Case.keys (arg2.view.read (Elt Ideal) (harg2.unread x1)) (arg3.view.read (Elt Ideal) (harg3.unread x2)) (arg4.view.read (Elt Ideal) (harg4.unread x3)) (arg5.view.read (Elt Ideal) (harg5.unread x4))).rv 0) ((Case.keys (arg2.view.read (Elt Ideal) (harg2.unread x1)) (arg3.view.read (Elt Ideal) (harg3.unread x2)) (arg4.view.read (Elt Ideal) (harg4.unread x3)) (arg5.view.read (Elt Ideal) (harg5.unread x4))).rv 1)⟩] := by sl_kernel_rfl
theorem out8 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.1 = [⟨(Rect.unit ![0,0,0] S1x2x768.size (by decide)), two ((Case.head (arg1.view.read (Elt Ideal) (harg1.unread x0)) (arg3.view.read (Elt Ideal) (harg3.unread x2)) (arg4.view.read (Elt Ideal) (harg4.unread x3)) (arg5.view.read (Elt Ideal) (harg5.unread x4)) (fun r => arg15.view.readCov [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] r) (fun r => arg16.view.readCov [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] r) (fun r => arg17.view.readCov [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] r) (fun r => arg18.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] r) (fun r => arg19.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] r)).rs 0) ((Case.head (arg1.view.read (Elt Ideal) (harg1.unread x0)) (arg3.view.read (Elt Ideal) (harg3.unread x2)) (arg4.view.read (Elt Ideal) (harg4.unread x3)) (arg5.view.read (Elt Ideal) (harg5.unread x4)) (fun r => arg15.view.readCov [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] r) (fun r => arg16.view.readCov [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] r) (fun r => arg17.view.readCov [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] r) (fun r => arg18.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] r) (fun r => arg19.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] r)).rs 1)⟩] := by sl_kernel_rfl
theorem out9 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.2.1 = [⟨(Rect.unit ![0,0,0] S1x2x768.size (by decide)), two ((Case.head (arg1.view.read (Elt Ideal) (harg1.unread x0)) (arg3.view.read (Elt Ideal) (harg3.unread x2)) (arg4.view.read (Elt Ideal) (harg4.unread x3)) (arg5.view.read (Elt Ideal) (harg5.unread x4)) (fun r => arg15.view.readCov [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] r) (fun r => arg16.view.readCov [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] r) (fun r => arg17.view.readCov [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] r) (fun r => arg18.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] r) (fun r => arg19.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] r)).ro 0) ((Case.head (arg1.view.read (Elt Ideal) (harg1.unread x0)) (arg3.view.read (Elt Ideal) (harg3.unread x2)) (arg4.view.read (Elt Ideal) (harg4.unread x3)) (arg5.view.read (Elt Ideal) (harg5.unread x4)) (fun r => arg15.view.readCov [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] r) (fun r => arg16.view.readCov [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] r) (fun r => arg17.view.readCov [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] r) (fun r => arg18.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] r) (fun r => arg19.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] r)).ro 1)⟩] := by sl_kernel_rfl
theorem out10 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.2.2.1 = [⟨Rect.unit ![1,0,0,0] S1x1x64x768.size (by decide), (shapeCast S1x1x64x768 ((Case.head (arg1.view.read (Elt Ideal) (harg1.unread x0)) (arg3.view.read (Elt Ideal) (harg3.unread x2)) (arg4.view.read (Elt Ideal) (harg4.unread x3)) (arg5.view.read (Elt Ideal) (harg5.unread x4)) (fun r => arg15.view.readCov [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] r) (fun r => arg16.view.readCov [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] r) (fun r => arg17.view.readCov [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] r) (fun r => arg18.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] r) (fun r => arg19.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] r)).cq 1) (by decide))⟩, ⟨Rect.unit ![0,0,0,0] S1x1x64x768.size (by decide), (shapeCast S1x1x64x768 ((Case.head (arg1.view.read (Elt Ideal) (harg1.unread x0)) (arg3.view.read (Elt Ideal) (harg3.unread x2)) (arg4.view.read (Elt Ideal) (harg4.unread x3)) (arg5.view.read (Elt Ideal) (harg5.unread x4)) (fun r => arg15.view.readCov [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] r) (fun r => arg16.view.readCov [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] r) (fun r => arg17.view.readCov [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] r) (fun r => arg18.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] r) (fun r => arg19.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] r)).cq 0) (by decide))⟩] := by sl_kernel_rfl
theorem out11 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.2.2.2.1 = ⟨(Rect.unit ![0,0,0,0] S2x1x64x768.size (by decide)), shapeCast S2x1x64x768 (arg12.view.readCov [⟨Rect.unit ![1,0,0,0] S1x1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).kc 1)⟩, ⟨Rect.unit ![0,0,0,0] S1x1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).kc 0)⟩] (Rect.unit ![0,0,0,0] S2x1x64x768.size (by decide))) (by decide)⟩ :: [⟨Rect.unit ![1,0,0,0] S1x1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).kc 1)⟩, ⟨Rect.unit ![0,0,0,0] S1x1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).kc 0)⟩] := by sl_kernel_rfl
theorem out12 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.2.2.2.2.1 = ⟨(Rect.unit ![0,0,0,0] S2x1x64x768.size (by decide)), shapeCast S2x1x64x768 (arg13.view.readCov [⟨Rect.unit ![1,0,0,0] S1x1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vc 1)⟩, ⟨Rect.unit ![0,0,0,0] S1x1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vc 0)⟩] (Rect.unit ![0,0,0,0] S2x1x64x768.size (by decide))) (by decide)⟩ :: [⟨Rect.unit ![1,0,0,0] S1x1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vc 1)⟩, ⟨Rect.unit ![0,0,0,0] S1x1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vc 0)⟩] := by sl_kernel_rfl
theorem out13 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.2.2.2.2.2.1 = [⟨Rect.unit ![1,0,0,0] S1x1x64x768.size (by decide), ((Case.head (arg1.view.read (Elt Ideal) (harg1.unread x0)) (arg3.view.read (Elt Ideal) (harg3.unread x2)) (arg4.view.read (Elt Ideal) (harg4.unread x3)) (arg5.view.read (Elt Ideal) (harg5.unread x4)) (fun r => arg15.view.readCov [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] r) (fun r => arg16.view.readCov [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] r) (fun r => arg17.view.readCov [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] r) (fun r => arg18.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] r) (fun r => arg19.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] r)).oc 1)⟩, ⟨Rect.unit ![0,0,0,0] S1x1x64x768.size (by decide), ((Case.head (arg1.view.read (Elt Ideal) (harg1.unread x0)) (arg3.view.read (Elt Ideal) (harg3.unread x2)) (arg4.view.read (Elt Ideal) (harg4.unread x3)) (arg5.view.read (Elt Ideal) (harg5.unread x4)) (fun r => arg15.view.readCov [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] r) (fun r => arg16.view.readCov [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] r) (fun r => arg17.view.readCov [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] r) (fun r => arg18.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] r) (fun r => arg19.view.readCov [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] r)).oc 0)⟩] := by sl_kernel_rfl
theorem kept0 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.2.2.2.2.2.2.1 = [⟨Rect.unit ![1,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 1)⟩, ⟨Rect.unit ![0,0,0] S1x768x192.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).k3 0)⟩] := by sl_kernel_rfl
theorem kept1 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.2.2.2.2.2.2.2.1 = [⟨Rect.unit ![1,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 1)⟩, ⟨Rect.unit ![0,0,0] S1x768x64.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).ks 0)⟩] := by sl_kernel_rfl
theorem kept2 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.2.2.2.2.2.2.2.2.1 = [⟨Rect.unit ![1,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 1)⟩, ⟨Rect.unit ![0,0,0] S1x64x768.size (by decide), ((Case.keys (arg2.view.read (Elt Ideal) (harg2.unread x1)) (arg3.view.read (Elt Ideal) (harg3.unread x2)) (arg4.view.read (Elt Ideal) (harg4.unread x3)) (arg5.view.read (Elt Ideal) (harg5.unread x4))).vs 0)⟩] := by sl_kernel_rfl
theorem kept3 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.2.2.2.2.2.2.2.2.2.1 = [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sk⟩] := by sl_kernel_rfl
theorem kept4 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4).2.2.2.2.2.2.2.2.2.2.2.2.2.val = [⟨Rect.unit ![0,0] S8x128.size (by decide), Key.Leaves.wide (Case.keys (arg2.view.read (Elt Ideal) (harg2.unread x1)) (arg3.view.read (Elt Ideal) (harg3.unread x2)) (arg4.view.read (Elt Ideal) (harg4.unread x3)) (arg5.view.read (Elt Ideal) (harg5.unread x4))).sv⟩] := by sl_kernel_rfl

end Cert.CaseA
end
-- ==== Proof.CaseB.lean ====
module

public import proofs.«01_k».proof.Proof.Gen.KernelIdeal.Frame.RunB
public import proofs.«01_k».proof.Proof.Blocks

@[expose] public section
set_option maxRecDepth 16384
noncomputable section

/-! # The stores of the other steps of a group -/

namespace Cert.CaseB
open Idealize.ShloMosaic Idealize.ShloMosaic.TcCoe Cert.Tile Cert.Body Cert.KernelIdeal Cert.KernelIdeal.Gen

variable (c : Dev nD) (i : grid0.Coords) (arg1 : Memref sig .tc .vmem S2x1x64x768 .bf16) (harg1 : arg1.IsWhole) (arg2 : Memref sig .tc .vmem S2x1x64x768 .bf16) (harg2 : arg2.IsWhole) (arg3 : Memref sig .tc .vmem S2x1x64x768 .bf16) (harg3 : arg3.IsWhole) (arg4 : Memref sig .tc .vmem S2x32x768 .f32) (harg4 : arg4.IsWhole) (arg5 : Memref sig .tc .vmem S2x32x768 .f32) (harg5 : arg5.IsWhole) (arg6 : Memref sig .tc .vmem S1x2x768 .f32) (harg6 : arg6.IsWhole) (arg7 : Memref sig .tc .vmem S1x2x768 .f32) (harg7 : arg7.IsWhole) (arg8 : Memref sig .tc .vmem S1x2x768 .f32) (harg8 : arg8.IsWhole) (arg9 : Memref sig .tc .vmem S1x2x768 .f32) (harg9 : arg9.IsWhole) (arg10 : Memref sig .tc .vmem S1x2x768 .f32) (harg10 : arg10.IsWhole) (arg11 : Memref sig .tc .vmem S2x1x64x768 .fp8e4m3) (harg11 : arg11.IsWhole) (arg12 : Memref sig .tc .vmem S2x1x64x768 .fp8e4m3) (harg12 : arg12.IsWhole) (arg13 : Memref sig .tc .vmem S2x1x64x768 .fp8e4m3) (harg13 : arg13.IsWhole) (arg14 : Memref sig .tc .vmem S2x1x64x768 .fp8e4m3) (harg14 : arg14.IsWhole) (arg15 : Memref sig .tc .vmem S2x768x192 .bf16) (harg15 : arg15.IsWhole) (arg16 : Memref sig .tc .vmem S2x768x64 .fp8e4m3) (harg16 : arg16.IsWhole) (arg17 : Memref sig .tc .vmem S2x64x768 .fp8e4m3) (harg17 : arg17.IsWhole) (arg18 : Memref sig .tc .vmem S8x128 .f32) (harg18 : arg18.IsWhole) (arg19 : Memref sig .tc .vmem S8x128 .f32) (harg19 : arg19.IsWhole) (hc0 : ¬cond0_0 i) (x0 : Vec Ideal S2x1x64x768 .bf16) (x1 : Vec Ideal S2x1x64x768 .bf16) (x2 : Vec Ideal S2x1x64x768 .bf16) (x3 : Vec Ideal S2x32x768 .f32) (x4 : Vec Ideal S2x32x768 .f32) (xo6 : Vec Ideal S1x2x768 .f32) (xo7 : Vec Ideal S1x2x768 .f32) (xo11 : Vec Ideal S2x1x64x768 .fp8e4m3) (xo12 : Vec Ideal S2x1x64x768 .fp8e4m3) (xs0 : Vec Ideal S2x768x192 .bf16) (xs1 : Vec Ideal S2x768x64 .fp8e4m3) (xs2 : Vec Ideal S2x64x768 .fp8e4m3) (xs3 : Vec Ideal S8x128 .f32) (xs4 : Vec Ideal S8x128 .f32)

theorem out5 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4).1 = [⟨(Rect.unit ![0,0,0] S1x2x768.size (by decide)), two ((Case.head (arg1.view.read (Elt Ideal) (harg1.unread x0)) (arg3.view.read (Elt Ideal) (harg3.unread x2)) (arg4.view.read (Elt Ideal) (harg4.unread x3)) (arg5.view.read (Elt Ideal) (harg5.unread x4)) (View.ld (arg15.view.read (Elt Ideal) (harg15.unread xs0))) (View.ld (arg16.view.read (Elt Ideal) (harg16.unread xs1))) (View.ld (arg17.view.read (Elt Ideal) (harg17.unread xs2))) (View.ld (arg18.view.read (Elt Ideal) (harg18.unread xs3))) (View.ld (arg19.view.read (Elt Ideal) (harg19.unread xs4)))).rq 0) ((Case.head (arg1.view.read (Elt Ideal) (harg1.unread x0)) (arg3.view.read (Elt Ideal) (harg3.unread x2)) (arg4.view.read (Elt Ideal) (harg4.unread x3)) (arg5.view.read (Elt Ideal) (harg5.unread x4)) (View.ld (arg15.view.read (Elt Ideal) (harg15.unread xs0))) (View.ld (arg16.view.read (Elt Ideal) (harg16.unread xs1))) (View.ld (arg17.view.read (Elt Ideal) (harg17.unread xs2))) (View.ld (arg18.view.read (Elt Ideal) (harg18.unread xs3))) (View.ld (arg19.view.read (Elt Ideal) (harg19.unread xs4)))).rq 1)⟩] := by sl_kernel_rfl
theorem out6 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4).2.1 = [⟨(Rect.unit ![0,0,0] S1x2x768.size (by decide)), shapeCast S1x2x768 (View.ld (arg7.view.read (Elt Ideal) (harg7.unread xo6)) (Rect.unit ![0,0,0] S1x2x768.size (by decide))) (by decide)⟩] := by sl_kernel_rfl
theorem out7 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4).2.2.1 = [⟨(Rect.unit ![0,0,0] S1x2x768.size (by decide)), shapeCast S1x2x768 (View.ld (arg8.view.read (Elt Ideal) (harg8.unread xo7)) (Rect.unit ![0,0,0] S1x2x768.size (by decide))) (by decide)⟩] := by sl_kernel_rfl
theorem out8 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4).2.2.2.1 = [⟨(Rect.unit ![0,0,0] S1x2x768.size (by decide)), two ((Case.head (arg1.view.read (Elt Ideal) (harg1.unread x0)) (arg3.view.read (Elt Ideal) (harg3.unread x2)) (arg4.view.read (Elt Ideal) (harg4.unread x3)) (arg5.view.read (Elt Ideal) (harg5.unread x4)) (View.ld (arg15.view.read (Elt Ideal) (harg15.unread xs0))) (View.ld (arg16.view.read (Elt Ideal) (harg16.unread xs1))) (View.ld (arg17.view.read (Elt Ideal) (harg17.unread xs2))) (View.ld (arg18.view.read (Elt Ideal) (harg18.unread xs3))) (View.ld (arg19.view.read (Elt Ideal) (harg19.unread xs4)))).rs 0) ((Case.head (arg1.view.read (Elt Ideal) (harg1.unread x0)) (arg3.view.read (Elt Ideal) (harg3.unread x2)) (arg4.view.read (Elt Ideal) (harg4.unread x3)) (arg5.view.read (Elt Ideal) (harg5.unread x4)) (View.ld (arg15.view.read (Elt Ideal) (harg15.unread xs0))) (View.ld (arg16.view.read (Elt Ideal) (harg16.unread xs1))) (View.ld (arg17.view.read (Elt Ideal) (harg17.unread xs2))) (View.ld (arg18.view.read (Elt Ideal) (harg18.unread xs3))) (View.ld (arg19.view.read (Elt Ideal) (harg19.unread xs4)))).rs 1)⟩] := by sl_kernel_rfl
theorem out9 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4).2.2.2.2.1 = [⟨(Rect.unit ![0,0,0] S1x2x768.size (by decide)), two ((Case.head (arg1.view.read (Elt Ideal) (harg1.unread x0)) (arg3.view.read (Elt Ideal) (harg3.unread x2)) (arg4.view.read (Elt Ideal) (harg4.unread x3)) (arg5.view.read (Elt Ideal) (harg5.unread x4)) (View.ld (arg15.view.read (Elt Ideal) (harg15.unread xs0))) (View.ld (arg16.view.read (Elt Ideal) (harg16.unread xs1))) (View.ld (arg17.view.read (Elt Ideal) (harg17.unread xs2))) (View.ld (arg18.view.read (Elt Ideal) (harg18.unread xs3))) (View.ld (arg19.view.read (Elt Ideal) (harg19.unread xs4)))).ro 0) ((Case.head (arg1.view.read (Elt Ideal) (harg1.unread x0)) (arg3.view.read (Elt Ideal) (harg3.unread x2)) (arg4.view.read (Elt Ideal) (harg4.unread x3)) (arg5.view.read (Elt Ideal) (harg5.unread x4)) (View.ld (arg15.view.read (Elt Ideal) (harg15.unread xs0))) (View.ld (arg16.view.read (Elt Ideal) (harg16.unread xs1))) (View.ld (arg17.view.read (Elt Ideal) (harg17.unread xs2))) (View.ld (arg18.view.read (Elt Ideal) (harg18.unread xs3))) (View.ld (arg19.view.read (Elt Ideal) (harg19.unread xs4)))).ro 1)⟩] := by sl_kernel_rfl
theorem out10 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4).2.2.2.2.2.1 = [⟨Rect.unit ![1,0,0,0] S1x1x64x768.size (by decide), (shapeCast S1x1x64x768 ((Case.head (arg1.view.read (Elt Ideal) (harg1.unread x0)) (arg3.view.read (Elt Ideal) (harg3.unread x2)) (arg4.view.read (Elt Ideal) (harg4.unread x3)) (arg5.view.read (Elt Ideal) (harg5.unread x4)) (View.ld (arg15.view.read (Elt Ideal) (harg15.unread xs0))) (View.ld (arg16.view.read (Elt Ideal) (harg16.unread xs1))) (View.ld (arg17.view.read (Elt Ideal) (harg17.unread xs2))) (View.ld (arg18.view.read (Elt Ideal) (harg18.unread xs3))) (View.ld (arg19.view.read (Elt Ideal) (harg19.unread xs4)))).cq 1) (by decide))⟩, ⟨Rect.unit ![0,0,0,0] S1x1x64x768.size (by decide), (shapeCast S1x1x64x768 ((Case.head (arg1.view.read (Elt Ideal) (harg1.unread x0)) (arg3.view.read (Elt Ideal) (harg3.unread x2)) (arg4.view.read (Elt Ideal) (harg4.unread x3)) (arg5.view.read (Elt Ideal) (harg5.unread x4)) (View.ld (arg15.view.read (Elt Ideal) (harg15.unread xs0))) (View.ld (arg16.view.read (Elt Ideal) (harg16.unread xs1))) (View.ld (arg17.view.read (Elt Ideal) (harg17.unread xs2))) (View.ld (arg18.view.read (Elt Ideal) (harg18.unread xs3))) (View.ld (arg19.view.read (Elt Ideal) (harg19.unread xs4)))).cq 0) (by decide))⟩] := by sl_kernel_rfl
theorem out11 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4).2.2.2.2.2.2.1 = [⟨(Rect.unit ![0,0,0,0] S2x1x64x768.size (by decide)), shapeCast S2x1x64x768 (View.ld (arg12.view.read (Elt Ideal) (harg12.unread xo11)) (Rect.unit ![0,0,0,0] S2x1x64x768.size (by decide))) (by decide)⟩] := by sl_kernel_rfl
theorem out12 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4).2.2.2.2.2.2.2.1 = [⟨(Rect.unit ![0,0,0,0] S2x1x64x768.size (by decide)), shapeCast S2x1x64x768 (View.ld (arg13.view.read (Elt Ideal) (harg13.unread xo12)) (Rect.unit ![0,0,0,0] S2x1x64x768.size (by decide))) (by decide)⟩] := by sl_kernel_rfl
theorem out13 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4).2.2.2.2.2.2.2.2.1 = [⟨Rect.unit ![1,0,0,0] S1x1x64x768.size (by decide), ((Case.head (arg1.view.read (Elt Ideal) (harg1.unread x0)) (arg3.view.read (Elt Ideal) (harg3.unread x2)) (arg4.view.read (Elt Ideal) (harg4.unread x3)) (arg5.view.read (Elt Ideal) (harg5.unread x4)) (View.ld (arg15.view.read (Elt Ideal) (harg15.unread xs0))) (View.ld (arg16.view.read (Elt Ideal) (harg16.unread xs1))) (View.ld (arg17.view.read (Elt Ideal) (harg17.unread xs2))) (View.ld (arg18.view.read (Elt Ideal) (harg18.unread xs3))) (View.ld (arg19.view.read (Elt Ideal) (harg19.unread xs4)))).oc 1)⟩, ⟨Rect.unit ![0,0,0,0] S1x1x64x768.size (by decide), ((Case.head (arg1.view.read (Elt Ideal) (harg1.unread x0)) (arg3.view.read (Elt Ideal) (harg3.unread x2)) (arg4.view.read (Elt Ideal) (harg4.unread x3)) (arg5.view.read (Elt Ideal) (harg5.unread x4)) (View.ld (arg15.view.read (Elt Ideal) (harg15.unread xs0))) (View.ld (arg16.view.read (Elt Ideal) (harg16.unread xs1))) (View.ld (arg17.view.read (Elt Ideal) (harg17.unread xs2))) (View.ld (arg18.view.read (Elt Ideal) (harg18.unread xs3))) (View.ld (arg19.view.read (Elt Ideal) (harg19.unread xs4)))).oc 0)⟩] := by sl_kernel_rfl

end Cert.CaseB
end
-- ==== Proof.Stores.lean ====
module

public import proofs.«01_k».proof.Proof.Blocks
public import proofs.«01_k».proof.Proof.HeadSpec
public import Idealize.ShloMosaic.Lib.Pipeline.ValueKit.Tiles

@[expose] public section

set_option maxRecDepth 16384

noncomputable section

/-! # From blocks to the specification

What the parts loaded hold when the blocks hold the inputs, and what a block holds after its stores. -/

namespace Cert.Case

open Idealize.ShloMosaic Idealize.ShloMosaic.TcCoe Cert.Tile Cert.Body Cert.Spec Cert.KernelIdeal Cert.KernelIdeal.Gen

/-- A block of rows. -/
def Rows (f : Fin 2 → Fin 768 → EReal) (x : Vec Ideal S1x2x768 .f32) : Prop := ∀ b i, x (ix3 0 b i) = f b i
/-- A block of codes. -/
def Codes (f : Fin 2 → Fin 768 → Fin 64 → EReal) (x : Vec Ideal S2x1x64x768 .fp8e4m3) : Prop := ∀ b d i, x (ix4 b 0 d i) = f b i d

/-- What the input blocks of one step hold. -/
structure Ins (A : Args) (h : Fin 45) (x0 x1 x2 : Vec Ideal S2x1x64x768 .bf16) (x3 x4 : Vec Ideal S2x32x768 .f32) : Prop where
  q : ∀ b d i, x0 (ix4 b 0 d i) = A.q b i h d
  k : ∀ b d i, x1 (ix4 b 0 d i) = A.k b i (grp h) d
  v : ∀ b d i, x2 (ix4 b 0 d i) = A.v b i (grp h) d
  c : ∀ b e i, x3 (ix3 b e i) = A.c b i e
  s : ∀ b e i, x4 (ix3 b e i) = A.s b i e

/-- What the kept blocks hold. -/
structure Kept (A : Args) (g : Fin 5) (k : Vec Ideal S2x768x192 .bf16) (c : Vec Ideal S2x768x64 .fp8e4m3) (w : Vec Ideal S2x64x768 .fp8e4m3)
    (s t : Vec Ideal S8x128 .f32) : Prop where
  k : ∀ b i e, k (ix3 b i e) = Head.key3 A b g i.val e
  c : ∀ b i d, c (ix3 b i d) = codeK A b i g d
  w : ∀ b d i, w (ix3 b d i) = codeV A b i g d
  s : ∀ i j, s (ix2 i j) = scaleK A g
  t : ∀ i j, t (ix2 i j) = scaleV A g

theorem ld4 {e : EltTy} {n : ℕ} (x : Vec Ideal S2x1x64x768 e) (b : Fin 2) (hn : n ≤ 768) (h) (d : Fin 64) (i : Fin n) :
    View.ld (Val := Elt Ideal) x (Rect.unit ![b.val, 0, 0, 0] (M4 64 n).size h) (ix4 0 0 d i) = x (ix4 b 0 d ⟨i.val, by omega⟩) :=
  View.ld_unit_apply_of _ _ _ _ _ _ fun a => by
    match a with
    | ⟨0, _⟩ => exact (Nat.add_zero _).symm
    | ⟨1, _⟩ => rfl
    | ⟨2, _⟩ => exact (Nat.zero_add _).symm
    | ⟨3, _⟩ => exact (Nat.zero_add _).symm

theorem ld3 {e : EltTy} {m n m' n' : ℕ} (x : Vec Ideal ⟨3, ![2, m', n']⟩ e) (b : Fin 2) (hm : m ≤ m') (hn : n ≤ n') (h) (d : Fin m) (i : Fin n) :
    View.ld (Val := Elt Ideal) x (Rect.unit ![b.val, 0, 0] (M3 m n).size h) (ix3 0 d i) = x (ix3 b ⟨d.val, by omega⟩ ⟨i.val, by omega⟩) :=
  View.ld_unit_apply_of _ _ _ _ _ _ fun a => by
    match a with
    | ⟨0, _⟩ => exact (Nat.add_zero _).symm
    | ⟨1, _⟩ => exact (Nat.zero_add _).symm
    | ⟨2, _⟩ => exact (Nat.zero_add _).symm

theorem ld2 (x : Vec Ideal S8x128 .f32) (h) : View.ld (Val := Elt Ideal) x (Rect.unit ![0, 0] (M2 1 1).size h) (ix2 0 0) = x (ix2 0 0) :=
  View.ld_unit_apply_of _ _ _ _ _ _ fun a => by
    match a with
    | ⟨0, _⟩ => rfl
    | ⟨1, _⟩ => rfl

theorem eq3 {m n : ℕ} {x : (M3 m n).Idx} {i : Fin m} {j : Fin n} (hi : (i : ℕ) = (x 1 : ℕ)) (hj : (j : ℕ) = (x 2 : ℕ)) : x = ix3 0 i j :=
  funext fun a => by
    match a with
    | ⟨0, _⟩ => exact Subsingleton.elim (α := Fin 1) _ _
    | ⟨1, _⟩ => exact Fin.ext hi.symm
    | ⟨2, _⟩ => exact Fin.ext hj.symm

theorem eq4 {m n : ℕ} {x : (M4 m n).Idx} {i : Fin m} {j : Fin n} (hi : (i : ℕ) = (x 2 : ℕ)) (hj : (j : ℕ) = (x 3 : ℕ)) : x = ix4 0 0 i j :=
  funext fun a => by
    match a with
    | ⟨0, _⟩ => exact Subsingleton.elim (α := Fin 1) _ _
    | ⟨1, _⟩ => exact Subsingleton.elim (α := Fin 1) _ _
    | ⟨2, _⟩ => exact Fin.ext hi.symm
    | ⟨3, _⟩ => exact Fin.ext hj.symm

/-- Two stores, one per batch, cover the block; -/
theorem cover3 {e : EltTy} {m n : ℕ} (f : Fin 2 → (M3 m n).Idx → Elt Ideal e) (h1 h0) (y : (⟨3, ![2, m, n]⟩ : Shape).Idx) :
    ∃ p ∈ ([⟨Rect.unit ![1, 0, 0] (M3 m n).size h1, f 1⟩, ⟨Rect.unit ![0, 0, 0] (M3 m n).size h0, f 0⟩] : List (View.Piece (Elt Ideal) ⟨3, ![2, m, n]⟩ e)),
      y ∈ p.1.set := by
  have hy : (y 0 : ℕ) < 2 := (y 0).isLt
  have hi : (y 1 : ℕ) < m := (y 1).isLt
  have hj : (y 2 : ℕ) < n := (y 2).isLt
  rcases Nat.lt_or_ge (y 0 : ℕ) 1 with h | h
  · refine ⟨_, List.mem_cons_of_mem _ List.mem_cons_self, (Rect.mem_set_unit (inb := h0)).mpr fun a => ?_⟩
    match a with
    | ⟨0, _⟩ => exact ⟨Nat.zero_le _, show (y 0 : ℕ) < 0 + 1 by omega⟩
    | ⟨1, _⟩ => exact ⟨Nat.zero_le _, show (y 1 : ℕ) < 0 + m by omega⟩
    | ⟨2, _⟩ => exact ⟨Nat.zero_le _, show (y 2 : ℕ) < 0 + n by omega⟩
  · refine ⟨_, List.mem_cons_self, (Rect.mem_set_unit (inb := h1)).mpr fun a => ?_⟩
    match a with
    | ⟨0, _⟩ => exact ⟨h, show (y 0 : ℕ) < 1 + 1 by omega⟩
    | ⟨1, _⟩ => exact ⟨Nat.zero_le _, show (y 1 : ℕ) < 0 + m by omega⟩
    | ⟨2, _⟩ => exact ⟨Nat.zero_le _, show (y 2 : ℕ) < 0 + n by omega⟩

theorem cover4 {e : EltTy} {m n : ℕ} (f : Fin 2 → (M4 m n).Idx → Elt Ideal e) (h1 h0) (y : (⟨4, ![2, 1, m, n]⟩ : Shape).Idx) :
    ∃ p ∈ ([⟨Rect.unit ![1, 0, 0, 0] (M4 m n).size h1, f 1⟩, ⟨Rect.unit ![0, 0, 0, 0] (M4 m n).size h0, f 0⟩] : List (View.Piece (Elt Ideal) ⟨4, ![2, 1, m, n]⟩ e)),
      y ∈ p.1.set := by
  have hy : (y 0 : ℕ) < 2 := (y 0).isLt
  have ho : (y 1 : ℕ) < 1 := (y 1).isLt
  have hi : (y 2 : ℕ) < m := (y 2).isLt
  have hj : (y 3 : ℕ) < n := (y 3).isLt
  rcases Nat.lt_or_ge (y 0 : ℕ) 1 with h | h
  · refine ⟨_, List.mem_cons_of_mem _ List.mem_cons_self, (Rect.mem_set_unit (inb := h0)).mpr fun a => ?_⟩
    match a with
    | ⟨0, _⟩ => exact ⟨Nat.zero_le _, show (y 0 : ℕ) < 0 + 1 by omega⟩
    | ⟨1, _⟩ => exact ⟨Nat.zero_le _, show (y 1 : ℕ) < 0 + 1 by omega⟩
    | ⟨2, _⟩ => exact ⟨Nat.zero_le _, show (y 2 : ℕ) < 0 + m by omega⟩
    | ⟨3, _⟩ => exact ⟨Nat.zero_le _, show (y 3 : ℕ) < 0 + n by omega⟩
  · refine ⟨_, List.mem_cons_self, (Rect.mem_set_unit (inb := h1)).mpr fun a => ?_⟩
    match a with
    | ⟨0, _⟩ => exact ⟨h, show (y 0 : ℕ) < 1 + 1 by omega⟩
    | ⟨1, _⟩ => exact ⟨Nat.zero_le _, show (y 1 : ℕ) < 0 + 1 by omega⟩
    | ⟨2, _⟩ => exact ⟨Nat.zero_le _, show (y 2 : ℕ) < 0 + m by omega⟩
    | ⟨3, _⟩ => exact ⟨Nat.zero_le _, show (y 3 : ℕ) < 0 + n by omega⟩

/-- and the block holds the value stored for its batch. -/
theorem canon3 {e : EltTy} {m n : ℕ} (f : Fin 2 → (M3 m n).Idx → Elt Ideal e) (h1 h0) (b : Fin 2) (i : Fin m) (j : Fin n) :
    View.canon (Val := Elt Ideal) (s := ⟨3, ![2, m, n]⟩) (e := e)
      [⟨Rect.unit ![1, 0, 0] (M3 m n).size h1, f 1⟩, ⟨Rect.unit ![0, 0, 0] (M3 m n).size h0, f 0⟩] (ix3 b i j) = f b (ix3 0 i j) := by
  refine View.canon_eq_of_allAt _ _ _ (cover3 f h1 h0 _) (View.allAt_cons_unit _ _ _ _ _ ?_ (View.allAt_cons_unit _ _ _ _ _ ?_ (View.allAt_nil _ _)))
  all_goals
    intro x hx
    have ha : (b : ℕ) = _ + (x 0 : ℕ) := hx 0
    have hx0 : (x 0 : ℕ) < 1 := (x 0).isLt
    have hi : (i : ℕ) = 0 + (x 1 : ℕ) := hx 1
    have hj : (j : ℕ) = 0 + (x 2 : ℕ) := hx 2
    rw [eq3 (x := x) (i := i) (j := j) (by omega) (by omega)]
  · have : b = 1 := Fin.ext (show (b : ℕ) = 1 by rw [ha]; show 1 + _ = 1; omega)
    rw [this]
  · have : b = 0 := Fin.ext (show (b : ℕ) = 0 by rw [ha]; show 0 + _ = 0; omega)
    rw [this]

theorem canon4 {e : EltTy} {m n : ℕ} (f : Fin 2 → (M4 m n).Idx → Elt Ideal e) (h1 h0) (b : Fin 2) (i : Fin m) (j : Fin n) :
    View.canon (Val := Elt Ideal) (s := ⟨4, ![2, 1, m, n]⟩) (e := e)
      [⟨Rect.unit ![1, 0, 0, 0] (M4 m n).size h1, f 1⟩, ⟨Rect.unit ![0, 0, 0, 0] (M4 m n).size h0, f 0⟩] (ix4 b 0 i j) = f b (ix4 0 0 i j) := by
  refine View.canon_eq_of_allAt _ _ _ (cover4 f h1 h0 _) (View.allAt_cons_unit _ _ _ _ _ ?_ (View.allAt_cons_unit _ _ _ _ _ ?_ (View.allAt_nil _ _)))
  all_goals
    intro x hx
    have ha : (b : ℕ) = _ + (x 0 : ℕ) := hx 0
    have hx0 : (x 0 : ℕ) < 1 := (x 0).isLt
    have hi : (i : ℕ) = 0 + (x 2 : ℕ) := hx 2
    have hj : (j : ℕ) = 0 + (x 3 : ℕ) := hx 3
    rw [eq4 (x := x) (i := i) (j := j) (by omega) (by omega)]
  · have : b = 1 := Fin.ext (show (b : ℕ) = 1 by rw [ha]; show 1 + _ = 1; omega)
    rw [this]
  · have : b = 0 := Fin.ext (show (b : ℕ) = 0 by rw [ha]; show 0 + _ = 0; omega)
    rw [this]

theorem zero3 : (![0, 0, 0] : Fin 3 → ℕ) = fun _ => 0 := by decide
theorem zero4 : (![0, 0, 0, 0] : Fin 4 → ℕ) = fun _ => 0 := by decide
theorem zero2 : (![0, 0] : Fin 2 → ℕ) = fun _ => 0 := by decide

variable {A : Args} {h : Fin 45} {x0 x1 x2 : Vec Ideal S2x1x64x768 .bf16} {x3 x4 : Vec Ideal S2x32x768 .f32}

theorem fac_named : (Named.named κ "score_log2e" 0x3E38AA3B#32 : Ideal .f32) = Head.kFac := rfl
theorem ln2_named : (Named.named κ "ln2" 0x3F317218#32 : Ideal .f32) = ((Real.log 2 : ℝ) : EReal) := rfl
theorem log2e_named : (Named.named κ "log2e" 0x3FB8AA3B#32 : Ideal .f32) = (((Real.log 2)⁻¹ : ℝ) : EReal) := rfl

theorem keys_reads (I : Ins A h x0 x1 x2 x3 x4) : (keys x1 x2 x3 x4).Reads A (grp h) where
  x b d i := by
    rw [← I.k]
    fin_cases b
    · exact ld4 x1 0 le_rfl _ d i
    · exact ld4 x1 1 le_rfl _ d i
  y b d i := by
    rw [← I.v]
    fin_cases b
    · exact ld4 x2 0 le_rfl _ d i
    · exact ld4 x2 1 le_rfl _ d i
  c b d i := by
    rw [← I.c]
    fin_cases b
    · exact ld3 x3 0 le_rfl le_rfl _ d i
    · exact ld3 x3 1 le_rfl le_rfl _ d i
  s b d i := by
    rw [← I.s]
    fin_cases b
    · exact ld3 x4 0 le_rfl le_rfl _ d i
    · exact ld3 x4 1 le_rfl le_rfl _ d i
  fac := fac_named

variable {g : Fin 5} {k : Vec Ideal S2x768x192 .bf16} {c : Vec Ideal S2x768x64 .fp8e4m3} {w : Vec Ideal S2x64x768 .fp8e4m3} {s t : Vec Ideal S8x128 .f32}

theorem head_reads (I : Ins A h x0 x1 x2 x3 x4) (K : Kept A (grp h) k c w s t) :
    (head x0 x2 x3 x4 (View.ld k) (View.ld c) (View.ld w) (View.ld s) (View.ld t)).Reads A h where
  x b d i := by
    rw [← I.q]
    fin_cases b
    · exact ld4 x0 0 le_rfl _ d i
    · exact ld4 x0 1 le_rfl _ d i
  c b d i := by
    rw [← I.c]
    fin_cases b
    · exact ld3 x3 0 le_rfl le_rfl _ d i
    · exact ld3 x3 1 le_rfl le_rfl _ d i
  s b d i := by
    rw [← I.s]
    fin_cases b
    · exact ld3 x4 0 le_rfl le_rfl _ d i
    · exact ld3 x4 1 le_rfl le_rfl _ d i
  k0 b i e := by
    refine Eq.trans ?_ (K.k b ⟨i.val, by omega⟩ e)
    fin_cases b
    · exact ld3 k 0 (by decide) le_rfl _ i e
    · exact ld3 k 1 (by decide) le_rfl _ i e
  c0 b i d := by
    refine Eq.trans ?_ ((K.c b ⟨i.val, by omega⟩ d).trans (ext_val (fun k => codeK A b k (grp h) d) _).symm)
    fin_cases b
    · exact ld3 c 0 (by decide) le_rfl _ i d
    · exact ld3 c 1 (by decide) le_rfl _ i d
  v0 b d i := by
    refine Eq.trans ?_ ((I.v b d ⟨i.val, by omega⟩).trans (ext_val (fun k => A.v b k (grp h) d) _).symm)
    fin_cases b
    · exact ld4 x2 0 (by decide) _ d i
    · exact ld4 x2 1 (by decide) _ d i
  w0 b d i := by
    refine Eq.trans ?_ ((K.w b d ⟨i.val, by omega⟩).trans (ext_val (fun k => codeV A b k (grp h) d) _).symm)
    fin_cases b
    · exact ld3 w 0 le_rfl (by decide) _ d i
    · exact ld3 w 1 le_rfl (by decide) _ d i
  k1 b i e := by
    refine Eq.trans ?_ (K.k b ⟨i.val, by omega⟩ e)
    fin_cases b
    · exact ld3 k 0 (by decide) le_rfl _ i e
    · exact ld3 k 1 (by decide) le_rfl _ i e
  c1 b i d := by
    refine Eq.trans ?_ ((K.c b ⟨i.val, by omega⟩ d).trans (ext_val (fun k => codeK A b k (grp h) d) _).symm)
    fin_cases b
    · exact ld3 c 0 (by decide) le_rfl _ i d
    · exact ld3 c 1 (by decide) le_rfl _ i d
  v1 b d i := by
    refine Eq.trans ?_ ((I.v b d ⟨i.val, by omega⟩).trans (ext_val (fun k => A.v b k (grp h) d) _).symm)
    fin_cases b
    · exact ld4 x2 0 (by decide) _ d i
    · exact ld4 x2 1 (by decide) _ d i
  w1 b d i := by
    refine Eq.trans ?_ ((K.w b d ⟨i.val, by omega⟩).trans (ext_val (fun k => codeV A b k (grp h) d) _).symm)
    fin_cases b
    · exact ld3 w 0 le_rfl (by decide) _ d i
    · exact ld3 w 1 le_rfl (by decide) _ d i
  k2 b i e := by
    refine Eq.trans ?_ (K.k b ⟨i.val, by omega⟩ e)
    fin_cases b
    · exact ld3 k 0 (by decide) le_rfl _ i e
    · exact ld3 k 1 (by decide) le_rfl _ i e
  c2 b i d := by
    refine Eq.trans ?_ ((K.c b ⟨i.val, by omega⟩ d).trans (ext_val (fun k => codeK A b k (grp h) d) _).symm)
    fin_cases b
    · exact ld3 c 0 (by decide) le_rfl _ i d
    · exact ld3 c 1 (by decide) le_rfl _ i d
  v2 b d i := by
    refine Eq.trans ?_ ((I.v b d ⟨i.val, by omega⟩).trans (ext_val (fun k => A.v b k (grp h) d) _).symm)
    fin_cases b
    · exact ld4 x2 0 (by decide) _ d i
    · exact ld4 x2 1 (by decide) _ d i
  w2 b d i := by
    refine Eq.trans ?_ ((K.w b d ⟨i.val, by omega⟩).trans (ext_val (fun k => codeV A b k (grp h) d) _).symm)
    fin_cases b
    · exact ld3 w 0 le_rfl (by decide) _ d i
    · exact ld3 w 1 le_rfl (by decide) _ d i
  ks := (ld2 s _).trans (K.s _ _)
  vs := (ld2 t _).trans (K.t _ _)
  ln2 := ln2_named
  log2e := log2e_named

end Cert.Case

end
-- ==== Proof.Step.lean ====
module

public import proofs.«01_k».proof.Proof.CaseA
public import proofs.«01_k».proof.Proof.CaseB
public import proofs.«01_k».proof.Proof.Stores

@[expose] public section

set_option maxRecDepth 16384

noncomputable section

/-! # What one step leaves

At the first step of a group and at the other steps, every output block and every kept block holds what the specification says. -/

namespace Cert.Case

open Idealize.ShloMosaic Idealize.ShloMosaic.TcCoe Cert.Tile Cert.Body Cert.Spec Cert.KernelIdeal Cert.KernelIdeal.Gen

variable {A : Args} {h : Fin 45} {L : Head.Leaves} {K : Key.Leaves}

theorem rows_two (f : Fin 2 → Fin 768 → EReal) {a b : FVec Ideal (M2 1 768) .f32} (ha : ∀ i, a (ix2 0 i) = f 0 i) (hb : ∀ i, b (ix2 0 i) = f 1 i)
    (hr) (P : List (View.Piece (Elt Ideal) S1x2x768 .f32)) :
    Rows f (View.canon (⟨Rect.unit ![0, 0, 0] S1x2x768.size hr, two a b⟩ :: P)) := fun r i => by
  rw [View.canon_cons_unit_zero zero3]
  exact two_apply ha hb r i

theorem rows_same {f : Fin 2 → Fin 768 → EReal} {x : Vec Ideal S1x2x768 .f32} (hx : Rows f x) (hr) (hc) (P : List (View.Piece (Elt Ideal) S1x2x768 .f32)) :
    Rows f (View.canon (⟨Rect.unit ![0, 0, 0] S1x2x768.size hr, shapeCast S1x2x768 (View.ld x (Rect.unit ![0, 0, 0] S1x2x768.size hr)) hc⟩ :: P)) := fun r i => by
  rw [View.canon_cons_unit_zero zero3, View.ld_unit_zero zero3]
  exact (congrFun (shapeCast_self x hc) _).trans (hx r i)

theorem codes_same {f : Fin 2 → Fin 768 → Fin 64 → EReal} {x : Vec Ideal S2x1x64x768 .fp8e4m3} (hx : Codes f x) (hr) (hc) (P : List (View.Piece (Elt Ideal) S2x1x64x768 .fp8e4m3)) :
    Codes f (View.canon (⟨Rect.unit ![0, 0, 0, 0] S2x1x64x768.size hr, shapeCast S2x1x64x768 (View.ld x (Rect.unit ![0, 0, 0, 0] S2x1x64x768.size hr)) hc⟩ :: P)) := fun b d i => by
  rw [View.canon_cons_unit_zero zero4, View.ld_unit_zero zero4]
  exact (congrFun (shapeCast_self x hc) _).trans (hx b d i)

theorem codes_two {f : Fin 2 → Fin 768 → Fin 64 → EReal} (p : Fin 2 → (M4 64 768).Idx → Elt Ideal .fp8e4m3) (hp : ∀ b d i, p b (ix4 0 0 d i) = f b i d) (h1 h0) :
    Codes f (View.canon (Val := Elt Ideal) (s := S2x1x64x768) (e := .fp8e4m3) [⟨Rect.unit ![1, 0, 0, 0] S1x1x64x768.size h1, p 1⟩, ⟨Rect.unit ![0, 0, 0, 0] S1x1x64x768.size h0, p 0⟩]) :=
  fun b d i => (canon4 p h1 h0 b d i).trans (hp b d i)

/-- One store of the whole block covers it. -/
theorem cover1 {S : Shape} {e : EltTy} {off : Fin S.rank → ℕ} (ho : off = fun _ => 0) (h) (w : S.Idx → Elt Ideal e) (y : S.Idx) :
    ∃ p ∈ ([⟨Rect.unit off S.size h, w⟩] : List (View.Piece (Elt Ideal) S e)), y ∈ p.1.set :=
  ⟨_, List.mem_cons_self, (Rect.mem_set_unit (inb := h)).mpr fun a => by
    subst ho
    exact ⟨Nat.zero_le _, by rw [Nat.zero_add]; exact (y a).isLt⟩⟩

variable {g : Fin 5} (R : K.Reads A g)
include R

theorem k_canon (F : Finite A) (h1 h0) (b i e) :
    View.canon (Val := Elt Ideal) (s := S2x768x192) (e := .bf16) [⟨Rect.unit ![1, 0, 0] S1x768x192.size h1, K.k3 1⟩, ⟨Rect.unit ![0, 0, 0] S1x768x192.size h0, K.k3 0⟩] (ix3 b i e)
      = Head.key3 A b g i.val e :=
  (canon3 (e := .bf16) K.k3 h1 h0 b i e).trans (Key.Leaves.k3_apply R F b e i)

theorem c_canon (h1 h0) (b i d) :
    View.canon (Val := Elt Ideal) (s := S2x768x64) (e := .fp8e4m3) [⟨Rect.unit ![1, 0, 0] S1x768x64.size h1, K.ks 1⟩, ⟨Rect.unit ![0, 0, 0] S1x768x64.size h0, K.ks 0⟩] (ix3 b i d)
      = codeK A b i g d :=
  (canon3 (e := .fp8e4m3) K.ks h1 h0 b i d).trans (Key.Leaves.ks_apply R b d i)

theorem w_canon (h1 h0) (b d i) :
    View.canon (Val := Elt Ideal) (s := S2x64x768) (e := .fp8e4m3) [⟨Rect.unit ![1, 0, 0] S1x64x768.size h1, K.vs 1⟩, ⟨Rect.unit ![0, 0, 0] S1x64x768.size h0, K.vs 0⟩] (ix3 b d i)
      = codeV A b i g d :=
  (canon3 (e := .fp8e4m3) K.vs h1 h0 b d i).trans (Key.Leaves.vs_apply R b d i)

theorem s_canon (h0) (i j) :
    View.canon (Val := Elt Ideal) (s := S8x128) (e := .f32) [⟨Rect.unit ![0, 0] S8x128.size h0, Key.Leaves.wide K.sk⟩] (ix2 i j) = scaleK A g :=
  (congrFun (View.canon_unit_zero (Val := Elt Ideal) (S := S8x128) (e := .f32) zero2 h0 (Key.Leaves.wide K.sk)) (ix2 i j)).trans ((Key.Leaves.wide_apply _ _ _).trans (Key.Leaves.sk_apply R))

theorem t_canon (h0) (i j) :
    View.canon (Val := Elt Ideal) (s := S8x128) (e := .f32) [⟨Rect.unit ![0, 0] S8x128.size h0, Key.Leaves.wide K.sv⟩] (ix2 i j) = scaleV A g :=
  (congrFun (View.canon_unit_zero (Val := Elt Ideal) (S := S8x128) (e := .f32) zero2 h0 (Key.Leaves.wide K.sv)) (ix2 i j)).trans ((Key.Leaves.wide_apply _ _ _).trans (Key.Leaves.sv_apply R))

end Cert.Case

end
-- ==== Proof.StepA.lean ====
module

public import proofs.«01_k».proof.Proof.Gen.KernelIdeal.Frame
public import proofs.«01_k».proof.Proof.Step
public import proofs.«01_k».proof.Proof.CaseA

@[expose] public section
set_option maxRecDepth 16384
noncomputable section

/-! # What the first step of a group leaves -/

namespace Cert.CaseA
open Idealize.ShloMosaic Idealize.ShloMosaic.TcCoe Cert.Tile Cert.Body Cert.Spec Cert.Case Cert.KernelIdeal Cert.KernelIdeal.Gen

variable (c : Dev nD) (i : grid0.Coords) (arg1 : Memref sig .tc .vmem S2x1x64x768 .bf16) (harg1 : arg1.IsWhole) (arg2 : Memref sig .tc .vmem S2x1x64x768 .bf16) (harg2 : arg2.IsWhole) (arg3 : Memref sig .tc .vmem S2x1x64x768 .bf16) (harg3 : arg3.IsWhole) (arg4 : Memref sig .tc .vmem S2x32x768 .f32) (harg4 : arg4.IsWhole) (arg5 : Memref sig .tc .vmem S2x32x768 .f32) (harg5 : arg5.IsWhole) (arg6 : Memref sig .tc .vmem S1x2x768 .f32) (harg6 : arg6.IsWhole) (arg7 : Memref sig .tc .vmem S1x2x768 .f32) (harg7 : arg7.IsWhole) (arg8 : Memref sig .tc .vmem S1x2x768 .f32) (harg8 : arg8.IsWhole) (arg9 : Memref sig .tc .vmem S1x2x768 .f32) (harg9 : arg9.IsWhole) (arg10 : Memref sig .tc .vmem S1x2x768 .f32) (harg10 : arg10.IsWhole) (arg11 : Memref sig .tc .vmem S2x1x64x768 .fp8e4m3) (harg11 : arg11.IsWhole) (arg12 : Memref sig .tc .vmem S2x1x64x768 .fp8e4m3) (harg12 : arg12.IsWhole) (arg13 : Memref sig .tc .vmem S2x1x64x768 .fp8e4m3) (harg13 : arg13.IsWhole) (arg14 : Memref sig .tc .vmem S2x1x64x768 .fp8e4m3) (harg14 : arg14.IsWhole) (arg15 : Memref sig .tc .vmem S2x768x192 .bf16) (harg15 : arg15.IsWhole) (arg16 : Memref sig .tc .vmem S2x768x64 .fp8e4m3) (harg16 : arg16.IsWhole) (arg17 : Memref sig .tc .vmem S2x64x768 .fp8e4m3) (harg17 : arg17.IsWhole) (arg18 : Memref sig .tc .vmem S8x128 .f32) (harg18 : arg18.IsWhole) (arg19 : Memref sig .tc .vmem S8x128 .f32) (harg19 : arg19.IsWhole) (hc0 : cond0_0 i) (x0 : Vec Ideal S2x1x64x768 .bf16) (x1 : Vec Ideal S2x1x64x768 .bf16) (x2 : Vec Ideal S2x1x64x768 .bf16) (x3 : Vec Ideal S2x32x768 .f32) (x4 : Vec Ideal S2x32x768 .f32)
variable {A : Args} {h : Fin 45}

theorem kept (I : Ins A h x0 x1 x2 x3 x4) (F : Finite A) : Kept A (grp h) (View.canon (Val := Elt Ideal) (s := S2x768x192) (e := .bf16) [⟨Rect.unit ![1,0,0] S1x768x192.size (by decide), ((keys x1 x2 x3 x4).k3 1)⟩, ⟨Rect.unit ![0,0,0] S1x768x192.size (by decide), ((keys x1 x2 x3 x4).k3 0)⟩])
    (View.canon (Val := Elt Ideal) (s := S2x768x64) (e := .fp8e4m3) [⟨Rect.unit ![1,0,0] S1x768x64.size (by decide), ((keys x1 x2 x3 x4).ks 1)⟩, ⟨Rect.unit ![0,0,0] S1x768x64.size (by decide), ((keys x1 x2 x3 x4).ks 0)⟩]) (View.canon (Val := Elt Ideal) (s := S2x64x768) (e := .fp8e4m3) [⟨Rect.unit ![1,0,0] S1x64x768.size (by decide), ((keys x1 x2 x3 x4).vs 1)⟩, ⟨Rect.unit ![0,0,0] S1x64x768.size (by decide), ((keys x1 x2 x3 x4).vs 0)⟩])
    (View.canon (Val := Elt Ideal) (s := S8x128) (e := .f32) [⟨Rect.unit ![0,0] S8x128.size (by decide), Key.Leaves.wide (keys x1 x2 x3 x4).sk⟩]) (View.canon (Val := Elt Ideal) (s := S8x128) (e := .f32) [⟨Rect.unit ![0,0] S8x128.size (by decide), Key.Leaves.wide (keys x1 x2 x3 x4).sv⟩]) :=
  ⟨k_canon (keys_reads I) F _ _, c_canon (keys_reads I) _ _, w_canon (keys_reads I) _ _, s_canon (keys_reads I) _, t_canon (keys_reads I) _⟩

theorem reads (I : Ins A h x0 x1 x2 x3 x4) (F : Finite A) :
    (head x0 x2 x3 x4 (fun r => arg15.view.readCov [⟨Rect.unit ![1,0,0] S1x768x192.size (by decide), ((keys x1 x2 x3 x4).k3 1)⟩, ⟨Rect.unit ![0,0,0] S1x768x192.size (by decide), ((keys x1 x2 x3 x4).k3 0)⟩] r) (fun r => arg16.view.readCov [⟨Rect.unit ![1,0,0] S1x768x64.size (by decide), ((keys x1 x2 x3 x4).ks 1)⟩, ⟨Rect.unit ![0,0,0] S1x768x64.size (by decide), ((keys x1 x2 x3 x4).ks 0)⟩] r) (fun r => arg17.view.readCov [⟨Rect.unit ![1,0,0] S1x64x768.size (by decide), ((keys x1 x2 x3 x4).vs 1)⟩, ⟨Rect.unit ![0,0,0] S1x64x768.size (by decide), ((keys x1 x2 x3 x4).vs 0)⟩] r) (fun r => arg18.view.readCov [⟨Rect.unit ![0,0] S8x128.size (by decide), Key.Leaves.wide (keys x1 x2 x3 x4).sk⟩] r) (fun r => arg19.view.readCov [⟨Rect.unit ![0,0] S8x128.size (by decide), Key.Leaves.wide (keys x1 x2 x3 x4).sv⟩] r)).Reads A h := by
  have e0 : (fun r : Rect S2x768x192 => arg15.view.readCov (Val := Elt Ideal) [⟨Rect.unit ![1,0,0] S1x768x192.size (by decide), ((keys x1 x2 x3 x4).k3 1)⟩, ⟨Rect.unit ![0,0,0] S1x768x192.size (by decide), ((keys x1 x2 x3 x4).k3 0)⟩] r) = View.ld (View.canon (Val := Elt Ideal) (s := S2x768x192) (e := .bf16) [⟨Rect.unit ![1,0,0] S1x768x192.size (by decide), ((keys x1 x2 x3 x4).k3 1)⟩, ⟨Rect.unit ![0,0,0] S1x768x192.size (by decide), ((keys x1 x2 x3 x4).k3 0)⟩]) :=
    funext fun r => View.readCov_eq_canon_ld _ _ r (cover3 (e := .bf16) (keys x1 x2 x3 x4).k3 _ _)
  have e1 : (fun r : Rect S2x768x64 => arg16.view.readCov (Val := Elt Ideal) [⟨Rect.unit ![1,0,0] S1x768x64.size (by decide), ((keys x1 x2 x3 x4).ks 1)⟩, ⟨Rect.unit ![0,0,0] S1x768x64.size (by decide), ((keys x1 x2 x3 x4).ks 0)⟩] r) = View.ld (View.canon (Val := Elt Ideal) (s := S2x768x64) (e := .fp8e4m3) [⟨Rect.unit ![1,0,0] S1x768x64.size (by decide), ((keys x1 x2 x3 x4).ks 1)⟩, ⟨Rect.unit ![0,0,0] S1x768x64.size (by decide), ((keys x1 x2 x3 x4).ks 0)⟩]) :=
    funext fun r => View.readCov_eq_canon_ld _ _ r (cover3 (e := .fp8e4m3) (keys x1 x2 x3 x4).ks _ _)
  have e2 : (fun r : Rect S2x64x768 => arg17.view.readCov (Val := Elt Ideal) [⟨Rect.unit ![1,0,0] S1x64x768.size (by decide), ((keys x1 x2 x3 x4).vs 1)⟩, ⟨Rect.unit ![0,0,0] S1x64x768.size (by decide), ((keys x1 x2 x3 x4).vs 0)⟩] r) = View.ld (View.canon (Val := Elt Ideal) (s := S2x64x768) (e := .fp8e4m3) [⟨Rect.unit ![1,0,0] S1x64x768.size (by decide), ((keys x1 x2 x3 x4).vs 1)⟩, ⟨Rect.unit ![0,0,0] S1x64x768.size (by decide), ((keys x1 x2 x3 x4).vs 0)⟩]) :=
    funext fun r => View.readCov_eq_canon_ld _ _ r (cover3 (e := .fp8e4m3) (keys x1 x2 x3 x4).vs _ _)
  have e3 : (fun r : Rect S8x128 => arg18.view.readCov (Val := Elt Ideal) [⟨Rect.unit ![0,0] S8x128.size (by decide), Key.Leaves.wide (keys x1 x2 x3 x4).sk⟩] r) = View.ld (View.canon (Val := Elt Ideal) (s := S8x128) (e := .f32) [⟨Rect.unit ![0,0] S8x128.size (by decide), Key.Leaves.wide (keys x1 x2 x3 x4).sk⟩]) :=
    funext fun r => View.readCov_eq_canon_ld _ _ r (cover1 (e := .f32) zero2 _ _)
  have e4 : (fun r : Rect S8x128 => arg19.view.readCov (Val := Elt Ideal) [⟨Rect.unit ![0,0] S8x128.size (by decide), Key.Leaves.wide (keys x1 x2 x3 x4).sv⟩] r) = View.ld (View.canon (Val := Elt Ideal) (s := S8x128) (e := .f32) [⟨Rect.unit ![0,0] S8x128.size (by decide), Key.Leaves.wide (keys x1 x2 x3 x4).sv⟩]) :=
    funext fun r => View.readCov_eq_canon_ld _ _ r (cover1 (e := .f32) zero2 _ _)
  rw [e0, e1, e2, e3, e4]
  exact head_reads I (kept x0 x1 x2 x3 x4 I F)

theorem holds5 (I : Ins A h x0 x1 x2 x3 x4) (F : Finite A) : Rows (fun b i => rowQ A b i h) (out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) := by
  have e : out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (cover0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (out5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  rw [e]
  simp only [Memref.IsWhole.read_unread]
  have R := (reads arg15 arg16 arg17 arg18 arg19 x0 x1 x2 x3 x4 I F)
  generalize head x0 x2 x3 x4 (fun r => arg15.view.readCov [⟨Rect.unit ![1,0,0] S1x768x192.size (by decide), ((keys x1 x2 x3 x4).k3 1)⟩, ⟨Rect.unit ![0,0,0] S1x768x192.size (by decide), ((keys x1 x2 x3 x4).k3 0)⟩] r) (fun r => arg16.view.readCov [⟨Rect.unit ![1,0,0] S1x768x64.size (by decide), ((keys x1 x2 x3 x4).ks 1)⟩, ⟨Rect.unit ![0,0,0] S1x768x64.size (by decide), ((keys x1 x2 x3 x4).ks 0)⟩] r) (fun r => arg17.view.readCov [⟨Rect.unit ![1,0,0] S1x64x768.size (by decide), ((keys x1 x2 x3 x4).vs 1)⟩, ⟨Rect.unit ![0,0,0] S1x64x768.size (by decide), ((keys x1 x2 x3 x4).vs 0)⟩] r) (fun r => arg18.view.readCov [⟨Rect.unit ![0,0] S8x128.size (by decide), Key.Leaves.wide (keys x1 x2 x3 x4).sk⟩] r) (fun r => arg19.view.readCov [⟨Rect.unit ![0,0] S8x128.size (by decide), Key.Leaves.wide (keys x1 x2 x3 x4).sv⟩] r) = L at R ⊢
  exact rows_two _ (fun i => Head.Leaves.rq_apply R 0 i) (fun i => Head.Leaves.rq_apply R 1 i) _ _

theorem holds8 (I : Ins A h x0 x1 x2 x3 x4) (F : Finite A) : Rows (fun b i => rowS A b i h) (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) := by
  have e : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (out8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  rw [e]
  simp only [Memref.IsWhole.read_unread]
  have R := (reads arg15 arg16 arg17 arg18 arg19 x0 x1 x2 x3 x4 I F)
  generalize head x0 x2 x3 x4 (fun r => arg15.view.readCov [⟨Rect.unit ![1,0,0] S1x768x192.size (by decide), ((keys x1 x2 x3 x4).k3 1)⟩, ⟨Rect.unit ![0,0,0] S1x768x192.size (by decide), ((keys x1 x2 x3 x4).k3 0)⟩] r) (fun r => arg16.view.readCov [⟨Rect.unit ![1,0,0] S1x768x64.size (by decide), ((keys x1 x2 x3 x4).ks 1)⟩, ⟨Rect.unit ![0,0,0] S1x768x64.size (by decide), ((keys x1 x2 x3 x4).ks 0)⟩] r) (fun r => arg17.view.readCov [⟨Rect.unit ![1,0,0] S1x64x768.size (by decide), ((keys x1 x2 x3 x4).vs 1)⟩, ⟨Rect.unit ![0,0,0] S1x64x768.size (by decide), ((keys x1 x2 x3 x4).vs 0)⟩] r) (fun r => arg18.view.readCov [⟨Rect.unit ![0,0] S8x128.size (by decide), Key.Leaves.wide (keys x1 x2 x3 x4).sk⟩] r) (fun r => arg19.view.readCov [⟨Rect.unit ![0,0] S8x128.size (by decide), Key.Leaves.wide (keys x1 x2 x3 x4).sv⟩] r) = L at R ⊢
  exact rows_two _ (fun i => Head.Leaves.rs_apply R F 0 i) (fun i => Head.Leaves.rs_apply R F 1 i) _ _

theorem holds9 (I : Ins A h x0 x1 x2 x3 x4) (F : Finite A) : Rows (fun b i => rowO A b i h) (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) := by
  have e : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (out9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  rw [e]
  simp only [Memref.IsWhole.read_unread]
  have R := (reads arg15 arg16 arg17 arg18 arg19 x0 x1 x2 x3 x4 I F)
  generalize head x0 x2 x3 x4 (fun r => arg15.view.readCov [⟨Rect.unit ![1,0,0] S1x768x192.size (by decide), ((keys x1 x2 x3 x4).k3 1)⟩, ⟨Rect.unit ![0,0,0] S1x768x192.size (by decide), ((keys x1 x2 x3 x4).k3 0)⟩] r) (fun r => arg16.view.readCov [⟨Rect.unit ![1,0,0] S1x768x64.size (by decide), ((keys x1 x2 x3 x4).ks 1)⟩, ⟨Rect.unit ![0,0,0] S1x768x64.size (by decide), ((keys x1 x2 x3 x4).ks 0)⟩] r) (fun r => arg17.view.readCov [⟨Rect.unit ![1,0,0] S1x64x768.size (by decide), ((keys x1 x2 x3 x4).vs 1)⟩, ⟨Rect.unit ![0,0,0] S1x64x768.size (by decide), ((keys x1 x2 x3 x4).vs 0)⟩] r) (fun r => arg18.view.readCov [⟨Rect.unit ![0,0] S8x128.size (by decide), Key.Leaves.wide (keys x1 x2 x3 x4).sk⟩] r) (fun r => arg19.view.readCov [⟨Rect.unit ![0,0] S8x128.size (by decide), Key.Leaves.wide (keys x1 x2 x3 x4).sv⟩] r) = L at R ⊢
  exact rows_two _ (fun i => Head.Leaves.ro_apply R F 0 i) (fun i => Head.Leaves.ro_apply R F 1 i) _ _

theorem holds10 (I : Ins A h x0 x1 x2 x3 x4) (F : Finite A) : Codes (fun b i d => codeQ A b i h d) (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) := by
  have e : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (out10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  rw [e]
  simp only [Memref.IsWhole.read_unread]
  have R := (reads arg15 arg16 arg17 arg18 arg19 x0 x1 x2 x3 x4 I F)
  generalize head x0 x2 x3 x4 (fun r => arg15.view.readCov [⟨Rect.unit ![1,0,0] S1x768x192.size (by decide), ((keys x1 x2 x3 x4).k3 1)⟩, ⟨Rect.unit ![0,0,0] S1x768x192.size (by decide), ((keys x1 x2 x3 x4).k3 0)⟩] r) (fun r => arg16.view.readCov [⟨Rect.unit ![1,0,0] S1x768x64.size (by decide), ((keys x1 x2 x3 x4).ks 1)⟩, ⟨Rect.unit ![0,0,0] S1x768x64.size (by decide), ((keys x1 x2 x3 x4).ks 0)⟩] r) (fun r => arg17.view.readCov [⟨Rect.unit ![1,0,0] S1x64x768.size (by decide), ((keys x1 x2 x3 x4).vs 1)⟩, ⟨Rect.unit ![0,0,0] S1x64x768.size (by decide), ((keys x1 x2 x3 x4).vs 0)⟩] r) (fun r => arg18.view.readCov [⟨Rect.unit ![0,0] S8x128.size (by decide), Key.Leaves.wide (keys x1 x2 x3 x4).sk⟩] r) (fun r => arg19.view.readCov [⟨Rect.unit ![0,0] S8x128.size (by decide), Key.Leaves.wide (keys x1 x2 x3 x4).sv⟩] r) = L at R ⊢
  exact codes_two (fun b => shapeCast S1x1x64x768 (Head.Leaves.cq _ b) (by decide)) (fun b d i => (Head.Leaves.cast_apply _ _ d i).trans (Head.Leaves.cq_apply R b d i)) _ _

theorem holds13 (I : Ins A h x0 x1 x2 x3 x4) (F : Finite A) : Codes (fun b i d => codeO A b i h d) (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) := by
  have e : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (out13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  rw [e]
  simp only [Memref.IsWhole.read_unread]
  have R := (reads arg15 arg16 arg17 arg18 arg19 x0 x1 x2 x3 x4 I F)
  generalize head x0 x2 x3 x4 (fun r => arg15.view.readCov [⟨Rect.unit ![1,0,0] S1x768x192.size (by decide), ((keys x1 x2 x3 x4).k3 1)⟩, ⟨Rect.unit ![0,0,0] S1x768x192.size (by decide), ((keys x1 x2 x3 x4).k3 0)⟩] r) (fun r => arg16.view.readCov [⟨Rect.unit ![1,0,0] S1x768x64.size (by decide), ((keys x1 x2 x3 x4).ks 1)⟩, ⟨Rect.unit ![0,0,0] S1x768x64.size (by decide), ((keys x1 x2 x3 x4).ks 0)⟩] r) (fun r => arg17.view.readCov [⟨Rect.unit ![1,0,0] S1x64x768.size (by decide), ((keys x1 x2 x3 x4).vs 1)⟩, ⟨Rect.unit ![0,0,0] S1x64x768.size (by decide), ((keys x1 x2 x3 x4).vs 0)⟩] r) (fun r => arg18.view.readCov [⟨Rect.unit ![0,0] S8x128.size (by decide), Key.Leaves.wide (keys x1 x2 x3 x4).sk⟩] r) (fun r => arg19.view.readCov [⟨Rect.unit ![0,0] S8x128.size (by decide), Key.Leaves.wide (keys x1 x2 x3 x4).sv⟩] r) = L at R ⊢
  exact codes_two (Head.Leaves.oc _) (fun b d i => Head.Leaves.oc_apply R F b d i) _ _

theorem holds6 (I : Ins A h x0 x1 x2 x3 x4) (F : Finite A) : Rows (fun b i => rowK A b i (grp h)) (out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) := by
  have e : out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (cover0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (out6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  rw [e]
  simp only [Memref.IsWhole.read_unread]
  rw [View.readCov_eq_canon_ld _ _ _ (cover1 (e := .f32) zero3 _ _)]
  exact rows_same (rows_two _ (fun i => Key.Leaves.rk_apply (keys_reads I) 0 i) (fun i => Key.Leaves.rk_apply (keys_reads I) 1 i) _ _) _ _ _

theorem holds7 (I : Ins A h x0 x1 x2 x3 x4) (F : Finite A) : Rows (fun b i => rowV A b i (grp h)) (out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) := by
  have e : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (out7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  rw [e]
  simp only [Memref.IsWhole.read_unread]
  rw [View.readCov_eq_canon_ld _ _ _ (cover1 (e := .f32) zero3 _ _)]
  exact rows_same (rows_two _ (fun i => Key.Leaves.rv_apply (keys_reads I) 0 i) (fun i => Key.Leaves.rv_apply (keys_reads I) 1 i) _ _) _ _ _

theorem holds11 (I : Ins A h x0 x1 x2 x3 x4) (F : Finite A) : Codes (fun b i d => codeK A b i (grp h) d) (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) := by
  have e : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (out11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  rw [e]
  simp only [Memref.IsWhole.read_unread]
  rw [View.readCov_eq_canon_ld _ _ _ (cover4 (e := .fp8e4m3) (keys x1 x2 x3 x4).kc _ _)]
  exact codes_same (codes_two (keys x1 x2 x3 x4).kc (fun b d i => Key.Leaves.kc_apply (keys_reads I) b d i) _ _) _ _ _

theorem holds12 (I : Ins A h x0 x1 x2 x3 x4) (F : Finite A) : Codes (fun b i d => codeV A b i (grp h) d) (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) := by
  have e : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (out12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  rw [e]
  simp only [Memref.IsWhole.read_unread]
  rw [View.readCov_eq_canon_ld _ _ _ (cover4 (e := .fp8e4m3) (keys x1 x2 x3 x4).vc _ _)]
  exact codes_same (codes_two (keys x1 x2 x3 x4).vc (fun b d i => Key.Leaves.vc_apply (keys_reads I) b d i) _ _) _ _ _

theorem holdsKept (I : Ins A h x0 x1 x2 x3 x4) (F : Finite A) : Kept A (grp h) (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) (sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) (sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) := by
  have e0 : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (scover0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (kept0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  have e1 : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (scover0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (kept1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  have e2 : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (scover0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (kept2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  have e3 : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (scover0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (kept3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  have e4 : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 = _ := (View.read_writes_eq_canon (Val := Elt Ideal) _ _ _ (scover0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)).trans (congrArg View.canon (kept4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4))
  simp only [Memref.IsWhole.read_unread] at e0 e1 e2 e3 e4
  rw [e0, e1, e2, e3, e4]
  exact kept x0 x1 x2 x3 x4 I F

end Cert.CaseA
end
-- ==== Proof.StepB.lean ====
module

public import proofs.«01_k».proof.Proof.Gen.KernelIdeal.Frame
public import proofs.«01_k».proof.Proof.Step
public import proofs.«01_k».proof.Proof.CaseB

@[expose] public section
set_option maxRecDepth 16384
noncomputable section

/-! # What another step of a group leaves -/

namespace Cert.CaseB
open Idealize.ShloMosaic Idealize.ShloMosaic.TcCoe Cert.Tile Cert.Body Cert.Spec Cert.Case Cert.KernelIdeal Cert.KernelIdeal.Gen

variable (c : Dev nD) (i : grid0.Coords) (arg1 : Memref sig .tc .vmem S2x1x64x768 .bf16) (harg1 : arg1.IsWhole) (arg2 : Memref sig .tc .vmem S2x1x64x768 .bf16) (harg2 : arg2.IsWhole) (arg3 : Memref sig .tc .vmem S2x1x64x768 .bf16) (harg3 : arg3.IsWhole) (arg4 : Memref sig .tc .vmem S2x32x768 .f32) (harg4 : arg4.IsWhole) (arg5 : Memref sig .tc .vmem S2x32x768 .f32) (harg5 : arg5.IsWhole) (arg6 : Memref sig .tc .vmem S1x2x768 .f32) (harg6 : arg6.IsWhole) (arg7 : Memref sig .tc .vmem S1x2x768 .f32) (harg7 : arg7.IsWhole) (arg8 : Memref sig .tc .vmem S1x2x768 .f32) (harg8 : arg8.IsWhole) (arg9 : Memref sig .tc .vmem S1x2x768 .f32) (harg9 : arg9.IsWhole) (arg10 : Memref sig .tc .vmem S1x2x768 .f32) (harg10 : arg10.IsWhole) (arg11 : Memref sig .tc .vmem S2x1x64x768 .fp8e4m3) (harg11 : arg11.IsWhole) (arg12 : Memref sig .tc .vmem S2x1x64x768 .fp8e4m3) (harg12 : arg12.IsWhole) (arg13 : Memref sig .tc .vmem S2x1x64x768 .fp8e4m3) (harg13 : arg13.IsWhole) (arg14 : Memref sig .tc .vmem S2x1x64x768 .fp8e4m3) (harg14 : arg14.IsWhole) (arg15 : Memref sig .tc .vmem S2x768x192 .bf16) (harg15 : arg15.IsWhole) (arg16 : Memref sig .tc .vmem S2x768x64 .fp8e4m3) (harg16 : arg16.IsWhole) (arg17 : Memref sig .tc .vmem S2x64x768 .fp8e4m3) (harg17 : arg17.IsWhole) (arg18 : Memref sig .tc .vmem S8x128 .f32) (harg18 : arg18.IsWhole) (arg19 : Memref sig .tc .vmem S8x128 .f32) (harg19 : arg19.IsWhole) (hc0 : ¬cond0_0 i) (x0 : Vec Ideal S2x1x64x768 .bf16) (x1 : Vec Ideal S2x1x64x768 .bf16) (x2 : Vec Ideal S2x1x64x768 .bf16) (x3 : Vec Ideal S2x32x768 .f32) (x4 : Vec Ideal S2x32x768 .f32) (xo6 : Vec Ideal S1x2x768 .f32) (xo7 : Vec Ideal S1x2x768 .f32) (xo11 : Vec Ideal S2x1x64x768 .fp8e4m3) (xo12 : Vec Ideal S2x1x64x768 .fp8e4m3) (xs0 : Vec Ideal S2x768x192 .bf16) (xs1 : Vec Ideal S2x768x64 .fp8e4m3) (xs2 : Vec Ideal S2x64x768 .fp8e4m3) (xs3 : Vec Ideal S8x128 .f32) (xs4 : Vec Ideal S8x128 .f32)
variable {A : Args} {h : Fin 45}

theorem holds5 (I : Ins A h x0 x1 x2 x3 x4) (F : Finite A) (P : Kept A (grp h) xs0 xs1 xs2 xs3 xs4) : Rows (fun b i => rowQ A b i h) (out0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) := by
  have e : out0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4 = _ := (View.read_writes_eq_canon (Val := Elt Ideal) _ _ _ (cover0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4)).trans (congrArg View.canon (out5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4))
  rw [e]
  simp only [Memref.IsWhole.read_unread]
  exact rows_two _ (fun i => Head.Leaves.rq_apply (head_reads I P) 0 i) (fun i => Head.Leaves.rq_apply (head_reads I P) 1 i) _ _

theorem holds8 (I : Ins A h x0 x1 x2 x3 x4) (F : Finite A) (P : Kept A (grp h) xs0 xs1 xs2 xs3 xs4) : Rows (fun b i => rowS A b i h) (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) := by
  have e : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4 = _ := (View.read_writes_eq_canon (Val := Elt Ideal) _ _ _ (cover0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4)).trans (congrArg View.canon (out8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4))
  rw [e]
  simp only [Memref.IsWhole.read_unread]
  exact rows_two _ (fun i => Head.Leaves.rs_apply (head_reads I P) F 0 i) (fun i => Head.Leaves.rs_apply (head_reads I P) F 1 i) _ _

theorem holds9 (I : Ins A h x0 x1 x2 x3 x4) (F : Finite A) (P : Kept A (grp h) xs0 xs1 xs2 xs3 xs4) : Rows (fun b i => rowO A b i h) (out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) := by
  have e : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4 = _ := (View.read_writes_eq_canon (Val := Elt Ideal) _ _ _ (cover0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4)).trans (congrArg View.canon (out9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4))
  rw [e]
  simp only [Memref.IsWhole.read_unread]
  exact rows_two _ (fun i => Head.Leaves.ro_apply (head_reads I P) F 0 i) (fun i => Head.Leaves.ro_apply (head_reads I P) F 1 i) _ _

theorem holds10 (I : Ins A h x0 x1 x2 x3 x4) (F : Finite A) (P : Kept A (grp h) xs0 xs1 xs2 xs3 xs4) : Codes (fun b i d => codeQ A b i h d) (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) := by
  have e : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4 = _ := (View.read_writes_eq_canon (Val := Elt Ideal) _ _ _ (cover0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4)).trans (congrArg View.canon (out10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4))
  rw [e]
  simp only [Memref.IsWhole.read_unread]
  exact codes_two (fun b => shapeCast S1x1x64x768 (Head.Leaves.cq _ b) (by decide)) (fun b d i => (Head.Leaves.cast_apply _ _ d i).trans (Head.Leaves.cq_apply (head_reads I P) b d i)) _ _

theorem holds13 (I : Ins A h x0 x1 x2 x3 x4) (F : Finite A) (P : Kept A (grp h) xs0 xs1 xs2 xs3 xs4) : Codes (fun b i d => codeO A b i h d) (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) := by
  have e : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4 = _ := (View.read_writes_eq_canon (Val := Elt Ideal) _ _ _ (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4)).trans (congrArg View.canon (out13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4))
  rw [e]
  simp only [Memref.IsWhole.read_unread]
  exact codes_two (Head.Leaves.oc _) (fun b d i => Head.Leaves.oc_apply (head_reads I P) F b d i) _ _

theorem holds6 (I : Ins A h x0 x1 x2 x3 x4) (F : Finite A) (P : Kept A (grp h) xs0 xs1 xs2 xs3 xs4) (O : Rows (fun b i => rowK A b i (grp h)) xo6) : Rows (fun b i => rowK A b i (grp h)) (out0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) := by
  have e : out0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4 = _ := (View.read_writes_eq_canon (Val := Elt Ideal) _ _ _ (cover0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4)).trans (congrArg View.canon (out6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4))
  rw [e]
  simp only [Memref.IsWhole.read_unread]
  exact rows_same O _ _ _

theorem holds7 (I : Ins A h x0 x1 x2 x3 x4) (F : Finite A) (P : Kept A (grp h) xs0 xs1 xs2 xs3 xs4) (O : Rows (fun b i => rowV A b i (grp h)) xo7) : Rows (fun b i => rowV A b i (grp h)) (out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) := by
  have e : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4 = _ := (View.read_writes_eq_canon (Val := Elt Ideal) _ _ _ (cover0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4)).trans (congrArg View.canon (out7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4))
  rw [e]
  simp only [Memref.IsWhole.read_unread]
  exact rows_same O _ _ _

theorem holds11 (I : Ins A h x0 x1 x2 x3 x4) (F : Finite A) (P : Kept A (grp h) xs0 xs1 xs2 xs3 xs4) (O : Codes (fun b i d => codeK A b i (grp h) d) xo11) : Codes (fun b i d => codeK A b i (grp h) d) (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) := by
  have e : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4 = _ := (View.read_writes_eq_canon (Val := Elt Ideal) _ _ _ (cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4)).trans (congrArg View.canon (out11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4))
  rw [e]
  simp only [Memref.IsWhole.read_unread]
  exact codes_same O _ _ _

theorem holds12 (I : Ins A h x0 x1 x2 x3 x4) (F : Finite A) (P : Kept A (grp h) xs0 xs1 xs2 xs3 xs4) (O : Codes (fun b i d => codeV A b i (grp h) d) xo12) : Codes (fun b i d => codeV A b i (grp h) d) (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) := by
  have e : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4 = _ := (View.read_writes_eq_canon (Val := Elt Ideal) _ _ _ (cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4)).trans (congrArg View.canon (out12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4))
  rw [e]
  simp only [Memref.IsWhole.read_unread]
  exact codes_same O _ _ _

theorem holdsKept (I : Ins A h x0 x1 x2 x3 x4) (F : Finite A) (P : Kept A (grp h) xs0 xs1 xs2 xs3 xs4) : Kept A (grp h) (sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) (sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) (sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) (sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) (sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 xo6 xo7 xo11 xo12 xs0 xs1 xs2 xs3 xs4) := by
  exact P

end Cert.CaseB
end
-- ==== Proof.Holds.lean ====
module

public import proofs.«01_k».proof.Proof.StepA
public import proofs.«01_k».proof.Proof.StepB

@[expose] public section

set_option maxRecDepth 65536

noncomputable section

/-! # What the run leaves in its blocks after every grid point

The nine result blocks of the point's head and the five kept blocks of the head's group. The first head of a group writes
the group's blocks; every later one finds them as they were. -/

open Idealize.ShloMosaic Idealize.ShloMosaic.TcCoe Cert.KernelIdeal Cert.KernelIdeal.Gen Cert.Spec

namespace Cert.Case

/-- What the fourteen blocks hold after head `h`. -/
structure State (A : Args) (h : Fin 45) (o5 o6 o7 o8 o9 : Vec Ideal S1x2x768 .f32) (o10 o11 o12 o13 : Vec Ideal S2x1x64x768 .fp8e4m3)
    (k : Vec Ideal S2x768x192 .bf16) (c : Vec Ideal S2x768x64 .fp8e4m3) (w : Vec Ideal S2x64x768 .fp8e4m3) (s t : Vec Ideal S8x128 .f32) : Prop where
  rq : Rows (fun b i => rowQ A b i h) o5
  rk : Rows (fun b i => rowK A b i (grp h)) o6
  rv : Rows (fun b i => rowV A b i (grp h)) o7
  rs : Rows (fun b i => rowS A b i h) o8
  ro : Rows (fun b i => rowO A b i h) o9
  qc : Codes (fun b i d => codeQ A b i h d) o10
  kc : Codes (fun b i d => codeK A b i (grp h) d) o11
  vc : Codes (fun b i d => codeV A b i (grp h) d) o12
  oc : Codes (fun b i d => codeO A b i h d) o13
  kept : Kept A (grp h) k c w s t

variable {A : Args} (m : (ℓ : Loc nD τ sig) → Buf (Elt Ideal) ℓ) (c : Dev nD)

/-- The head that a grid point computes. -/
def headOf (n : ℕ) (hn : n < cfg0.N) : Fin 45 := ⟨n, lt_of_lt_of_eq hn N_0⟩

/-- `State` of the fourteen blocks after point `n`. -/
abbrev At (A : Args) (n : ℕ) (hn : n < cfg0.N) : Prop :=
  State A (headOf n hn) (outsAt0 m c n hn).1 (outsAt0 m c n hn).2.1 (outsAt0 m c n hn).2.2.1 (outsAt0 m c n hn).2.2.2.1
    (outsAt0 m c n hn).2.2.2.2.1 (outsAt0 m c n hn).2.2.2.2.2.1 (outsAt0 m c n hn).2.2.2.2.2.2.1
    (outsAt0 m c n hn).2.2.2.2.2.2.2.1 (outsAt0 m c n hn).2.2.2.2.2.2.2.2.1 (outsAt0 m c n hn).2.2.2.2.2.2.2.2.2.1
    (outsAt0 m c n hn).2.2.2.2.2.2.2.2.2.2.1 (outsAt0 m c n hn).2.2.2.2.2.2.2.2.2.2.2.1
    (outsAt0 m c n hn).2.2.2.2.2.2.2.2.2.2.2.2.1 (outsAt0 m c n hn).2.2.2.2.2.2.2.2.2.2.2.2.2

/-- What the input blocks of every point hold. -/
abbrev Inputs (A : Args) : Prop := ∀ t : Fin cfg0.N, Ins A (headOf t.val t.isLt) (iblk m c 0 t) (iblk m c 1 t) (iblk m c 2 t) (iblk m c 3 t) (iblk m c 4 t)

theorem at_first (I : Inputs m c A) (F : Spec.Finite A) (t : Fin cfg0.N) (h0 : t.val % 9 = 0) : At m c A t.val t.isLt := by
  unfold At
  rw [outsAt0_A m c t h0]
  dsimp only
  refine ⟨?_, ?_, ?_, ?_, ?_, ?_, ?_, ?_, ?_, ?_⟩
  · exact CaseA.holds5 _ _ _ _ _ _ _ _ _ _ _ _ _ _ _ _ _ _ _ _ _ _ _ _ _ _ _ _ _ _ _ _ _ _ _ _ _ _ _ _ _ _ _ _ _ _ (I t) F
  · exact CaseA.holds6 _ _ _ _ _ _ _ _ _ _ _ _ _ _ _ _ _ _ _ _ _ _ _ _ _ _ _ _ _ _ _ _ _ _ _ _ _ _ _ _ _ _ _ _ _ _ (I t) F
  · exact CaseA.holds7 _ _ _ _ _ _ _ _ _ _ _ _ _ _ _ _ _ _ _ _ _ _ _ _ _ _ _ _ _ _ _ _ _ _ _ _ _ _ _ _ _ _ _ _ _ _ (I t) F
  · exact CaseA.holds8 _ _ _ _ _ _ _ _ _ _ _ _ _ _ _ _ _ _ _ _ _ _ _ _ _ _ _ _ _ _ _ _ _ _ _ _ _ _ _ _ _ _ _ _ _ _ (I t) F
  · exact CaseA.holds9 _ _ _ _ _ _ _ _ _ _ _ _ _ _ _ _ _ _ _ _ _ _ _ _ _ _ _ _ _ _ _ _ _ _ _ _ _ _ _ _ _ _ _ _ _ _ (I t) F
  · exact CaseA.holds10 _ _ _ _ _ _ _ _ _ _ _ _ _ _ _ _ _ _ _ _ _ _ _ _ _ _ _ _ _ _ _ _ _ _ _ _ _ _ _ _ _ _ _ _ _ _ (I t) F
  · exact CaseA.holds11 _ _ _ _ _ _ _ _ _ _ _ _ _ _ _ _ _ _ _ _ _ _ _ _ _ _ _ _ _ _ _ _ _ _ _ _ _ _ _ _ _ _ _ _ _ _ (I t) F
  · exact CaseA.holds12 _ _ _ _ _ _ _ _ _ _ _ _ _ _ _ _ _ _ _ _ _ _ _ _ _ _ _ _ _ _ _ _ _ _ _ _ _ _ _ _ _ _ _ _ _ _ (I t) F
  · exact CaseA.holds13 _ _ _ _ _ _ _ _ _ _ _ _ _ _ _ _ _ _ _ _ _ _ _ _ _ _ _ _ _ _ _ _ _ _ _ _ _ _ _ _ _ _ _ _ _ _ (I t) F
  · exact CaseA.holdsKept _ _ _ _ _ _ _ _ _ _ _ _ _ _ _ _ _ _ _ _ _ _ _ _ _ _ _ _ _ _ _ _ _ _ _ _ _ _ _ _ _ _ _ _ _ _ (I t) F

theorem at_later (I : Inputs m c A) (F : Spec.Finite A) (t : Fin cfg0.N) (h0 : ¬t.val % 9 = 0)
    (P : At m c A (t.val - 1) (lt_of_le_of_lt (Nat.sub_le _ _) t.isLt)) : At m c A t.val t.isLt := by
  have hg : grp (headOf (t.val - 1) (lt_of_le_of_lt (Nat.sub_le _ _) t.isLt)) = grp (headOf t.val t.isLt) :=
    Fin.ext (by show (t.val - 1) / 9 = t.val / 9; omega)
  have K := P.kept
  have O6 := P.rk
  have O7 := P.rv
  have O11 := P.kc
  have O12 := P.vc
  rw [hg] at K O6 O7 O11 O12
  unfold At
  rw [outsAt0_B m c t h0]
  dsimp only
  refine ⟨?_, ?_, ?_, ?_, ?_, ?_, ?_, ?_, ?_, ?_⟩
  · exact CaseB.holds5 _ _ _ _ _ _ _ _ _ _ _ _ _ _ _ _ _ _ _ _ _ _ _ _ _ _ _ _ _ _ _ _ _ _ _ _ _ _ _ _ _ _ _ _ _ _ _ _ _ _ _ _ _ _ _ (I t) F K
  · exact CaseB.holds6 _ _ _ _ _ _ _ _ _ _ _ _ _ _ _ _ _ _ _ _ _ _ _ _ _ _ _ _ _ _ _ _ _ _ _ _ _ _ _ _ _ _ _ _ _ _ _ _ _ _ _ _ _ _ _ (I t) F K O6
  · exact CaseB.holds7 _ _ _ _ _ _ _ _ _ _ _ _ _ _ _ _ _ _ _ _ _ _ _ _ _ _ _ _ _ _ _ _ _ _ _ _ _ _ _ _ _ _ _ _ _ _ _ _ _ _ _ _ _ _ _ (I t) F K O7
  · exact CaseB.holds8 _ _ _ _ _ _ _ _ _ _ _ _ _ _ _ _ _ _ _ _ _ _ _ _ _ _ _ _ _ _ _ _ _ _ _ _ _ _ _ _ _ _ _ _ _ _ _ _ _ _ _ _ _ _ _ (I t) F K
  · exact CaseB.holds9 _ _ _ _ _ _ _ _ _ _ _ _ _ _ _ _ _ _ _ _ _ _ _ _ _ _ _ _ _ _ _ _ _ _ _ _ _ _ _ _ _ _ _ _ _ _ _ _ _ _ _ _ _ _ _ (I t) F K
  · exact CaseB.holds10 _ _ _ _ _ _ _ _ _ _ _ _ _ _ _ _ _ _ _ _ _ _ _ _ _ _ _ _ _ _ _ _ _ _ _ _ _ _ _ _ _ _ _ _ _ _ _ _ _ _ _ _ _ _ _ (I t) F K
  · exact CaseB.holds11 _ _ _ _ _ _ _ _ _ _ _ _ _ _ _ _ _ _ _ _ _ _ _ _ _ _ _ _ _ _ _ _ _ _ _ _ _ _ _ _ _ _ _ _ _ _ _ _ _ _ _ _ _ _ _ (I t) F K O11
  · exact CaseB.holds12 _ _ _ _ _ _ _ _ _ _ _ _ _ _ _ _ _ _ _ _ _ _ _ _ _ _ _ _ _ _ _ _ _ _ _ _ _ _ _ _ _ _ _ _ _ _ _ _ _ _ _ _ _ _ _ (I t) F K O12
  · exact CaseB.holds13 _ _ _ _ _ _ _ _ _ _ _ _ _ _ _ _ _ _ _ _ _ _ _ _ _ _ _ _ _ _ _ _ _ _ _ _ _ _ _ _ _ _ _ _ _ _ _ _ _ _ _ _ _ _ _ (I t) F K
  · exact CaseB.holdsKept _ _ _ _ _ _ _ _ _ _ _ _ _ _ _ _ _ _ _ _ _ _ _ _ _ _ _ _ _ _ _ _ _ _ _ _ _ _ _ _ _ _ _ _ _ _ _ _ _ _ _ _ _ _ _ (I t) F K

/-- After every point the blocks hold what they should. -/
theorem at_all (I : Inputs m c A) (F : Spec.Finite A) : ∀ (n : ℕ) (hn : n < cfg0.N), At m c A n hn
  | 0, hn => at_first m c I F ⟨0, hn⟩ rfl
  | n + 1, hn => by
    by_cases h0 : (n + 1) % 9 = 0
    · exact at_first m c I F ⟨n + 1, hn⟩ h0
    · exact at_later m c I F ⟨n + 1, hn⟩ h0 (at_all I F n (Nat.lt_of_succ_lt hn))

end Cert.Case
end
-- ==== Proof.Inputs.lean ====
module

public import proofs.«01_k».proof.Proof.Gen.KernelIdeal.Frame
public import proofs.«01_k».proof.Proof.RefRead
public import proofs.«01_k».proof.Proof.Stores

@[expose] public section

set_option maxRecDepth 65536

noncomputable section

/-! # What the input blocks hold

The transposed operands and the two angle tables, as the host operations leave them, and the block of each that a grid
point reads. -/

namespace Cert.Inputs

open Idealize.ShloMosaic Idealize.ShloMosaic.TcCoe Cert.Tile Cert.Spec Cert.Case Cert.KernelIdeal Cert.KernelIdeal.Gen

variable (m : (ℓ : Loc nD τ sig) → Buf (Elt Ideal) ℓ) (c : Dev nD)

/-- The arguments of the run. -/
abbrev args : Args := RefRead.args (m ((c : Thread nD τ).loc main_arg0)) (m ((c : Thread nD τ).loc main_arg1)) (m ((c : Thread nD τ).loc main_arg2)) (m ((c : Thread nD τ).loc main_arg3))

theorem host_q (b : Fin 2) (h : Fin 45) (d : Fin 64) (i : Fin 768) :
    V m c main_v22 (ix4 b h d i) = m ((c : Thread nD τ).loc main_arg0) (ix4 b i h d) := by
  have e : V m c main_v22 = transpose S2x45x64x768 [0, 2, 3, 1] (m ((c : Thread nD τ).loc main_arg0)) transposes_S2x768x45x64_S2x45x64x768_0_2_3_1 := by
    show StableHlo.after hostOps0 (fun b => m (c, b)) (Proc.devRef .tc main_v22) = _
    after_results
  rw [e]
  refine congrArg (m ((c : Thread nD τ).loc main_arg0)) (funext fun a => ?_)
  fin_cases a <;> rfl

theorem host_k (b : Fin 2) (g : Fin 5) (d : Fin 64) (i : Fin 768) :
    V m c main_v23 (ix4 b g d i) = m ((c : Thread nD τ).loc main_arg1) (ix4 b i g d) := by
  have e : V m c main_v23 = transpose S2x5x64x768 [0, 2, 3, 1] (m ((c : Thread nD τ).loc main_arg1)) transposes_S2x768x5x64_S2x5x64x768_0_2_3_1 := by
    show StableHlo.after hostOps0 (fun b => m (c, b)) (Proc.devRef .tc main_v23) = _
    after_results
  rw [e]
  refine congrArg (m ((c : Thread nD τ).loc main_arg1)) (funext fun a => ?_)
  fin_cases a <;> rfl

theorem host_v (b : Fin 2) (g : Fin 5) (d : Fin 64) (i : Fin 768) :
    V m c main_v24 (ix4 b g d i) = m ((c : Thread nD τ).loc main_arg2) (ix4 b i g d) := by
  have e : V m c main_v24 = transpose S2x5x64x768 [0, 2, 3, 1] (m ((c : Thread nD τ).loc main_arg2)) transposes_S2x768x5x64_S2x5x64x768_0_2_3_1 := by
    show StableHlo.after hostOps0 (fun b => m (c, b)) (Proc.devRef .tc main_v24) = _
    after_results
  rw [e]
  refine congrArg (m ((c : Thread nD τ).loc main_arg2)) (funext fun a => ?_)
  fin_cases a <;> rfl

/-- The host's angle of position `i` and frequency `e`. -/
def angle : (⟨S2x32x768, .f32⟩ : BufTy).Contents (Elt Ideal) :=
  mulf (F := Ideal) (s := S2x32x768) (φ := .f32) (broadcastInDim S2x32x768 ![0, 1, 2] bcast_S2x1x768_S2x32x768_0_1_2 (broadcastInDim S2x1x768 ![0, 2] bcast_S2x768_S2x1x768_0_2
      (ReferenceIdeal.Read.val_main_v6 (F := Ideal) (m ((c : Thread nD τ).loc main_arg3)))))
    (broadcastInDim S2x32x768 ![0, 1, 2] bcast_S1x32x1_S2x32x768_0_1_2 (broadcastInDim S1x32x1 ![1] bcast_S32_S1x32x1_1 (ReferenceIdeal.Read.val_main_v14 (F := Ideal))))

theorem spread (y : Vec Ideal S2x768 .f32) (z : Vec Ideal S32 .f32) (b : Fin 2) (e : Fin 32) (i : Fin 768) :
    mulf (F := Ideal) (s := S2x32x768) (φ := .f32) (broadcastInDim S2x32x768 ![0, 1, 2] bcast_S2x1x768_S2x32x768_0_1_2 (broadcastInDim S2x1x768 ![0, 2] bcast_S2x768_S2x1x768_0_2 y))
      (broadcastInDim S2x32x768 ![0, 1, 2] bcast_S1x32x1_S2x32x768_0_1_2 (broadcastInDim S1x32x1 ![1] bcast_S32_S1x32x1_1 z)) (ix3 b e i)
      = FloatOps.mulf (F := Ideal) (φ := .f32) (y (ReferenceIdeal.Read.idx_main_v15 (ReferenceIdeal.Read.idx_main_v17 (ix3 b i e)))) (z (ReferenceIdeal.Read.idx_main_v16 (ReferenceIdeal.Read.idx_main_v18 (ix3 b i e)))) := by
  show FloatOps.mulf (F := Ideal) (φ := .f32) (y _) (z _) = _
  congr 2
  · funext a; fin_cases a <;> rfl
  · funext a; fin_cases a; rfl

theorem angle_at (b : Fin 2) (e : Fin 32) (i : Fin 768) :
    angle m c (ix3 b e i) = ReferenceIdeal.Read.val_main_v19 (F := Ideal) (m ((c : Thread nD τ).loc main_arg3)) (ix3 b i e) := by
  rw [ReferenceIdeal.Read.val_main_v19_apply, ReferenceIdeal.Read.val_main_v17_apply, ReferenceIdeal.Read.val_main_v18_apply, ReferenceIdeal.Read.val_main_v15_apply,
    ReferenceIdeal.Read.val_main_v16_apply]
  exact spread _ _ b e i

theorem host_c (b : Fin 2) (e : Fin 32) (i : Fin 768) : V m c main_v20 (ix3 b e i) = (args m c).c b i e := by
  have h : V m c main_v20 = Host.cos (F := Ideal) (s := S2x32x768) (φ := .f32) (angle m c) := by
    show StableHlo.after hostOps0 (fun b => m (c, b)) (Proc.devRef .tc main_v20) = _
    after_results
    all_goals rfl
  rw [h]
  show Host.cos (F := Ideal) (s := S2x32x768) (φ := .f32) (angle m c) (ix3 b e i) = ReferenceIdeal.Read.val_main_v20 (F := Ideal) _ (ix3 b i e)
  rw [ReferenceIdeal.Read.val_main_v20_apply, ← angle_at]
  rfl

theorem host_s (b : Fin 2) (e : Fin 32) (i : Fin 768) : V m c main_v21 (ix3 b e i) = (args m c).s b i e := by
  have h : V m c main_v21 = Host.sin (F := Ideal) (s := S2x32x768) (φ := .f32) (angle m c) := by
    show StableHlo.after hostOps0 (fun b => m (c, b)) (Proc.devRef .tc main_v21) = _
    after_results
    all_goals rfl
  rw [h]
  show Host.sin (F := Ideal) (s := S2x32x768) (φ := .f32) (angle m c) (ix3 b e i) = ReferenceIdeal.Read.val_main_v22 (F := Ideal) _ (ix3 b i e)
  rw [ReferenceIdeal.Read.val_main_v22_apply, ← angle_at]
  rfl

/-! ## Which block a point reads -/

theorem place0 : ∀ t : Fin cfg0.N, win0_0.index t (0 : Fin 4) = 0 ∧ win0_0.index t (1 : Fin 4) = t.val ∧ win0_0.index t (2 : Fin 4) = 0 ∧ win0_0.index t (3 : Fin 4) = 0 :=
  (by decide +kernel : ∀ t : Fin grid0.N, _)
theorem place1 : ∀ t : Fin cfg0.N, win0_1.index t (0 : Fin 4) = 0 ∧ win0_1.index t (1 : Fin 4) = t.val / 9 ∧ win0_1.index t (2 : Fin 4) = 0 ∧ win0_1.index t (3 : Fin 4) = 0 :=
  (by decide +kernel : ∀ t : Fin grid0.N, _)
theorem place2 : ∀ t : Fin cfg0.N, win0_2.index t (0 : Fin 4) = 0 ∧ win0_2.index t (1 : Fin 4) = t.val / 9 ∧ win0_2.index t (2 : Fin 4) = 0 ∧ win0_2.index t (3 : Fin 4) = 0 :=
  (by decide +kernel : ∀ t : Fin grid0.N, _)
theorem place3 : ∀ t : Fin cfg0.N, win0_3.index t (0 : Fin 3) = 0 ∧ win0_3.index t (1 : Fin 3) = 0 ∧ win0_3.index t (2 : Fin 3) = 0 :=
  (by decide +kernel : ∀ t : Fin grid0.N, _)
theorem place4 : ∀ t : Fin cfg0.N, win0_4.index t (0 : Fin 3) = 0 ∧ win0_4.index t (1 : Fin 3) = 0 ∧ win0_4.index t (2 : Fin 3) = 0 :=
  (by decide +kernel : ∀ t : Fin grid0.N, _)

variable (t : Fin cfg0.N) (h : Fin 45) (hh : h.val = t.val)
include hh

theorem blk_q (b : Fin 2) (d : Fin 64) (i : Fin 768) : iblk m c 0 t (ix4 b 0 d i) = (args m c).q b i h d := by
  show V m c main_v22 (((cfg0.win 0).blk t).view.emb (ix4 b 0 d i)) = _
  obtain ⟨p0, p1, p2, p3⟩ := place0 t
  have e : ((cfg0.win 0).blk t).view.emb (ix4 b 0 d i) = ix4 b h d i := funext fun a => Fin.ext (match a with
    | ⟨0, _⟩ => show win0_0.index t (0 : Fin 4) * 2 + 1 * b.val = b.val by omega
    | ⟨1, _⟩ => show win0_0.index t (1 : Fin 4) * 1 + 1 * 0 = h.val by omega
    | ⟨2, _⟩ => show win0_0.index t (2 : Fin 4) * 64 + 1 * d.val = d.val by omega
    | ⟨3, _⟩ => show win0_0.index t (3 : Fin 4) * 768 + 1 * i.val = i.val by omega)
  rw [e]
  exact host_q m c b h d i

theorem blk_k (b : Fin 2) (d : Fin 64) (i : Fin 768) : iblk m c 1 t (ix4 b 0 d i) = (args m c).k b i (grp h) d := by
  show V m c main_v23 (((cfg0.win 1).blk t).view.emb (ix4 b 0 d i)) = _
  obtain ⟨p0, p1, p2, p3⟩ := place1 t
  have e : ((cfg0.win 1).blk t).view.emb (ix4 b 0 d i) = ix4 b (grp h) d i := funext fun a => Fin.ext (match a with
    | ⟨0, _⟩ => show win0_1.index t (0 : Fin 4) * 2 + 1 * b.val = b.val by omega
    | ⟨1, _⟩ => show win0_1.index t (1 : Fin 4) * 1 + 1 * 0 = h.val / 9 by omega
    | ⟨2, _⟩ => show win0_1.index t (2 : Fin 4) * 64 + 1 * d.val = d.val by omega
    | ⟨3, _⟩ => show win0_1.index t (3 : Fin 4) * 768 + 1 * i.val = i.val by omega)
  rw [e]
  exact host_k m c b (grp h) d i

theorem blk_v (b : Fin 2) (d : Fin 64) (i : Fin 768) : iblk m c 2 t (ix4 b 0 d i) = (args m c).v b i (grp h) d := by
  show V m c main_v24 (((cfg0.win 2).blk t).view.emb (ix4 b 0 d i)) = _
  obtain ⟨p0, p1, p2, p3⟩ := place2 t
  have e : ((cfg0.win 2).blk t).view.emb (ix4 b 0 d i) = ix4 b (grp h) d i := funext fun a => Fin.ext (match a with
    | ⟨0, _⟩ => show win0_2.index t (0 : Fin 4) * 2 + 1 * b.val = b.val by omega
    | ⟨1, _⟩ => show win0_2.index t (1 : Fin 4) * 1 + 1 * 0 = h.val / 9 by omega
    | ⟨2, _⟩ => show win0_2.index t (2 : Fin 4) * 64 + 1 * d.val = d.val by omega
    | ⟨3, _⟩ => show win0_2.index t (3 : Fin 4) * 768 + 1 * i.val = i.val by omega)
  rw [e]
  exact host_v m c b (grp h) d i

omit hh in
theorem blk_c (b : Fin 2) (e : Fin 32) (i : Fin 768) : iblk m c 3 t (ix3 b e i) = (args m c).c b i e := by
  show V m c main_v20 (((cfg0.win 3).blk t).view.emb (ix3 b e i)) = _
  obtain ⟨p0, p1, p2⟩ := place3 t
  have e : ((cfg0.win 3).blk t).view.emb (ix3 b e i) = ix3 b e i := funext fun a => Fin.ext (match a with
    | ⟨0, _⟩ => show win0_3.index t (0 : Fin 3) * 2 + 1 * b.val = b.val by omega
    | ⟨1, _⟩ => show win0_3.index t (1 : Fin 3) * 32 + 1 * e.val = e.val by omega
    | ⟨2, _⟩ => show win0_3.index t (2 : Fin 3) * 768 + 1 * i.val = i.val by omega)
  rw [e]
  exact host_c m c b _ i

omit hh in
theorem blk_s (b : Fin 2) (e : Fin 32) (i : Fin 768) : iblk m c 4 t (ix3 b e i) = (args m c).s b i e := by
  show V m c main_v21 (((cfg0.win 4).blk t).view.emb (ix3 b e i)) = _
  obtain ⟨p0, p1, p2⟩ := place4 t
  have e : ((cfg0.win 4).blk t).view.emb (ix3 b e i) = ix3 b e i := funext fun a => Fin.ext (match a with
    | ⟨0, _⟩ => show win0_4.index t (0 : Fin 3) * 2 + 1 * b.val = b.val by omega
    | ⟨1, _⟩ => show win0_4.index t (1 : Fin 3) * 32 + 1 * e.val = e.val by omega
    | ⟨2, _⟩ => show win0_4.index t (2 : Fin 3) * 768 + 1 * i.val = i.val by omega)
  rw [e]
  exact host_s m c b _ i

/-- The input blocks of the point of head `h`. -/
theorem ins : Ins (args m c) h (iblk m c 0 t) (iblk m c 1 t) (iblk m c 2 t) (iblk m c 3 t) (iblk m c 4 t) :=
  ⟨blk_q m c t h hh, blk_k m c t h hh, blk_v m c t h hh, blk_c m c t, blk_s m c t⟩

end Cert.Inputs
end
-- ==== Proof.Final.lean ====
module

public import proofs.«01_k».proof.Proof.Gen.KernelIdeal.Value
public import proofs.«01_k».proof.Proof.Holds
public import proofs.«01_k».proof.Proof.Inputs

@[expose] public section

set_option maxRecDepth 65536

noncomputable section

/-! # The nine result arrays

Each array the run leaves is the reference's, element by element. -/

namespace Cert.Final

open Idealize.ShloMosaic Idealize.ShloMosaic.TcCoe Cert.Tile Cert.Spec Cert.Case Cert.KernelIdeal Cert.KernelIdeal.Gen

variable (m : (ℓ : Loc nD τ sig) → Buf (Elt Ideal) ℓ) (c : Dev nD) (F : Spec.Finite (Inputs.args m c))

theorem inputs : Case.Inputs m c (Inputs.args m c) := fun t => Inputs.ins m c t (headOf t.val t.isLt) rfl

include F

theorem at5 (h : Fin 45) (b : Fin 2) (i : Fin 768) : Value.G5 m c (ix3 h b i) = rowQ (Inputs.args m c) b i h := by
  have hp : Value.pt5Of (ix3 h b i) = h.val := by
    show 1 * (h.val / 1 - 0) + 1 * (b.val / 2 - 0) + 1 * (i.val / 768 - 0) = _
    omega
  have hN : Value.pt5Of (ix3 h b i) < cfg0.N := lt_of_lt_of_eq (by omega : _ < 45) N_0.symm
  have e : Value.loc5Of (ix3 h b i) = ix3 0 b i := funext fun a => Fin.ext (match a with
    | ⟨0, _⟩ => show h.val % 1 = 0 by omega
    | ⟨1, _⟩ => show b.val % 2 = b.val by omega
    | ⟨2, _⟩ => show i.val % 768 = i.val by omega)
  have R := (at_all m c (inputs m c) F _ hN).rq b i
  have hh : headOf _ hN = h := Fin.ext hp
  rw [hh] at R
  unfold Value.G5
  rw [dif_pos hN, ← Value.outsAt0_sweep, e]
  exact R

theorem result5 : Value.G5 m c = ReferenceIdeal.Read.val_main_v182 (F := Ideal) (m ((c : Thread nD τ).loc main_arg0)) (m ((c : Thread nD τ).loc main_arg3)) := by
  funext j
  obtain ⟨h, b, i, rfl⟩ : ∃ h b i, j = ix3 h b i := ⟨j 0, j 1, j 2, ValueIdx.eq_ix3 j⟩
  rw [at5 m c F]
  have p : ReferenceIdeal.Read.idx_main_v182 (ix3 h b i) = ix3 b i h := funext fun a => by fin_cases a <;> rfl
  rw [ReferenceIdeal.Read.val_main_v182_apply, p, RefRead.row_q (m ((c : Thread nD τ).loc main_arg0)) (m ((c : Thread nD τ).loc main_arg1)) (m ((c : Thread nD τ).loc main_arg2)) (m ((c : Thread nD τ).loc main_arg3))]

theorem at6 (h : Fin 5) (b : Fin 2) (i : Fin 768) : Value.G6 m c (ix3 h b i) = rowK (Inputs.args m c) b i h := by
  have hp : Value.pt6Of (ix3 h b i) = 9 * h.val + 8 := by
    show 9 * (1 * (h.val / 1 - 0) + 1 * (b.val / 2 - 0) + 1 * (i.val / 768 - 0)) + 8 = _
    omega
  have hN : Value.pt6Of (ix3 h b i) < cfg0.N := lt_of_lt_of_eq (by omega : _ < 45) N_0.symm
  have e : Value.loc6Of (ix3 h b i) = ix3 0 b i := funext fun a => Fin.ext (match a with
    | ⟨0, _⟩ => show h.val % 1 = 0 by omega
    | ⟨1, _⟩ => show b.val % 2 = b.val by omega
    | ⟨2, _⟩ => show i.val % 768 = i.val by omega)
  have R := (at_all m c (inputs m c) F _ hN).rk b i
  have hh : grp (headOf _ hN) = h := Fin.ext (by show Value.pt6Of (ix3 h b i) / 9 = h.val; omega)
  rw [hh] at R
  unfold Value.G6
  rw [dif_pos hN, ← Value.outsAt0_sweep, e]
  exact R

theorem result6 : Value.G6 m c = ReferenceIdeal.Read.val_main_v183 (F := Ideal) (m ((c : Thread nD τ).loc main_arg1)) (m ((c : Thread nD τ).loc main_arg3)) := by
  funext j
  obtain ⟨h, b, i, rfl⟩ : ∃ h b i, j = ix3 h b i := ⟨j 0, j 1, j 2, ValueIdx.eq_ix3 j⟩
  rw [at6 m c F]
  have p : ReferenceIdeal.Read.idx_main_v183 (ix3 h b i) = ix3 b i h := funext fun a => by fin_cases a <;> rfl
  rw [ReferenceIdeal.Read.val_main_v183_apply, p, RefRead.row_k (m ((c : Thread nD τ).loc main_arg0)) (m ((c : Thread nD τ).loc main_arg1)) (m ((c : Thread nD τ).loc main_arg2)) (m ((c : Thread nD τ).loc main_arg3))]

theorem at7 (h : Fin 5) (b : Fin 2) (i : Fin 768) : Value.G7 m c (ix3 h b i) = rowV (Inputs.args m c) b i h := by
  have hp : Value.pt7Of (ix3 h b i) = 9 * h.val + 8 := by
    show 9 * (1 * (h.val / 1 - 0) + 1 * (b.val / 2 - 0) + 1 * (i.val / 768 - 0)) + 8 = _
    omega
  have hN : Value.pt7Of (ix3 h b i) < cfg0.N := lt_of_lt_of_eq (by omega : _ < 45) N_0.symm
  have e : Value.loc7Of (ix3 h b i) = ix3 0 b i := funext fun a => Fin.ext (match a with
    | ⟨0, _⟩ => show h.val % 1 = 0 by omega
    | ⟨1, _⟩ => show b.val % 2 = b.val by omega
    | ⟨2, _⟩ => show i.val % 768 = i.val by omega)
  have R := (at_all m c (inputs m c) F _ hN).rv b i
  have hh : grp (headOf _ hN) = h := Fin.ext (by show Value.pt7Of (ix3 h b i) / 9 = h.val; omega)
  rw [hh] at R
  unfold Value.G7
  rw [dif_pos hN, ← Value.outsAt0_sweep, e]
  exact R

theorem result7 : Value.G7 m c = ReferenceIdeal.Read.val_main_v184 (F := Ideal) (m ((c : Thread nD τ).loc main_arg2)) := by
  funext j
  obtain ⟨h, b, i, rfl⟩ : ∃ h b i, j = ix3 h b i := ⟨j 0, j 1, j 2, ValueIdx.eq_ix3 j⟩
  rw [at7 m c F]
  have p : ReferenceIdeal.Read.idx_main_v184 (ix3 h b i) = ix3 b i h := funext fun a => by fin_cases a <;> rfl
  rw [ReferenceIdeal.Read.val_main_v184_apply, p, RefRead.row_v (m ((c : Thread nD τ).loc main_arg0)) (m ((c : Thread nD τ).loc main_arg1)) (m ((c : Thread nD τ).loc main_arg2)) (m ((c : Thread nD τ).loc main_arg3))]

theorem at8 (h : Fin 45) (b : Fin 2) (i : Fin 768) : Value.G8 m c (ix3 h b i) = rowS (Inputs.args m c) b i h := by
  have hp : Value.pt8Of (ix3 h b i) = h.val := by
    show 1 * (h.val / 1 - 0) + 1 * (b.val / 2 - 0) + 1 * (i.val / 768 - 0) = _
    omega
  have hN : Value.pt8Of (ix3 h b i) < cfg0.N := lt_of_lt_of_eq (by omega : _ < 45) N_0.symm
  have e : Value.loc8Of (ix3 h b i) = ix3 0 b i := funext fun a => Fin.ext (match a with
    | ⟨0, _⟩ => show h.val % 1 = 0 by omega
    | ⟨1, _⟩ => show b.val % 2 = b.val by omega
    | ⟨2, _⟩ => show i.val % 768 = i.val by omega)
  have R := (at_all m c (inputs m c) F _ hN).rs b i
  have hh : headOf _ hN = h := Fin.ext hp
  rw [hh] at R
  unfold Value.G8
  rw [dif_pos hN, ← Value.outsAt0_sweep, e]
  exact R

theorem result8 : Value.G8 m c = ReferenceIdeal.Read.val_main_v185 (F := Ideal) (m ((c : Thread nD τ).loc main_arg0)) (m ((c : Thread nD τ).loc main_arg1)) (m ((c : Thread nD τ).loc main_arg3)) := by
  funext j
  obtain ⟨h, b, i, rfl⟩ : ∃ h b i, j = ix3 h b i := ⟨j 0, j 1, j 2, ValueIdx.eq_ix3 j⟩
  rw [at8 m c F]
  have p : ReferenceIdeal.Read.idx_main_v185 (ix3 h b i) = ix3 b i h := funext fun a => by fin_cases a <;> rfl
  rw [ReferenceIdeal.Read.val_main_v185_apply, p, RefRead.row_s (m ((c : Thread nD τ).loc main_arg0)) (m ((c : Thread nD τ).loc main_arg1)) (m ((c : Thread nD τ).loc main_arg2)) (m ((c : Thread nD τ).loc main_arg3))]

theorem at9 (h : Fin 45) (b : Fin 2) (i : Fin 768) : Value.G9 m c (ix3 h b i) = rowO (Inputs.args m c) b i h := by
  have hp : Value.pt9Of (ix3 h b i) = h.val := by
    show 1 * (h.val / 1 - 0) + 1 * (b.val / 2 - 0) + 1 * (i.val / 768 - 0) = _
    omega
  have hN : Value.pt9Of (ix3 h b i) < cfg0.N := lt_of_lt_of_eq (by omega : _ < 45) N_0.symm
  have e : Value.loc9Of (ix3 h b i) = ix3 0 b i := funext fun a => Fin.ext (match a with
    | ⟨0, _⟩ => show h.val % 1 = 0 by omega
    | ⟨1, _⟩ => show b.val % 2 = b.val by omega
    | ⟨2, _⟩ => show i.val % 768 = i.val by omega)
  have R := (at_all m c (inputs m c) F _ hN).ro b i
  have hh : headOf _ hN = h := Fin.ext hp
  rw [hh] at R
  unfold Value.G9
  rw [dif_pos hN, ← Value.outsAt0_sweep, e]
  exact R

theorem result9 : Value.G9 m c = ReferenceIdeal.Read.val_main_v186 (F := Ideal) (m ((c : Thread nD τ).loc main_arg0)) (m ((c : Thread nD τ).loc main_arg1)) (m ((c : Thread nD τ).loc main_arg2)) (m ((c : Thread nD τ).loc main_arg3)) := by
  funext j
  obtain ⟨h, b, i, rfl⟩ : ∃ h b i, j = ix3 h b i := ⟨j 0, j 1, j 2, ValueIdx.eq_ix3 j⟩
  rw [at9 m c F]
  have p : ReferenceIdeal.Read.idx_main_v186 (ix3 h b i) = ix3 b i h := funext fun a => by fin_cases a <;> rfl
  rw [ReferenceIdeal.Read.val_main_v186_apply, p, RefRead.row_o (m ((c : Thread nD τ).loc main_arg0)) (m ((c : Thread nD τ).loc main_arg1)) (m ((c : Thread nD τ).loc main_arg2)) (m ((c : Thread nD τ).loc main_arg3)) F]

theorem at10 (b : Fin 2) (h : Fin 45) (d : Fin 64) (i : Fin 768) : Value.G10 m c (ix4 b h d i) = codeQ (Inputs.args m c) b i h d := by
  have hp : Value.pt10Of (ix4 b h d i) = h.val := by
    show 45 * (b.val / 2 - 0) + 1 * (h.val / 1 - 0) + 1 * (d.val / 64 - 0) + 1 * (i.val / 768 - 0) = _
    omega
  have hN : Value.pt10Of (ix4 b h d i) < cfg0.N := lt_of_lt_of_eq (by omega : _ < 45) N_0.symm
  have e : Value.loc10Of (ix4 b h d i) = ix4 b 0 d i := funext fun a => Fin.ext (match a with
    | ⟨0, _⟩ => show b.val % 2 = b.val by omega
    | ⟨1, _⟩ => show h.val % 1 = 0 by omega
    | ⟨2, _⟩ => show d.val % 64 = d.val by omega
    | ⟨3, _⟩ => show i.val % 768 = i.val by omega)
  have R := (at_all m c (inputs m c) F _ hN).qc b d i
  have hh : headOf _ hN = h := Fin.ext hp
  rw [hh] at R
  unfold Value.G10
  rw [dif_pos hN, ← Value.outsAt0_sweep, e]
  exact R

theorem result10 : Value.G10 m c = ReferenceIdeal.Read.val_main_v188 (F := Ideal) (m ((c : Thread nD τ).loc main_arg0)) (m ((c : Thread nD τ).loc main_arg3)) := by
  funext j
  obtain ⟨b, h, d, i, rfl⟩ : ∃ b h d i, j = ix4 b h d i := ⟨j 0, j 1, j 2, j 3, ValueIdx.eq_ix4 j⟩
  rw [at10 m c F]
  have p : ReferenceIdeal.Read.idx_main_v188 (ix4 b h d i) = ix4 b i h d := funext fun a => by fin_cases a <;> rfl
  rw [ReferenceIdeal.Read.val_main_v188_apply, p, ReferenceIdeal.Read.val_main_v187_apply, RefRead.code_q (m ((c : Thread nD τ).loc main_arg0)) (m ((c : Thread nD τ).loc main_arg1)) (m ((c : Thread nD τ).loc main_arg2)) (m ((c : Thread nD τ).loc main_arg3))]
  exact (Ideal.hostConvertf_def (φ := .f32) _ .fp8e4m3).symm

theorem at11 (b : Fin 2) (h : Fin 5) (d : Fin 64) (i : Fin 768) : Value.G11 m c (ix4 b h d i) = codeK (Inputs.args m c) b i h d := by
  have hp : Value.pt11Of (ix4 b h d i) = 9 * h.val + 8 := by
    show 9 * (5 * (b.val / 2 - 0) + 1 * (h.val / 1 - 0) + 1 * (d.val / 64 - 0) + 1 * (i.val / 768 - 0)) + 8 = _
    omega
  have hN : Value.pt11Of (ix4 b h d i) < cfg0.N := lt_of_lt_of_eq (by omega : _ < 45) N_0.symm
  have e : Value.loc11Of (ix4 b h d i) = ix4 b 0 d i := funext fun a => Fin.ext (match a with
    | ⟨0, _⟩ => show b.val % 2 = b.val by omega
    | ⟨1, _⟩ => show h.val % 1 = 0 by omega
    | ⟨2, _⟩ => show d.val % 64 = d.val by omega
    | ⟨3, _⟩ => show i.val % 768 = i.val by omega)
  have R := (at_all m c (inputs m c) F _ hN).kc b d i
  have hh : grp (headOf _ hN) = h := Fin.ext (by show Value.pt11Of (ix4 b h d i) / 9 = h.val; omega)
  rw [hh] at R
  unfold Value.G11
  rw [dif_pos hN, ← Value.outsAt0_sweep, e]
  exact R

theorem result11 : Value.G11 m c = ReferenceIdeal.Read.val_main_v190 (F := Ideal) (m ((c : Thread nD τ).loc main_arg1)) (m ((c : Thread nD τ).loc main_arg3)) := by
  funext j
  obtain ⟨b, h, d, i, rfl⟩ : ∃ b h d i, j = ix4 b h d i := ⟨j 0, j 1, j 2, j 3, ValueIdx.eq_ix4 j⟩
  rw [at11 m c F]
  have p : ReferenceIdeal.Read.idx_main_v190 (ix4 b h d i) = ix4 b i h d := funext fun a => by fin_cases a <;> rfl
  rw [ReferenceIdeal.Read.val_main_v190_apply, p, ReferenceIdeal.Read.val_main_v189_apply, RefRead.code_k (m ((c : Thread nD τ).loc main_arg0)) (m ((c : Thread nD τ).loc main_arg1)) (m ((c : Thread nD τ).loc main_arg2)) (m ((c : Thread nD τ).loc main_arg3))]
  exact (Ideal.hostConvertf_def (φ := .f32) _ .fp8e4m3).symm

theorem at12 (b : Fin 2) (h : Fin 5) (d : Fin 64) (i : Fin 768) : Value.G12 m c (ix4 b h d i) = codeV (Inputs.args m c) b i h d := by
  have hp : Value.pt12Of (ix4 b h d i) = 9 * h.val + 8 := by
    show 9 * (5 * (b.val / 2 - 0) + 1 * (h.val / 1 - 0) + 1 * (d.val / 64 - 0) + 1 * (i.val / 768 - 0)) + 8 = _
    omega
  have hN : Value.pt12Of (ix4 b h d i) < cfg0.N := lt_of_lt_of_eq (by omega : _ < 45) N_0.symm
  have e : Value.loc12Of (ix4 b h d i) = ix4 b 0 d i := funext fun a => Fin.ext (match a with
    | ⟨0, _⟩ => show b.val % 2 = b.val by omega
    | ⟨1, _⟩ => show h.val % 1 = 0 by omega
    | ⟨2, _⟩ => show d.val % 64 = d.val by omega
    | ⟨3, _⟩ => show i.val % 768 = i.val by omega)
  have R := (at_all m c (inputs m c) F _ hN).vc b d i
  have hh : grp (headOf _ hN) = h := Fin.ext (by show Value.pt12Of (ix4 b h d i) / 9 = h.val; omega)
  rw [hh] at R
  unfold Value.G12
  rw [dif_pos hN, ← Value.outsAt0_sweep, e]
  exact R

theorem result12 : Value.G12 m c = ReferenceIdeal.Read.val_main_v192 (F := Ideal) (m ((c : Thread nD τ).loc main_arg2)) := by
  funext j
  obtain ⟨b, h, d, i, rfl⟩ : ∃ b h d i, j = ix4 b h d i := ⟨j 0, j 1, j 2, j 3, ValueIdx.eq_ix4 j⟩
  rw [at12 m c F]
  have p : ReferenceIdeal.Read.idx_main_v192 (ix4 b h d i) = ix4 b i h d := funext fun a => by fin_cases a <;> rfl
  rw [ReferenceIdeal.Read.val_main_v192_apply, p, ReferenceIdeal.Read.val_main_v191_apply, RefRead.code_v (m ((c : Thread nD τ).loc main_arg0)) (m ((c : Thread nD τ).loc main_arg1)) (m ((c : Thread nD τ).loc main_arg2)) (m ((c : Thread nD τ).loc main_arg3))]
  exact (Ideal.hostConvertf_def (φ := .f32) _ .fp8e4m3).symm

theorem at13 (b : Fin 2) (h : Fin 45) (d : Fin 64) (i : Fin 768) : Value.G13 m c (ix4 b h d i) = codeO (Inputs.args m c) b i h d := by
  have hp : Value.pt13Of (ix4 b h d i) = h.val := by
    show 45 * (b.val / 2 - 0) + 1 * (h.val / 1 - 0) + 1 * (d.val / 64 - 0) + 1 * (i.val / 768 - 0) = _
    omega
  have hN : Value.pt13Of (ix4 b h d i) < cfg0.N := lt_of_lt_of_eq (by omega : _ < 45) N_0.symm
  have e : Value.loc13Of (ix4 b h d i) = ix4 b 0 d i := funext fun a => Fin.ext (match a with
    | ⟨0, _⟩ => show b.val % 2 = b.val by omega
    | ⟨1, _⟩ => show h.val % 1 = 0 by omega
    | ⟨2, _⟩ => show d.val % 64 = d.val by omega
    | ⟨3, _⟩ => show i.val % 768 = i.val by omega)
  have R := (at_all m c (inputs m c) F _ hN).oc b d i
  have hh : headOf _ hN = h := Fin.ext hp
  rw [hh] at R
  unfold Value.G13
  rw [dif_pos hN, ← Value.outsAt0_sweep, e]
  exact R

theorem result13 : Value.G13 m c = ReferenceIdeal.Read.val_main_v194 (F := Ideal) (m ((c : Thread nD τ).loc main_arg0)) (m ((c : Thread nD τ).loc main_arg1)) (m ((c : Thread nD τ).loc main_arg2)) (m ((c : Thread nD τ).loc main_arg3)) := by
  funext j
  obtain ⟨b, h, d, i, rfl⟩ : ∃ b h d i, j = ix4 b h d i := ⟨j 0, j 1, j 2, j 3, ValueIdx.eq_ix4 j⟩
  rw [at13 m c F]
  have p : ReferenceIdeal.Read.idx_main_v194 (ix4 b h d i) = ix4 b i h d := funext fun a => by fin_cases a <;> rfl
  rw [ReferenceIdeal.Read.val_main_v194_apply, p, ReferenceIdeal.Read.val_main_v193_apply, RefRead.code_o (m ((c : Thread nD τ).loc main_arg0)) (m ((c : Thread nD τ).loc main_arg1)) (m ((c : Thread nD τ).loc main_arg2)) (m ((c : Thread nD τ).loc main_arg3)) F]
  exact (Ideal.hostConvertf_def (φ := .f32) _ .fp8e4m3).symm

end Cert.Final
end
-- ==== Proof.lean ====
/- # The certificate

The kernel and its idealization run to the end, leave their arguments as they were and every semaphore at zero; so does the
plain attention they are compared with. The idealization replaces three rounded constants by the numbers they stand for. Over
the reals, on finite queries and keys, the nine arrays the kernel leaves are those of the plain attention. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Given
public import proofs.«01_k».proof.Proof.Final
public import Idealize.ShloMosaic.Adequacy
public import Idealize.ShloMosaic.Init

@[expose] public section

noncomputable section

namespace Cert.Proof

open Idealize.ShloMosaic Idealize.SL.Sem

/-- The reference runs, keeps its arguments, and has no semaphore. -/
theorem frame_reference : Cert.quiescent_ReferenceIdeal := fun m ρ _ =>
  (θ_run Cert.ReferenceIdeal.defs _ _).mono (fun r h => ⟨fun c => (h c).2.2.2.2.2.2.2.2.2, sem_eq_zero_of_no_sems (by decide) r.2⟩)
    (Cert.ReferenceIdeal.Value.run (F := Ideal) m ρ)

/-- Each replaced constant is the number its rounding stands for. -/
theorem preserves : Cert.preserves_Kernel_KernelIdeal :=
  ⟨IdealRules.named_const.statement Cert.KernelIdeal.κ "score_log2e" .f32 0x3E38AA3B#32 _ rfl,
    IdealRules.named_const.statement Cert.KernelIdeal.κ "log2e" .f32 0x3FB8AA3B#32 _ rfl,
    IdealRules.named_const.statement Cert.KernelIdeal.κ "ln2" .f32 0x3F317218#32 _ rfl⟩

/-- The kernel's nine arrays and the reference's are equal. -/
theorem algebraic : Cert.algebraic_KernelIdeal_ReferenceIdeal_pre_finite (hPre_finite := Given.facts) := by
  intro m ρ m' ρ' hm hargs
  have F : ∀ c : Dev Cert.KernelIdeal.nD, Spec.Finite (Inputs.args m c) := fun c => Given.finite (hm c)
  refine ⟨fun c => Cert.ReferenceIdeal.Read.val_main_v182 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => Cert.ReferenceIdeal.Read.val_main_v183 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.ReferenceIdeal.Read.val_main_v184 (F := Ideal) (m ((c.tc : Thread Cert.KernelIdeal.nD Cert.KernelIdeal.τ).loc Cert.KernelIdeal.main_arg2)),
    fun c => Cert.ReferenceIdeal.Read.val_main_v185 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.ReferenceIdeal.Read.val_main_v186 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v188 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => Cert.ReferenceIdeal.Read.val_main_v190 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.ReferenceIdeal.Read.val_main_v192 (F := Ideal) (m ((c.tc : Thread Cert.KernelIdeal.nD Cert.KernelIdeal.τ).loc Cert.KernelIdeal.main_arg2)),
    fun c => Cert.ReferenceIdeal.Read.val_main_v194 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    (θ_run Cert.KernelIdeal.defs _ _).mono (fun r h c => ?_) (Cert.KernelIdeal.Value.run (F := Ideal) m ρ),
    (θ_run Cert.ReferenceIdeal.defs _ _).mono (fun r h c => ?_) (Cert.ReferenceIdeal.Value.run (F := Ideal) m' ρ')⟩
  · obtain ⟨h0, h1, h2, h3, h4, h5, h6, h7, h8, h9⟩ := h c
    exact ⟨h0.trans (Final.result5 m c (F c)), h1.trans (Final.result6 m c (F c)), h2.trans (Final.result7 m c (F c)), h3.trans (Final.result8 m c (F c)), h4.trans (Final.result9 m c (F c)), h5.trans (Final.result10 m c (F c)), h6.trans (Final.result11 m c (F c)), h7.trans (Final.result12 m c (F c)), h8.trans (Final.result13 m c (F c)), h9⟩
  · obtain ⟨h0, h1, h2, h3, h4, h5, h6, h7, h8, h9⟩ := h c
    obtain ⟨a0, a1, a2, a3⟩ := hargs c
    refine ⟨h0.trans ((Cert.ReferenceIdeal.Read.val_main_v182_eq (F := Ideal) (StableHlo.launchContents m' c)).trans ?_), h1.trans ((Cert.ReferenceIdeal.Read.val_main_v183_eq (F := Ideal) (StableHlo.launchContents m' c)).trans ?_), h2.trans ((Cert.ReferenceIdeal.Read.val_main_v184_eq (F := Ideal) (StableHlo.launchContents m' c)).trans ?_), h3.trans ((Cert.ReferenceIdeal.Read.val_main_v185_eq (F := Ideal) (StableHlo.launchContents m' c)).trans ?_), h4.trans ((Cert.ReferenceIdeal.Read.val_main_v186_eq (F := Ideal) (StableHlo.launchContents m' c)).trans ?_), h5.trans ((Cert.ReferenceIdeal.Read.val_main_v188_eq (F := Ideal) (StableHlo.launchContents m' c)).trans ?_), h6.trans ((Cert.ReferenceIdeal.Read.val_main_v190_eq (F := Ideal) (StableHlo.launchContents m' c)).trans ?_), h7.trans ((Cert.ReferenceIdeal.Read.val_main_v192_eq (F := Ideal) (StableHlo.launchContents m' c)).trans ?_), h8.trans ((Cert.ReferenceIdeal.Read.val_main_v194_eq (F := Ideal) (StableHlo.launchContents m' c)).trans ?_), h9⟩
    · show Cert.ReferenceIdeal.Read.val_main_v182 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) = _
      rw [a0, a3]
    · show Cert.ReferenceIdeal.Read.val_main_v183 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) = _
      rw [a1, a3]
    · show Cert.ReferenceIdeal.Read.val_main_v184 (F := Ideal) (m' ((c.tc : Thread Cert.ReferenceIdeal.nD Cert.ReferenceIdeal.τ).loc Cert.ReferenceIdeal.main_arg2)) = _
      rw [a2]
    · show Cert.ReferenceIdeal.Read.val_main_v185 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) = _
      rw [a0, a1, a3]
    · show Cert.ReferenceIdeal.Read.val_main_v186 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [a0, a1, a2, a3]
    · show Cert.ReferenceIdeal.Read.val_main_v188 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) = _
      rw [a0, a3]
    · show Cert.ReferenceIdeal.Read.val_main_v190 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) = _
      rw [a1, a3]
    · show Cert.ReferenceIdeal.Read.val_main_v192 (F := Ideal) (m' ((c.tc : Thread Cert.ReferenceIdeal.nD Cert.ReferenceIdeal.τ).loc Cert.ReferenceIdeal.main_arg2)) = _
      rw [a2]
    · show Cert.ReferenceIdeal.Read.val_main_v194 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [a0, a1, a2, a3]

theorem claim : Cert.Claim :=
  ⟨Cert.Kernel.Gen.facts, Cert.KernelIdeal.Gen.facts, Cert.ReferenceIdeal.Gen.facts, Given.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, algebraic⟩

end Cert.Proof

end
